-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_groups_fit : Cert.Pre_groups_fit.Facts] (m : (ℓ : Loc Cert.Kernel9.nD Cert.Kernel9.τ Cert.Kernel9.sig) → Buf (Elt Bits) ℓ) : Prop :=
  ∀ c : Dev Cert.Kernel9.nD,
    (Cert.Pre_groups_fit.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3))) = (fun _ => 1#1)

def Pre_Kernel9Ideal [hPre_groups_fit : Cert.Pre_groups_fit.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_groups_fit.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_groups_fit [hPre_groups_fit : Cert.Pre_groups_fit.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_groups_fit.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] [hPre_groups_fit : Cert.Pre_groups_fit.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] [hPre_groups_fit : Cert.Pre_groups_fit.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_groups_fit [hReference9Ideal : Cert.Reference9Ideal.Facts] [hPre_groups_fit : Cert.Pre_groups_fit.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_groups_fit m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] [hPre_groups_fit : Cert.Pre_groups_fit.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v31)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v31) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_finite : Cert.Pre_scores_finite.Facts) (hPre_groups_fit : Cert.Pre_groups_fit.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_groups_fit := hPre_groups_fit)
    ∧ quiescent_Kernel9Ideal (hKernel9Ideal := hKernel9Ideal) (hPre_groups_fit := hPre_groups_fit)
    ∧ quiescent_Reference9Ideal (hReference9Ideal := hReference9Ideal)
    ∧ quiescent_Reference9Ideal_pre_groups_fit (hReference9Ideal := hReference9Ideal) (hPre_groups_fit := hPre_groups_fit)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_groups_fit := hPre_groups_fit)
-- ==== Pre_groups_fit.lean ====
abbrev S36864x4096 : Shape := ⟨2, ![36864, 4096]⟩
abbrev S8 : Shape := ⟨1, ![8]⟩
abbrev S8x4096x5120 : Shape := ⟨3, ![8, 4096, 5120]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S36864x4096 .f32) (main_arg1 : IVec S8 32) (main_arg2 : FVec F S8x4096x5120 .f32) (main_arg3 : FVec F S8x4096x5120 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 36864#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 512#32
  let main_v5 : IVec S8 32 := broadcastInDim S8 ![] bcast_S_S8 main_c_1
  let main_v6 : IVec S8 32 := Host.remsi main_arg1 main_v5
  let main_c_2 : IVec S_ 32 := constantI S_ 32 0#32
  let main_v7 : IVec S8 32 := broadcastInDim S8 ![] bcast_S_S8 main_c_2
  let main_v8 : IVec S8 1 := cmpi .eq main_v6 main_v7
  let main_v9 : IVec S8 1 := andi main_v4 main_v8
  let main_c_3 : IVec S_ 32 := constantI S_ 32 0#32
  let main_v10 : IVec S_ 32 := (fun x v => Host.reduce IntOp.addi x v reducesTo_S8_S_d0 h_S_) main_arg1 main_c_3
  let main_c_4 : IVec S_ 32 := constantI S_ 32 0#32
  let main_v11 : IVec S_ 1 := cmpi .sgt main_v10 main_c_4
  let main_v12 : IVec S8 1 := broadcastInDim S8 ![] bcast_S_S8 main_v11
  let main_v13 : IVec S8 1 := andi main_v9 main_v12
  main_v13
-- ==== Pre_scores_finite.lean ====
abbrev S4x4096x32x128 : Shape := ⟨4, ![4, 4096, 32, 128]⟩
abbrev S4x4096x32x64 : Shape := ⟨4, ![4, 4096, 32, 64]⟩
abbrev S4x4096x64 : Shape := ⟨3, ![4, 4096, 64]⟩
abbrev S_ : Shape := ⟨0, ![]⟩
abbrev S4x4096x1x64 : Shape := ⟨4, ![4, 4096, 1, 64]⟩
abbrev S4x4096x32x192 : Shape := ⟨4, ![4, 4096, 32, 192]⟩

class Facts : Prop where
  bcast_S_S4x4096x32x128 : S_.BroadcastsInDim S4x4096x32x128 (![] : Fin 0 → Fin S4x4096x32x128.rank)
  bcast_S_S4x4096x32x64 : S_.BroadcastsInDim S4x4096x32x64 (![] : Fin 0 → Fin S4x4096x32x64.rank)
  bcast_S4x4096x64_S4x4096x1x64_0_1_3 : S4x4096x64.BroadcastsInDim S4x4096x1x64 (![0, 1, 3] : Fin 3 → Fin S4x4096x1x64.rank)
  bcast_S_S4x4096x1x64 : S_.BroadcastsInDim S4x4096x1x64 (![] : Fin 0 → Fin S4x4096x1x64.rank)
  bcast_S4x4096x1x64_S4x4096x32x64_0_1_2_3 : S4x4096x1x64.BroadcastsInDim S4x4096x32x64 (![0, 1, 2, 3] : Fin 4 → Fin S4x4096x32x64.rank)
  concatenates_S4x4096x32x128_S4x4096x32x64_S4x4096x32x192_d3 : Shape.Concatenates [S4x4096x32x128, S4x4096x32x64] S4x4096x32x192 3

variable [Facts]

def fn {F : FTy → Type} [FloatOps F] (main_arg0 : FVec F S4x4096x32x128 .f32) (main_arg1 : FVec F S4x4096x32x64 .f32) (main_arg2 : FVec F S4x4096x32x128 .f32) (main_arg3 : FVec F S4x4096x64 .f32) (main_arg4 : FVec F S4x4096x32x128 .f32) : IVec S4x4096x32x192 1 :=
  let main_v0 : FVec F S4x4096x32x128 .f32 := Host.absf main_arg0
  let main_cst : FVec F S_ .f32 := constant S_ .f32 0x7F800000#32
  let main_v1 : FVec F S4x4096x32x128 .f32 := broadcastInDim S4x4096x32x128 ![] bcast_S_S4x4096x32x128 main_cst
  let main_v2 : IVec S4x4096x32x128 1 := cmpf .olt main_v0 main_v1
  let main_v3 : FVec F S4x4096x32x128 .f32 := Host.absf main_arg2
  let main_cst_0 : FVec F S_ .f32 := constant S_ .f32 0x7F800000#32
  let main_v4 : FVec F S4x4096x32x128 .f32 := broadcastInDim S4x4096x32x128 ![] bcast_S_S4x4096x32x128 main_cst_0
  let main_v5 : IVec S4x4096x32x128 1 := cmpf .olt main_v3 main_v4
  let main_v6 : IVec S4x4096x32x128 1 := andi main_v2 main_v5
  let main_v7 : FVec F S4x4096x32x64 .f32 := Host.absf main_arg1
  let main_cst_1 : FVec F S_ .f32 := constant S_ .f32 0x7F800000#32
  let main_v8 : FVec F S4x4096x32x64 .f32 := broadcastInDim S4x4096x32x64 ![] bcast_S_S4x4096x32x64 main_cst_1
  let main_v9 : IVec S4x4096x32x64 1 := cmpf .olt main_v7 main_v8
  let main_v10 : FVec F S4x4096x1x64 .f32 := broadcastInDim S4x4096x1x64 ![0, 1, 3] bcast_S4x4096x64_S4x4096x1x64_0_1_3 main_arg3
  let main_v11 : FVec F S4x4096x1x64 .f32 := Host.absf main_v10
  let main_cst_2 : FVec F S_ .f32 := constant S_ .f32 0x7F800000#32
  let main_v12 : FVec F S4x4096x1x64 .f32 := broadcastInDim S4x4096x1x64 ![] bcast_S_S4x4096x1x64 main_cst_2
  let main_v13 : IVec S4x4096x1x64 1 := cmpf .olt main_v11 main_v12
  let main_v14 : IVec S4x4096x32x64 1 := broadcastInDim S4x4096x32x64 ![0, 1, 2, 3] bcast_S4x4096x1x64_S4x4096x32x64_0_1_2_3 main_v13
  let main_v15 : IVec S4x4096x32x64 1 := andi main_v9 main_v14
  let main_v16 : IVec S4x4096x32x192 1 := (fun a b => concatenate S4x4096x32x192 3 [⟨S4x4096x32x128, a⟩, ⟨S4x4096x32x64, b⟩] concatenates_S4x4096x32x128_S4x4096x32x64_S4x4096x32x192_d3) main_v6 main_v15
  main_v16
-- ==== Kernel.lean ====
abbrev S4x4096x32x128 : Shape := ⟨4, ![4, 4096, 32, 128]⟩
abbrev S4x4096x32x64 : Shape := ⟨4, ![4, 4096, 32, 64]⟩
abbrev S4x4096x64 : Shape := ⟨3, ![4, 4096, 64]⟩
abbrev S_ : Shape := ⟨0, ![]⟩
abbrev S16384x4096 : Shape := ⟨2, ![16384, 4096]⟩
abbrev S16384x2048 : Shape := ⟨2, ![16384, 2048]⟩
abbrev S16384x8192 : Shape := ⟨2, ![16384, 8192]⟩
abbrev S16384x64 : Shape := ⟨2, ![16384, 64]⟩
abbrev S16384x128 : Shape := ⟨2, ![16384, 128]⟩
abbrev S512x512 : Shape := ⟨2, ![512, 512]⟩
abbrev S512x256 : Shape := ⟨2, ![512, 256]⟩
abbrev S4096x512 : Shape := ⟨2, ![4096, 512]⟩
abbrev S4096x128 : Shape := ⟨2, ![4096, 128]⟩
abbrev S512x128 : Shape := ⟨2, ![512, 128]⟩
abbrev S512x1 : Shape := ⟨2, ![512, 1]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩

abbrev nBuf : Space → Nat
  | .hbm => 27
  | .vmem => 12
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x64, .f32⟩
  | .hbm, ⟨2, _⟩ => ⟨S4x4096x32x128, .f32⟩
  | .hbm, ⟨3, _⟩ => ⟨S4x4096x64, .f32⟩
  | .hbm, ⟨4, _⟩ => ⟨S4x4096x32x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .bf16⟩
  | .hbm, ⟨19, _⟩ => ⟨S16384x4096, .f32⟩
  | .hbm, ⟨20, _⟩ => ⟨S16384x4096, .f32⟩
  | .hbm, ⟨21, _⟩ => ⟨S16384x8192, .f32⟩
  | .hbm, ⟨22, _⟩ => ⟨S16384x8192, .bf16⟩
  | .hbm, ⟨23, _⟩ => ⟨S16384x64, .f32⟩
  | .hbm, ⟨24, _⟩ => ⟨S16384x128, .f32⟩
  | .hbm, ⟨25, _⟩ => ⟨S16384x128, .bf16⟩
  | .hbm, ⟨26, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S4096x128, .bf16⟩
  | .local _ .vmem, ⟨8, _⟩ => ⟨S4096x512, .bf16⟩
  | .local _ .vmem, ⟨9, _⟩ => ⟨S4096x512, .bf16⟩
  | .local _ .vmem, ⟨10, _⟩ => ⟨S512x512, .bf16⟩
  | .local _ .vmem, ⟨11, _⟩ => ⟨S512x512, .bf16⟩
  | _, _ => ⟨S4x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_34 : BitVec 32 := 1#32
  ⟨c0_i32_32, v89, c1_i32_34⟩
def k0_mult1 (i : grid0.Coords) (k0_t1 : Fin (k0_t1_loop i).trips) : BitVec 32 :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  v251
def k0_off1 (i : grid0.Coords) (k0_t1 : Fin (k0_t1_loop i).trips) : Fin 2 → Nat :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  let v252 : BitVec 32 := v251
  let v253 : Index := Scalar.indexCast v252
  let c0_81 : Index := 0#32
  ![v253.toNat, 0]
def k0_off2 (i : grid0.Coords) (k0_t1 : Fin (k0_t1_loop i).trips) : Fin 2 → Nat :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  let v252 : BitVec 32 := v251
  let v256 : Index := Scalar.indexCast v252
  let c0_82 : Index := 0#32
  ![v256.toNat, 0]
def k0_off3 (i : grid0.Coords) (k0_t1 : Fin (k0_t1_loop i).trips) : Fin 2 → Nat :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  let v252 : BitVec 32 := v251
  let v282 : Index := Scalar.indexCast v252
  let c128_88 : Index := 128#32
  ![v282.toNat, 128]
def k0_off4 (i : grid0.Coords) (k0_t1 : Fin (k0_t1_loop i).trips) : Fin 2 → Nat :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  let v252 : BitVec 32 := v251
  let v308 : Index := Scalar.indexCast v252
  let c256_94 : Index := 256#32
  ![v308.toNat, 256]
def k0_off5 (i : grid0.Coords) (k0_t1 : Fin (k0_t1_loop i).trips) : Fin 2 → Nat :=
  let c0_i32_32 : BitVec 32 := 0#32
  let c1_i32_34 : BitVec 32 := 1#32
  let arg9 : BitVec 32 := Scf.iv c0_i32_32 c1_i32_34 k0_t1
  let c1024_i32 : BitVec 32 := 1024#32
  let v251 : BitVec 32 := Scalar.muli arg9 c1024_i32
  let v252 : BitVec 32 := v251
  let v334 : Index := Scalar.indexCast v252
  let c384_100 : Index := 384#32
  ![v334.toNat, 384]
@[reducible] def k0_t2_loop (i : grid0.Coords) : Scf.Loop 32 :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let v86 : BitVec 32 := Scalar.addi c0_i32_32 v85
  let c1_i32_35 : BitVec 32 := 1#32
  ⟨v89, v86, c1_i32_35⟩
def k0_mult2 (i : grid0.Coords) (k0_t2 : Fin (k0_t2_loop i).trips) : BitVec 32 :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  v251
def k0_off6 (i : grid0.Coords) (k0_t2 : Fin (k0_t2_loop i).trips) : Fin 2 → Nat :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  let v252 : BitVec 32 := v251
  let v253 : Index := Scalar.indexCast v252
  let c0_81 : Index := 0#32
  ![v253.toNat, 0]
def k0_off7 (i : grid0.Coords) (k0_t2 : Fin (k0_t2_loop i).trips) : Fin 2 → Nat :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  let v252 : BitVec 32 := v251
  let v256 : Index := Scalar.indexCast v252
  let c0_82 : Index := 0#32
  ![v256.toNat, 0]
def k0_off8 (i : grid0.Coords) (k0_t2 : Fin (k0_t2_loop i).trips) : Fin 2 → Nat :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  let v252 : BitVec 32 := v251
  let v282 : Index := Scalar.indexCast v252
  let c128_88 : Index := 128#32
  ![v282.toNat, 128]
def k0_off9 (i : grid0.Coords) (k0_t2 : Fin (k0_t2_loop i).trips) : Fin 2 → Nat :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  let v252 : BitVec 32 := v251
  let v308 : Index := Scalar.indexCast v252
  let c256_94 : Index := 256#32
  ![v308.toNat, 256]
def k0_off10 (i : grid0.Coords) (k0_t2 : Fin (k0_t2_loop i).trips) : Fin 2 → Nat :=
  let c0_i32_32 : BitVec 32 := 0#32
  let arg2 : BitVec 32 := BitVec.ofNat 32 (i 2).val
  let c0_i32_27 : BitVec 32 := 0#32
  let v69 : BitVec 1 := Scalar.cmpi .sgt arg2 c0_i32_27
  let v70 : BitVec 32 := Scalar.extui v69
  let c0_i32_28 : BitVec 32 := 0#32
  let v71 : BitVec 1 := Scalar.cmpi .slt arg2 c0_i32_28
  let v72 : BitVec 32 := Scalar.extui v71
  let v73 : BitVec 32 := Scalar.subi v70 v72
  let c2_i32 : BitVec 32 := 2#32
  let c0_i32_29 : BitVec 32 := 0#32
  let v74 : BitVec 1 := Scalar.cmpi .sgt c2_i32 c0_i32_29
  let v75 : BitVec 32 := Scalar.extui v74
  let c0_i32_30 : BitVec 32 := 0#32
  let v76 : BitVec 1 := Scalar.cmpi .slt c2_i32 c0_i32_30
  let v77 : BitVec 32 := Scalar.extui v76
  let v78 : BitVec 32 := Scalar.subi v75 v77
  let v79 : BitVec 1 := Scalar.cmpi .ne v73 v78
  let v80 : BitVec 32 := Scalar.remsi arg2 c2_i32
  let c0_i32_31 : BitVec 32 := 0#32
  let v81 : BitVec 1 := Scalar.cmpi .ne v80 c0_i32_31
  let v82 : BitVec 1 := Scalar.andi v79 v81
  let v68 : BitVec 32 := Scalar.divsi arg2 c2_i32
  let c1_i32 : BitVec 32 := 1#32
  let v83 : BitVec 32 := Scalar.subi v68 c1_i32
  let v84 : BitVec 32 := Scalar.select v82 v83 v68
  let v85 : BitVec 32 := Scalar.subi v84 c0_i32_32
  let c1_i32_33 : BitVec 32 := 1#32
  let v87 : BitVec 32 := Scalar.divsi v85 c1_i32_33
  let v88 : BitVec 32 := Scalar.muli v87 c1_i32_33
  let v89 : BitVec 32 := Scalar.addi c0_i32_32 v88
  let c1_i32_35 : BitVec 32 := 1#32
  let arg9 : BitVec 32 := Scf.iv v89 c1_i32_35 k0_t2
  let c1024_i32 : BitVec 32 := 1024#32
  let v251 : BitVec 32 := Scalar.muli arg9 c1024_i32
  let v252 : BitVec 32 := v251
  let v334 : Index := Scalar.indexCast v252
  let c384_100 : Index := 384#32
  ![v334.toNat, 384]
def k0_cond1 (i : grid0.Coords) : BitVec 1 :=
  let arg2 : BitVec 32 := BitVec.ofNat 32 (i 2).val
  let c2_i32_36 : BitVec 32 := 2#32
  let c0_i32_37 : BitVec 32 := 0#32
  let v92 : BitVec 1 := Scalar.cmpi .eq c2_i32_36 c0_i32_37
  let c1_i32_38 : BitVec 32 := 1#32
  let v93 : BitVec 32 := Scalar.select v92 c1_i32_38 c2_i32_36
  let v94 : BitVec 32 := Scalar.remsi arg2 v93
  let c0_i32_40 : BitVec 32 := 0#32
  let v96 : BitVec 1 := Scalar.cmpi .slt v94 c0_i32_40
  let c0_i32_41 : BitVec 32 := 0#32
  let v97 : BitVec 1 := Scalar.cmpi .slt v93 c0_i32_41
  let v98 : BitVec 1 := Scalar.xori v96 v97
  let c0_i32_39 : BitVec 32 := 0#32
  let v95 : BitVec 1 := Scalar.cmpi .ne v94 c0_i32_39
  let v99 : BitVec 1 := Scalar.andi v98 v95
  let v100 : BitVec 32 := Scalar.addi v94 v93
  let v101 : BitVec 32 := Scalar.select v99 v100 v94
  let c1_i32_42 : BitVec 32 := 1#32
  let v102 : BitVec 1 := Scalar.cmpi .eq v101 c1_i32_42
  let v103 : BitVec 32 := Scalar.extui v102
  let c0_i32_43 : BitVec 32 := 0#32
  let v104 : BitVec 1 := Scalar.cmpi .ne v103 c0_i32_43
  v104

def k0_mult3 (i : grid0.Coords) : BitVec 32 :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  v252
def k0_off11 (i : grid0.Coords) : Fin 2 → Nat :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  let v253 : BitVec 32 := v252
  let v254 : Index := Scalar.indexCast v253
  let c0_83 : Index := 0#32
  ![v254.toNat, 0]
def k0_off12 (i : grid0.Coords) : Fin 2 → Nat :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  let v253 : BitVec 32 := v252
  let v257 : Index := Scalar.indexCast v253
  let c0_84 : Index := 0#32
  ![v257.toNat, 0]
def k0_off13 (i : grid0.Coords) : Fin 2 → Nat :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  let v253 : BitVec 32 := v252
  let v283 : Index := Scalar.indexCast v253
  let c128_90 : Index := 128#32
  ![v283.toNat, 128]
def k0_off14 (i : grid0.Coords) : Fin 2 → Nat :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  let v253 : BitVec 32 := v252
  let v309 : Index := Scalar.indexCast v253
  let c256_96 : Index := 256#32
  ![v309.toNat, 256]
def k0_off15 (i : grid0.Coords) : Fin 2 → Nat :=
  let arg2 : BitVec 32 := BitVec.ofNat 32 (i 2).val
  let c1_i32_81 : BitVec 32 := 1#32
  let v251 : BitVec 32 := Scalar.subi arg2 c1_i32_81
  let c512_i32_82 : BitVec 32 := 512#32
  let v252 : BitVec 32 := Scalar.muli v251 c512_i32_82
  let v253 : BitVec 32 := v252
  let v335 : Index := Scalar.indexCast v253
  let c384_102 : Index := 384#32
  ![v335.toNat, 384]
def k0_mult4 (i : grid0.Coords) : BitVec 32 :=
  let arg2 : BitVec 32 := BitVec.ofNat 32 (i 2).val
  let c512_i32 : BitVec 32 := 512#32
  let v106 : BitVec 32 := Scalar.muli arg2 c512_i32
  v106
def k0_off16 (i : grid0.Coords) : Fin 2 → Nat :=
  let arg2 : BitVec 32 := BitVec.ofNat 32 (i 2).val
  let c512_i32 : BitVec 32 := 512#32
  let v106 : BitVec 32 := Scalar.muli arg2 c512_i32
  let v107 : BitVec 32 := v106
  let v108 : Index := Scalar.indexCast v107
  let c0_44 : Index := 0#32
  ![v108.toNat, 0]
def k0_off17 (i : grid0.Coords) : Fin 2 → Nat :=
  let arg2 : BitVec 32 := BitVec.ofNat 32 (i 2).val
  let c512_i32 : BitVec 32 := 512#32
  let v106 : BitVec 32 := Scalar.muli arg2 c512_i32
  let v107 : BitVec 32 := v106
  let v111 : Index := Scalar.indexCast v107
  let c0_45 : Index := 0#32
  ![v111.toNat, 0]
def k0_off18 (i : grid0.Coords) : Fin 2 → Nat :=
  let arg2 : BitVec 32 := BitVec.ofNat 32 (i 2).val
  let c512_i32 : BitVec 32 := 512#32
  let v106 : BitVec 32 := Scalar.muli arg2 c512_i32
  let v107 : BitVec 32 := v106
  let v142 : Index := Scalar.indexCast v107
  let c128_52 : Index := 128#32
  ![v142.toNat, 128]
def k0_off19 (i : grid0.Coords) : Fin 2 → Nat :=
  let arg2 : BitVec 32 := BitVec.ofNat 32 (i 2).val
  let c512_i32 : BitVec 32 := 512#32
  let v106 : BitVec 32 := Scalar.muli arg2 c512_i32
  let v107 : BitVec 32 := v106
  let v173 : Index := Scalar.indexCast v107
  let c256_59 : Index := 256#32
  ![v173.toNat, 256]
def k0_off20 (i : grid0.Coords) : Fin 2 → Nat :=
  let arg2 : BitVec 32 := BitVec.ofNat 32 (i 2).val
  let c512_i32 : BitVec 32 := 512#32
  let v106 : BitVec 32 := Scalar.muli arg2 c512_i32
  let v107 : BitVec 32 := v106
  let v204 : Index := Scalar.indexCast v107
  let c384_66 : Index := 384#32
  ![v204.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "masked" => some ⊥
  | _ => none
-- ==== ReferenceIdeal.lean ====
abbrev S4x4096x32x128 : Shape := ⟨4, ![4, 4096, 32, 128]⟩
abbrev S4x4096x32x64 : Shape := ⟨4, ![4, 4096, 32, 64]⟩
abbrev S4x4096x64 : Shape := ⟨3, ![4, 4096, 64]⟩
abbrev S4x32x4096x4096 : Shape := ⟨4, ![4, 32, 4096, 4096]⟩
abbrev S4x4096x4096x32 : Shape := ⟨4, ![4, 4096, 4096, 32]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x32x4096 : Shape := ⟨3, ![4, 32, 4096]⟩
abbrev S4x32x4096x1 : Shape := ⟨4, ![4, 32, 4096, 1]⟩
abbrev S4x32x128x4096 : Shape := ⟨4, ![4, 32, 128, 4096]⟩
abbrev S16384x4096 : Shape := ⟨2, ![16384, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x32x128, .f32⟩
  | .hbm, ⟨1, _⟩ => ⟨S4x4096x32x64, .f32⟩
  | .hbm, ⟨2, _⟩ => ⟨S4x4096x32x128, .f32⟩
  | .hbm, ⟨3, _⟩ => ⟨S4x4096x64, .f32⟩
  | .hbm, ⟨4, _⟩ => ⟨S4x4096x32x128, .f32⟩
  | .hbm, ⟨5, _⟩ => ⟨S4x32x4096x4096, .f32⟩
  | .hbm, ⟨6, _⟩ => ⟨S4x4096x4096x32, .f32⟩
  | .hbm, ⟨7, _⟩ => ⟨S4x32x4096x4096, .f32⟩
  | .hbm, ⟨8, _⟩ => ⟨S4x32x4096x4096, .f32⟩
  | .hbm, ⟨9, _⟩ => ⟨S_, .f32⟩
  | .hbm, ⟨10, _⟩ => ⟨S4x32x4096x4096, .f32⟩
  | .hbm, ⟨11, _⟩ => ⟨S4x32x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S1x1x4096x4096, .i1⟩
  | .hbm, ⟨19, _⟩ => ⟨S_, .f32⟩
  | .hbm, ⟨20, _⟩ => ⟨S_, .f32⟩
  | .hbm, ⟨21, _⟩ => ⟨S4x32x4096x4096, .i1⟩
  | .hbm, ⟨22, _⟩ => ⟨S4x32x4096x4096, .f32⟩
  | .hbm, ⟨23, _⟩ => ⟨S4x32x4096x4096, .f32⟩
  | .hbm, ⟨24, _⟩ => ⟨S_, .f32⟩
  | .hbm, ⟨25, _⟩ => ⟨S4x32x4096, .f32⟩
  | .hbm, ⟨26, _⟩ => ⟨S_, .f32⟩
  | .hbm, ⟨27, _⟩ => ⟨S4x32x4096, .f32⟩
  | .hbm, ⟨28, _⟩ => ⟨S4x32x4096, .f32⟩
  | .hbm, ⟨29, _⟩ => ⟨S4x32x4096x1, .f32⟩
  | .hbm, ⟨30, _⟩ => ⟨S4x32x4096x4096, .f32⟩
  | .hbm, ⟨31, _⟩ => ⟨S4x32x4096x4096, .f32⟩
  | .hbm, ⟨32, _⟩ => ⟨S4x32x4096x4096, .f32⟩
  | .hbm, ⟨33, _⟩ => ⟨S_, .f32⟩
  | .hbm, ⟨34, _⟩ => ⟨S4x32x4096, .f32⟩
  | .hbm, ⟨35, _⟩ => ⟨S4x32x4096x1, .f32⟩
  | .hbm, ⟨36, _⟩ => ⟨S4x32x4096x4096, .f32⟩
  | .hbm, ⟨37, _⟩ => ⟨S4x32x4096x4096, .f32⟩
  | .hbm, ⟨38, _⟩ => ⟨S4x32x128x4096, .f32⟩
  | .hbm, ⟨39, _⟩ => ⟨S4x4096x32x128, .f32⟩
  | .hbm, ⟨40, _⟩ => ⟨S16384x4096, .f32⟩
  | .hbm, ⟨41, _⟩ => ⟨S16384x4096, .bf16⟩
  | _, _ => ⟨S4x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096x14336 : Shape := ⟨2, ![4096, 14336]⟩
abbrev S16384x4096 : Shape := ⟨2, ![16384, 4096]⟩
abbrev S16384x14336 : Shape := ⟨2, ![16384, 14336]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4096x14336, .f32⟩
  | .hbm, ⟨2, _⟩ => ⟨S4096x14336, .f32⟩
  | .hbm, ⟨3, _⟩ => ⟨S16384x4096, .f32⟩
  | .hbm, ⟨4, _⟩ => ⟨S16384x4096, .bf16⟩
  | .hbm, ⟨5, _⟩ => ⟨S4096x14336, .bf16⟩
  | .hbm, ⟨6, _⟩ => ⟨S4096x14336, .bf16⟩
  | .hbm, ⟨7, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x4096 : Shape := ⟨3, ![4, 4096, 4096]⟩
abbrev S4096x14336 : Shape := ⟨2, ![4096, 14336]⟩
abbrev S4x4096x14336 : Shape := ⟨3, ![4, 4096, 14336]⟩
abbrev S_ : Shape := ⟨0, ![]⟩
abbrev S16384x14336 : Shape := ⟨2, ![16384, 14336]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x14336, .f32⟩
  | .hbm, ⟨2, _⟩ => ⟨S4096x14336, .f32⟩
  | .hbm, ⟨3, _⟩ => ⟨S4x4096x14336, .f32⟩
  | .hbm, ⟨4, _⟩ => ⟨S4x4096x14336, .f32⟩
  | .hbm, ⟨5, _⟩ => ⟨S4x4096x14336, .f32⟩
  | .hbm, ⟨6, _⟩ => ⟨S_, .f32⟩
  | .hbm, ⟨7, _⟩ => ⟨S4x4096x14336, .f32⟩
  | .hbm, ⟨8, _⟩ => ⟨S4x4096x14336, .f32⟩
  | .hbm, ⟨9, _⟩ => ⟨S_, .f32⟩
  | .hbm, ⟨10, _⟩ => ⟨S4x4096x14336, .f32⟩
  | .hbm, ⟨11, _⟩ => ⟨S4x4096x14336, .f32⟩
  | .hbm, ⟨12, _⟩ => ⟨S4x4096x14336, .f32⟩
  | .hbm, ⟨13, _⟩ => ⟨S4x4096x14336, .f32⟩
  | .hbm, ⟨14, _⟩ => ⟨S4x4096x14336, .f32⟩
  | .hbm, ⟨15, _⟩ => ⟨S16384x14336, .f32⟩
  | .hbm, ⟨16, _⟩ => ⟨S16384x14336, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S4x4096x14336 : Shape := ⟨3, ![4, 4096, 14336]⟩
abbrev S14336x4096 : Shape := ⟨2, ![14336, 4096]⟩
abbrev S16384x14336 : Shape := ⟨2, ![16384, 14336]⟩
abbrev S16384x4096 : Shape := ⟨2, ![16384, 4096]⟩
abbrev S1024x3584 : Shape := ⟨2, ![1024, 3584]⟩
abbrev S3584x1024 : Shape := ⟨2, ![3584, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x14336, .f32⟩
  | .hbm, ⟨1, _⟩ => ⟨S14336x4096, .f32⟩
  | .hbm, ⟨2, _⟩ => ⟨S16384x14336, .f32⟩
  | .hbm, ⟨3, _⟩ => ⟨S16384x14336, .bf16⟩
  | .hbm, ⟨4, _⟩ => ⟨S14336x4096, .bf16⟩
  | .hbm, ⟨5, _⟩ => ⟨S16384x4096, .f32⟩
  | .local _ .vmem, ⟨0, _⟩ => ⟨S1024x3584, .bf16⟩
  | .local _ .vmem, ⟨1, _⟩ => ⟨S1024x3584, .bf16⟩
  | .local _ .vmem, ⟨2, _⟩ => ⟨S3584x1024, .bf16⟩
  | .local _ .vmem, ⟨3, _⟩ => ⟨S3584x1024, .bf16⟩
  | .local _ .vmem, ⟨4, _⟩ => ⟨S1024x1024, .f32⟩
  | .local _ .vmem, ⟨5, _⟩ => ⟨S1024x1024, .f32⟩
  | _, _ => ⟨S4x4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x14336 : Shape := ⟨3, ![4, 4096, 14336]⟩
abbrev S14336x4096 : Shape := ⟨2, ![14336, 4096]⟩
abbrev S4x4096x4096 : Shape := ⟨3, ![4, 4096, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x14336, .f32⟩
  | .hbm, ⟨1, _⟩ => ⟨S14336x4096, .f32⟩
  | .hbm, ⟨2, _⟩ => ⟨S4x4096x4096, .f32⟩
  | .hbm, ⟨3, _⟩ => ⟨S16384x4096, .f32⟩
  | _, _ => ⟨S4x4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S4x4096x4096 : Shape := ⟨3, ![4, 4096, 4096]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩
abbrev S1024x128 : Shape := ⟨2, ![1024, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .bf16⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x4096 : Shape := ⟨3, ![4, 4096, 4096]⟩
abbrev S4096x4096 : Shape := ⟨2, ![4096, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x4096, .f32⟩
  | .hbm, ⟨3, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4x4096x2048 : Shape := ⟨3, ![4, 4096, 2048]⟩
abbrev S4096x4096 : Shape := ⟨2, ![4096, 4096]⟩
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4096x4096, .f32⟩
  | .hbm, ⟨3, _⟩ => ⟨S4096x4096, .bf16⟩
  | .hbm, ⟨4, _⟩ => ⟨S16384x2048, .f32⟩
  | .hbm, ⟨5, _⟩ => ⟨S16384x2048, .bf16⟩
  | .hbm, ⟨6, _⟩ => ⟨S2048x4096, .bf16⟩
  | .hbm, ⟨7, _⟩ => ⟨S16384x2048, .f32⟩
  | .hbm, ⟨8, _⟩ => ⟨S16384x2048, .bf16⟩
  | .hbm, ⟨9, _⟩ => ⟨S2048x4096, .bf16⟩
  | .hbm, ⟨10, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x2048 : Shape := ⟨3, ![4, 4096, 2048]⟩
abbrev S4096x4096 : Shape := ⟨2, ![4096, 4096]⟩
abbrev S4x4096x4096 : Shape := ⟨3, ![4, 4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4096x4096, .f32⟩
  | .hbm, ⟨3, _⟩ => ⟨S4x4096x4096, .f32⟩
  | .hbm, ⟨4, _⟩ => ⟨S4x4096x4096, .f32⟩
  | .hbm, ⟨5, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096x12368 : Shape := ⟨2, ![4096, 12368]⟩
abbrev S12368x4096 : Shape := ⟨2, ![12368, 4096]⟩
abbrev S512x4096 : Shape := ⟨2, ![512, 4096]⟩
abbrev S2048x4096 : Shape := ⟨2, ![2048, 4096]⟩
abbrev S4608x4096 : Shape := ⟨2, ![4608, 4096]⟩
abbrev S16384x4096 : Shape := ⟨2, ![16384, 4096]⟩
abbrev S16384x4608 : Shape := ⟨2, ![16384, 4608]⟩
abbrev S1024x4096 : Shape := ⟨2, ![1024, 4096]⟩
abbrev S768x4096 : Shape := ⟨2, ![768, 4096]⟩
abbrev S1024x768 : Shape := ⟨2, ![1024, 768]⟩
abbrev S1024x128 : Shape := ⟨2, ![1024, 128]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x12368, .f32⟩
  | .hbm, ⟨2, _⟩ => ⟨S12368x4096, .f32⟩
  | .hbm, ⟨3, _⟩ => ⟨S512x4096, .f32⟩
  | .hbm, ⟨4, _⟩ => ⟨S2048x4096, .f32⟩
  | .hbm, ⟨5, _⟩ => ⟨S2048x4096, .f32⟩
  | .hbm, ⟨6, _⟩ => ⟨S4608x4096, .f32⟩
  | .hbm, ⟨7, _⟩ => ⟨S4608x4096, .bf16⟩
  | .hbm, ⟨8, _⟩ => ⟨S16384x4096, .f32⟩
  | .hbm, ⟨9, _⟩ => ⟨S16384x4096, .bf16⟩
  | .hbm, ⟨10, _⟩ => ⟨S16384x4608, .bf16⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1024x768, .bf16⟩
  | .local _ .vmem, ⟨5, _⟩ => ⟨S1024x768, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x4096 : Shape := ⟨3, ![4, 4096, 4096]⟩
abbrev S4096x12368 : Shape := ⟨2, ![4096, 12368]⟩
abbrev S4x4096x12368 : Shape := ⟨3, ![4, 4096, 12368]⟩
abbrev S4x4096x512 : Shape := ⟨3, ![4, 4096, 512]⟩
abbrev S4x4096x2048 : Shape := ⟨3, ![4, 4096, 2048]⟩
abbrev S4x4096x4608 : Shape := ⟨3, ![4, 4096, 4608]⟩
abbrev S16384x4608 : Shape := ⟨2, ![16384, 4608]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x12368, .f32⟩
  | .hbm, ⟨2, _⟩ => ⟨S4x4096x12368, .f32⟩
  | .hbm, ⟨3, _⟩ => ⟨S4x4096x512, .f32⟩
  | .hbm, ⟨4, _⟩ => ⟨S4x4096x2048, .f32⟩
  | .hbm, ⟨5, _⟩ => ⟨S4x4096x2048, .f32⟩
  | .hbm, ⟨6, _⟩ => ⟨S4x4096x4608, .f32⟩
  | .hbm, ⟨7, _⟩ => ⟨S16384x4608, .f32⟩
  | .hbm, ⟨8, _⟩ => ⟨S16384x4608, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4x4096x4096 : Shape := ⟨3, ![4, 4096, 4096]⟩
abbrev S4096x12368 : Shape := ⟨2, ![4096, 12368]⟩
abbrev S12368x4096 : Shape := ⟨2, ![12368, 4096]⟩
abbrev S2048x4096 : Shape := ⟨2, ![2048, 4096]⟩
abbrev S_ : Shape := ⟨0, ![]⟩
abbrev S127 : Shape := ⟨1, ![127]⟩
abbrev S1 : Shape := ⟨1, ![1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x256 : Shape := ⟨2, ![4096, 256]⟩
abbrev S4096x4096 : Shape := ⟨2, ![4096, 4096]⟩
abbrev S16384x4096 : Shape := ⟨2, ![16384, 4096]⟩
abbrev S1024x4096 : Shape := ⟨2, ![1024, 4096]⟩
abbrev S1024x256 : Shape := ⟨2, ![1024, 256]⟩
abbrev S1024x1024 : Shape := ⟨2, ![1024, 1024]⟩
abbrev S1024x128 : Shape := ⟨2, ![1024, 128]⟩

abbrev nBuf : Space → Nat
  | .hbm => 53
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S4096x12368, .f32⟩
  | .hbm, ⟨2, _⟩ => ⟨S12368x4096, .f32⟩
  | .hbm, ⟨3, _⟩ => ⟨S2048x4096, .f32⟩
  | .hbm, ⟨4, _⟩ => ⟨S2048x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S127, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S1, .f32⟩
  | .hbm, ⟨17, _⟩ => ⟨S_, .f32⟩
  | .hbm, ⟨18, _⟩ => ⟨S127, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S4096, .f32⟩
  | .hbm, ⟨35, _⟩ => ⟨S4096x1, .f32⟩
  | .hbm, ⟨36, _⟩ => ⟨S1x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x256, .f32⟩
  | .hbm, ⟨44, _⟩ => ⟨S4096x256, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S4096x4096, .f32⟩
  | .hbm, ⟨49, _⟩ => ⟨S4096x4096, .bf16⟩
  | .hbm, ⟨50, _⟩ => ⟨S16384x4096, .f32⟩
  | .hbm, ⟨51, _⟩ => ⟨S16384x4096, .bf16⟩
  | .hbm, ⟨52, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x1024, .bf16⟩
  | .local _ .vmem, ⟨11, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_cst_2 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4x4096x4096 : Shape := ⟨3, ![4, 4096, 4096]⟩
abbrev S4096x12368 : Shape := ⟨2, ![4096, 12368]⟩
abbrev S_ : Shape := ⟨0, ![]⟩
abbrev S127 : Shape := ⟨1, ![127]⟩
abbrev S1 : Shape := ⟨1, ![1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S4x4096x12368 : Shape := ⟨3, ![4, 4096, 12368]⟩
abbrev S4x4096x2048 : Shape := ⟨3, ![4, 4096, 2048]⟩
abbrev S4x4096x8x256 : Shape := ⟨4, ![4, 4096, 8, 256]⟩
abbrev S4x4096x8x128 : Shape := ⟨4, ![4, 4096, 8, 128]⟩
abbrev S16384x2048 : Shape := ⟨2, ![16384, 2048]⟩
abbrev S16384x4096 : Shape := ⟨2, ![16384, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x12368, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S127, .f32⟩
  | .hbm, ⟨10, _⟩ => ⟨S_, .f32⟩
  | .hbm, ⟨11, _⟩ => ⟨S127, .f32⟩
  | .hbm, ⟨12, _⟩ => ⟨S127, .f32⟩
  | .hbm, ⟨13, _⟩ => ⟨S1, .f32⟩
  | .hbm, ⟨14, _⟩ => ⟨S_, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S1, .f32⟩
  | .hbm, ⟨20, _⟩ => ⟨S127, .f32⟩
  | .hbm, ⟨21, _⟩ => ⟨S127, .f32⟩
  | .hbm, ⟨22, _⟩ => ⟨S127, .f32⟩
  | .hbm, ⟨23, _⟩ => ⟨S1, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S4096, .f32⟩
  | .hbm, ⟨32, _⟩ => ⟨S4096x1, .f32⟩
  | .hbm, ⟨33, _⟩ => ⟨S1x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S1x4096x1x128, .f32⟩
  | .hbm, ⟨40, _⟩ => ⟨S1x4096x1x128, .f32⟩
  | .hbm, ⟨41, _⟩ => ⟨S4x4096x12368, .f32⟩
  | .hbm, ⟨42, _⟩ => ⟨S4x4096x2048, .f32⟩
  | .hbm, ⟨43, _⟩ => ⟨S4x4096x8x256, .f32⟩
  | .hbm, ⟨44, _⟩ => ⟨S4x4096x2048, .f32⟩
  | .hbm, ⟨45, _⟩ => ⟨S4x4096x8x256, .f32⟩
  | .hbm, ⟨46, _⟩ => ⟨S4x4096x8x128, .f32⟩
  | .hbm, ⟨47, _⟩ => ⟨S4x4096x8x128, .f32⟩
  | .hbm, ⟨48, _⟩ => ⟨S4x4096x8x128, .f32⟩
  | .hbm, ⟨49, _⟩ => ⟨S4x4096x8x128, .f32⟩
  | .hbm, ⟨50, _⟩ => ⟨S4x4096x8x128, .f32⟩
  | .hbm, ⟨51, _⟩ => ⟨S4x4096x8x128, .f32⟩
  | .hbm, ⟨52, _⟩ => ⟨S4x4096x8x128, .f32⟩
  | .hbm, ⟨53, _⟩ => ⟨S4x4096x8x128, .f32⟩
  | .hbm, ⟨54, _⟩ => ⟨S4x4096x8x128, .f32⟩
  | .hbm, ⟨55, _⟩ => ⟨S4x4096x8x128, .f32⟩
  | .hbm, ⟨56, _⟩ => ⟨S4x4096x8x128, .f32⟩
  | .hbm, ⟨57, _⟩ => ⟨S4x4096x8x128, .f32⟩
  | .hbm, ⟨58, _⟩ => ⟨S4x4096x8x256, .f32⟩
  | .hbm, ⟨59, _⟩ => ⟨S4x4096x8x128, .f32⟩
  | .hbm, ⟨60, _⟩ => ⟨S4x4096x8x128, .f32⟩
  | .hbm, ⟨61, _⟩ => ⟨S4x4096x8x128, .f32⟩
  | .hbm, ⟨62, _⟩ => ⟨S4x4096x8x128, .f32⟩
  | .hbm, ⟨63, _⟩ => ⟨S4x4096x8x128, .f32⟩
  | .hbm, ⟨64, _⟩ => ⟨S4x4096x8x128, .f32⟩
  | .hbm, ⟨65, _⟩ => ⟨S4x4096x8x128, .f32⟩
  | .hbm, ⟨66, _⟩ => ⟨S4x4096x8x128, .f32⟩
  | .hbm, ⟨67, _⟩ => ⟨S4x4096x8x128, .f32⟩
  | .hbm, ⟨68, _⟩ => ⟨S4x4096x8x128, .f32⟩
  | .hbm, ⟨69, _⟩ => ⟨S4x4096x8x128, .f32⟩
  | .hbm, ⟨70, _⟩ => ⟨S4x4096x8x128, .f32⟩
  | .hbm, ⟨71, _⟩ => ⟨S4x4096x8x256, .f32⟩
  | .hbm, ⟨72, _⟩ => ⟨S_, .f32⟩
  | .hbm, ⟨73, _⟩ => ⟨S4x4096x8x256, .f32⟩
  | .hbm, ⟨74, _⟩ => ⟨S4x4096x8x256, .f32⟩
  | .hbm, ⟨75, _⟩ => ⟨S16384x2048, .f32⟩
  | .hbm, ⟨76, _⟩ => ⟨S16384x2048, .f32⟩
  | .hbm, ⟨77, _⟩ => ⟨S16384x4096, .f32⟩
  | .hbm, ⟨78, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Kernel8.lean ====
abbrev S4x4096x512 : Shape := ⟨3, ![4, 4096, 512]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S16384x512 : Shape := ⟨2, ![16384, 512]⟩
abbrev S16384x8192 : Shape := ⟨2, ![16384, 8192]⟩
abbrev S1024x512 : Shape := ⟨2, ![1024, 512]⟩
abbrev S512x2048 : Shape := ⟨2, ![512, 2048]⟩
abbrev S1024x2048 : Shape := ⟨2, ![1024, 2048]⟩
abbrev S1024x128 : Shape := ⟨2, ![1024, 128]⟩

abbrev nBuf : Space → Nat
  | .hbm => 12
  | .vmem => 6
  | .smem => 0
  | _ => 0

abbrev bufTy : (tb : Table) → Fin (tcTables nBuf tb) → BufTy
  | .hbm, ⟨0, _⟩ => ⟨S4x4096x512, .f32⟩
  | .hbm, ⟨1, _⟩ => ⟨S512x8192, .f32⟩
  | .hbm, ⟨2, _⟩ => ⟨S512x32x256, .f32⟩
  | .hbm, ⟨3, _⟩ => ⟨S512x32x128, .f32⟩
  | .hbm, ⟨4, _⟩ => ⟨S512x4096, .f32⟩
  | .hbm, ⟨5, _⟩ => ⟨S512x32x128, .f32⟩
  | .hbm, ⟨6, _⟩ => ⟨S512x4096, .f32⟩
  | .hbm, ⟨7, _⟩ => ⟨S512x8192, .f32⟩
  | .hbm, ⟨8, _⟩ => ⟨S512x8192, .bf16⟩
  | .hbm, ⟨9, _⟩ => ⟨S16384x512, .f32⟩
  | .hbm, ⟨10, _⟩ => ⟨S16384x512, .bf16⟩
  | .hbm, ⟨11, _⟩ => ⟨S16384x8192, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x512 : Shape := ⟨3, ![4, 4096, 512]⟩
abbrev S512x8192 : Shape := ⟨2, ![512, 8192]⟩
abbrev S4x4096x8192 : Shape := ⟨3, ![4, 4096, 8192]⟩
abbrev S4x4096x32x256 : Shape := ⟨4, ![4, 4096, 32, 256]⟩
abbrev S4x4096x32x128 : Shape := ⟨4, ![4, 4096, 32, 128]⟩
abbrev S16384x4096 : Shape := ⟨2, ![16384, 4096]⟩
abbrev S16384x8192 : Shape := ⟨2, ![16384, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x8192, .f32⟩
  | .hbm, ⟨2, _⟩ => ⟨S4x4096x8192, .f32⟩
  | .hbm, ⟨3, _⟩ => ⟨S4x4096x32x256, .f32⟩
  | .hbm, ⟨4, _⟩ => ⟨S4x4096x32x128, .f32⟩
  | .hbm, ⟨5, _⟩ => ⟨S4x4096x32x128, .f32⟩
  | .hbm, ⟨6, _⟩ => ⟨S16384x4096, .f32⟩
  | .hbm, ⟨7, _⟩ => ⟨S16384x4096, .f32⟩
  | .hbm, ⟨8, _⟩ => ⟨S16384x8192, .f32⟩
  | .hbm, ⟨9, _⟩ => ⟨S16384x8192, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel9.lean ====
abbrev S36864x4096 : Shape := ⟨2, ![36864, 4096]⟩
abbrev S8 : Shape := ⟨1, ![8]⟩
abbrev S8x4096x5120 : Shape := ⟨3, ![8, 4096, 5120]⟩
abbrev S_ : Shape := ⟨0, ![]⟩
abbrev S1 : Shape := ⟨1, ![1]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S36864x5120 : Shape := ⟨2, ![36864, 5120]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 56
  | .vmem => 10
  | .smem => 2
  | _ => 0

abbrev bufTy : (tb : Table) → Fin (tcTables nBuf tb) → BufTy
  | .hbm, ⟨0, _⟩ => ⟨S36864x4096, .f32⟩
  | .hbm, ⟨1, _⟩ => ⟨S8, .i32⟩
  | .hbm, ⟨2, _⟩ => ⟨S8x4096x5120, .f32⟩
  | .hbm, ⟨3, _⟩ => ⟨S8x4096x5120, .f32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S72, .i32⟩
  | .hbm, ⟨23, _⟩ => ⟨S_, .i32⟩
  | .hbm, ⟨24, _⟩ => ⟨S72, .i32⟩
  | .hbm, ⟨25, _⟩ => ⟨S72, .i32⟩
  | .hbm, ⟨26, _⟩ => ⟨S72x1, .i32⟩
  | .hbm, ⟨27, _⟩ => ⟨S1x8, .i32⟩
  | .hbm, ⟨28, _⟩ => ⟨S72x8, .i32⟩
  | .hbm, ⟨29, _⟩ => ⟨S72x8, .i32⟩
  | .hbm, ⟨30, _⟩ => ⟨S72x8, .i1⟩
  | .hbm, ⟨31, _⟩ => ⟨S72x8, .i32⟩
  | .hbm, ⟨32, _⟩ => ⟨S_, .i32⟩
  | .hbm, ⟨33, _⟩ => ⟨S72, .i32⟩
  | .hbm, ⟨34, _⟩ => ⟨S_, .i32⟩
  | .hbm, ⟨35, _⟩ => ⟨S72, .i32⟩
  | .hbm, ⟨36, _⟩ => ⟨S72, .i32⟩
  | .hbm, ⟨37, _⟩ => ⟨S72, .i32⟩
  | .hbm, ⟨38, _⟩ => ⟨S_, .i32⟩
  | .hbm, ⟨39, _⟩ => ⟨S72, .i32⟩
  | .hbm, ⟨40, _⟩ => ⟨S72, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S72, .i32⟩
  | .hbm, ⟨54, _⟩ => ⟨S36864x4096, .bf16⟩
  | .hbm, ⟨55, _⟩ => ⟨S36864x5120, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S72, .i32⟩
  | .local _ .smem, ⟨1, _⟩ => ⟨S1, .i32⟩
  | _, _ => ⟨S36864x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c : Ref sig .tc := ⟨.hbm, 16, rfl⟩
abbrev main_call1_v6 : Ref sig .tc := ⟨.hbm, 17, rfl⟩
abbrev main_call1_v7 : Ref sig .tc := ⟨.hbm, 18, rfl⟩
abbrev main_call1_c_0 : Ref sig .tc := ⟨.hbm, 19, rfl⟩
abbrev main_call1_v8 : Ref sig .tc := ⟨.hbm, 20, rfl⟩
abbrev main_v3 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call2_v0 : Ref sig .tc := ⟨.hbm, 53, rfl⟩
abbrev main_v30 : Ref sig .tc := ⟨.hbm, 54, rfl⟩
abbrev main_v31 : Ref sig .tc := ⟨.hbm, 55, rfl⟩
abbrev main_v29 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 72], ![false, false]⟩

abbrev pre0 : Pipeline.Prefetch sig := ⟨2, ![main_v29.idx, main_v4.idx], fun | 0 => main_v29.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v9 : Index := Scalar.indexCast arg1
  ![v9.toNat]
def k0_off3 (i : grid0.Coords) : Fin 1 → Nat :=
  let arg1 : BitVec 32 := BitVec.ofNat 32 (i 1).val
  let c1_i32 : BitVec 32 := 1#32
  let v11 : BitVec 32 := Scalar.subi arg1 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S36864x4096 : Shape := ⟨2, ![36864, 4096]⟩
abbrev S8 : Shape := ⟨1, ![8]⟩
abbrev S8x4096x5120 : Shape := ⟨3, ![8, 4096, 5120]⟩
abbrev S_ : Shape := ⟨0, ![]⟩
abbrev S36864 : Shape := ⟨1, ![36864]⟩
abbrev S1x36864 : Shape := ⟨2, ![1, 36864]⟩
abbrev S8x1 : Shape := ⟨2, ![8, 1]⟩
abbrev S8x36864 : Shape := ⟨2, ![8, 36864]⟩
abbrev S8x36864x1 : Shape := ⟨3, ![8, 36864, 1]⟩
abbrev S8x5120x36864 : Shape := ⟨3, ![8, 5120, 36864]⟩
abbrev S8x36864x5120 : Shape := ⟨3, ![8, 36864, 5120]⟩
abbrev S36864x5120 : Shape := ⟨2, ![36864, 5120]⟩

abbrev nBuf : Space → Nat
  | .hbm => 67
  | .vmem => 0
  | .smem => 0
  | _ => 0

abbrev bufTy : (tb : Table) → Fin (tcTables nBuf tb) → BufTy
  | .hbm, ⟨0, _⟩ => ⟨S36864x4096, .f32⟩
  | .hbm, ⟨1, _⟩ => ⟨S8, .i32⟩
  | .hbm, ⟨2, _⟩ => ⟨S8x4096x5120, .f32⟩
  | .hbm, ⟨3, _⟩ => ⟨S8x4096x5120, .f32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S36864, .i32⟩
  | .hbm, ⟨8, _⟩ => ⟨S1x36864, .i32⟩
  | .hbm, ⟨9, _⟩ => ⟨S8, .i32⟩
  | .hbm, ⟨10, _⟩ => ⟨S8x1, .i32⟩
  | .hbm, ⟨11, _⟩ => ⟨S8x36864, .i32⟩
  | .hbm, ⟨12, _⟩ => ⟨S8x36864, .i32⟩
  | .hbm, ⟨13, _⟩ => ⟨S8x36864, .i1⟩
  | .hbm, ⟨14, _⟩ => ⟨S1x36864, .i32⟩
  | .hbm, ⟨15, _⟩ => ⟨S8x1, .i32⟩
  | .hbm, ⟨16, _⟩ => ⟨S8x36864, .i32⟩
  | .hbm, ⟨17, _⟩ => ⟨S8x36864, .i32⟩
  | .hbm, ⟨18, _⟩ => ⟨S8x36864, .i1⟩
  | .hbm, ⟨19, _⟩ => ⟨S8x36864, .i1⟩
  | .hbm, ⟨20, _⟩ => ⟨S8x36864x1, .i1⟩
  | .hbm, ⟨21, _⟩ => ⟨S8x5120x36864, .f32⟩
  | .hbm, ⟨22, _⟩ => ⟨S8x36864x5120, .f32⟩
  | .hbm, ⟨23, _⟩ => ⟨S_, .i32⟩
  | .hbm, ⟨24, _⟩ => ⟨S_, .f32⟩
  | .hbm, ⟨25, _⟩ => ⟨S8x36864x5120, .i1⟩
  | .hbm, ⟨26, _⟩ => ⟨S8x36864x5120, .f32⟩
  | .hbm, ⟨27, _⟩ => ⟨S8x36864x5120, .f32⟩
  | .hbm, ⟨28, _⟩ => ⟨S_, .f32⟩
  | .hbm, ⟨29, _⟩ => ⟨S36864x5120, .f32⟩
  | .hbm, ⟨30, _⟩ => ⟨S36864x5120, .f32⟩
  | .hbm, ⟨31, _⟩ => ⟨S36864x5120, .f32⟩
  | .hbm, ⟨32, _⟩ => ⟨S_, .f32⟩
  | .hbm, ⟨33, _⟩ => ⟨S36864x5120, .f32⟩
  | .hbm, ⟨34, _⟩ => ⟨S36864x5120, .f32⟩
  | .hbm, ⟨35, _⟩ => ⟨S_, .f32⟩
  | .hbm, ⟨36, _⟩ => ⟨S36864x5120, .f32⟩
  | .hbm, ⟨37, _⟩ => ⟨S36864x5120, .f32⟩
  | .hbm, ⟨38, _⟩ => ⟨S36864x5120, .f32⟩
  | .hbm, ⟨39, _⟩ => ⟨S_, .i32⟩
  | .hbm, ⟨40, _⟩ => ⟨S_, .i32⟩
  | .hbm, ⟨41, _⟩ => ⟨S8, .i32⟩
  | .hbm, ⟨42, _⟩ => ⟨S36864, .i32⟩
  | .hbm, ⟨43, _⟩ => ⟨S1x36864, .i32⟩
  | .hbm, ⟨44, _⟩ => ⟨S8, .i32⟩
  | .hbm, ⟨45, _⟩ => ⟨S8x1, .i32⟩
  | .hbm, ⟨46, _⟩ => ⟨S8x36864, .i32⟩
  | .hbm, ⟨47, _⟩ => ⟨S8x36864, .i32⟩
  | .hbm, ⟨48, _⟩ => ⟨S8x36864, .i1⟩
  | .hbm, ⟨49, _⟩ => ⟨S1x36864, .i32⟩
  | .hbm, ⟨50, _⟩ => ⟨S8x1, .i32⟩
  | .hbm, ⟨51, _⟩ => ⟨S8x36864, .i32⟩
  | .hbm, ⟨52, _⟩ => ⟨S8x36864, .i32⟩
  | .hbm, ⟨53, _⟩ => ⟨S8x36864, .i1⟩
  | .hbm, ⟨54, _⟩ => ⟨S8x36864, .i1⟩
  | .hbm, ⟨55, _⟩ => ⟨S8x36864x1, .i1⟩
  | .hbm, ⟨56, _⟩ => ⟨S8x5120x36864, .f32⟩
  | .hbm, ⟨57, _⟩ => ⟨S8x36864x5120, .f32⟩
  | .hbm, ⟨58, _⟩ => ⟨S_, .i32⟩
  | .hbm, ⟨59, _⟩ => ⟨S_, .f32⟩
  | .hbm, ⟨60, _⟩ => ⟨S8x36864x5120, .i1⟩
  | .hbm, ⟨61, _⟩ => ⟨S8x36864x5120, .f32⟩
  | .hbm, ⟨62, _⟩ => ⟨S8x36864x5120, .f32⟩
  | .hbm, ⟨63, _⟩ => ⟨S_, .f32⟩
  | .hbm, ⟨64, _⟩ => ⟨S36864x5120, .f32⟩
  | .hbm, ⟨65, _⟩ => ⟨S36864x5120, .f32⟩
  | .hbm, ⟨66, _⟩ => ⟨S36864x5120, .bf16⟩
  | _, _ => ⟨S36864x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v19 : Ref sig .tc := ⟨.hbm, 38, rfl⟩
abbrev main_call3_call0_c : Ref sig .tc := ⟨.hbm, 39, rfl⟩
abbrev main_call3_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_0 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v37 : Ref sig .tc := ⟨.hbm, 62, rfl⟩
abbrev main_cst_1 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.KI.Run.lean ====
/- The body's triple, the proof data and the frame of `KernelIdeal`: the attention's one call, run once per case of its
   odd-block branch (a query block of odd number steps once more before its diagonal block). The two counted loops go
   through by the generated invariants. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body run, the odd-block branch taken (`runA`) and not (`runB`) -/

set_option maxHeartbeats 4000000 in
noncomputable def runA (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (hc : k0_cond1 i = 1#1) (x3 : Vec F S512x512 .bf16) (x4 : Vec F S512x256 .bf16) (x5 : Vec F S4096x512 .bf16) (x6 : Vec F S4096x128 .bf16) (x7 : Vec F S4096x512 .bf16) :
    { L : List (View.Piece (Elt F) S512x512 .bf16) //
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)
                ∗ (∃ W', owes (c : Thread nD τ) 0 W')) -∗ K ⟨⟩))
          ⊢ wp frame (wpE (defs₀ (F := F)) Variants.none c none) Set.univ
              (cc0_mla_attn i arg3 harg3 arg4 harg4 arg5 harg5 arg6 harg6 arg7 harg7 arg8 harg8) K } := by
  refine ⟨?_, fun W K => ?run⟩
  case run =>
    simp only [cc0_mla_attn_eq_skeleton]; unfold cc0_mla_attn_skel
    simp only [k0_part9_eq_skeleton]
    unfold owns
    iintro ⟨⟨%f3, %h3, H3⟩, ⟨%f4, %h4, H4⟩, ⟨%f5, %h5, H5⟩, ⟨%f6, %h6, H6⟩, ⟨%f7, %h7, H7⟩, ⟨%d8, %f8, -, H8⟩, HW, Hk⟩
    obtain rfl := harg3.eq_unread h3; obtain rfl := harg4.eq_unread h4; obtain rfl := harg5.eq_unread h5
    obtain rfl := harg6.eq_unread h6; obtain rfl := harg7.eq_unread h7
    sl_exec (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HW

set_option maxHeartbeats 4000000 in
noncomputable def runB (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (hc : ¬ k0_cond1 i = 1#1) (x3 : Vec F S512x512 .bf16) (x4 : Vec F S512x256 .bf16) (x5 : Vec F S4096x512 .bf16) (x6 : Vec F S4096x128 .bf16) (x7 : Vec F S4096x512 .bf16) :
    { L : List (View.Piece (Elt F) S512x512 .bf16) //
      ∀ (W : Waits sig Unit) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owes (c : Thread nD τ) 0 W
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L)
                ∗ (∃ W', owes (c : Thread nD τ) 0 W')) -∗ K ⟨⟩))
          ⊢ wp frame (wpE (defs₀ (F := F)) Variants.none c none) Set.univ
              (cc0_mla_attn i arg3 harg3 arg4 harg4 arg5 harg5 arg6 harg6 arg7 harg7 arg8 harg8) K } := by
  refine ⟨?_, fun W K => ?run⟩
  case run =>
    simp only [cc0_mla_attn_eq_skeleton]; unfold cc0_mla_attn_skel
    simp only [k0_part9_eq_skeleton]
    unfold owns
    iintro ⟨⟨%f3, %h3, H3⟩, ⟨%f4, %h4, H4⟩, ⟨%f5, %h5, H5⟩, ⟨%f6, %h6, H6⟩, ⟨%f7, %h7, H7⟩, ⟨%d8, %f8, -, H8⟩, HW, Hk⟩
    obtain rfl := harg3.eq_unread h3; obtain rfl := harg4.eq_unread h4; obtain rfl := harg5.eq_unread h5
    obtain rfl := harg6.eq_unread h6; obtain rfl := harg7.eq_unread h7
    sl_exec (disch := first | sl_exact hc)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact HW

/-! ## What the output's staging buffer holds after the body -/

variable (m : (ℓ : Loc nD τ sig) → Buf (Elt F) ℓ) (ρ : Dev nD → PrngReg)

theorem coverA (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (hc : k0_cond1 i = 1#1) (x3 : Vec F S512x512 .bf16) (x4 : Vec F S512x256 .bf16) (x5 : Vec F S4096x512 .bf16) (x6 : Vec F S4096x128 .bf16) (x7 : Vec F S4096x512 .bf16) (y : S512x512.Idx) :
    ∃ pc ∈ (runA c i arg3 harg3 arg4 harg4 arg5 harg5 arg6 harg6 arg7 harg7 arg8 harg8 hc x3 x4 x5 x6 x7).1, y ∈ pc.1.set :=
  View.cover_of_tiledL (runA c i arg3 harg3 arg4 harg4 arg5 harg5 arg6 harg6 arg7 harg7 arg8 harg8 hc x3 x4 x5 x6 x7).1 S512x128.size (by sl_kernel_rfl) y

theorem coverB (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (hc : ¬ k0_cond1 i = 1#1) (x3 : Vec F S512x512 .bf16) (x4 : Vec F S512x256 .bf16) (x5 : Vec F S4096x512 .bf16) (x6 : Vec F S4096x128 .bf16) (x7 : Vec F S4096x512 .bf16) (y : S512x512.Idx) :
    ∃ pc ∈ (runB c i arg3 harg3 arg4 harg4 arg5 harg5 arg6 harg6 arg7 harg7 arg8 harg8 hc x3 x4 x5 x6 x7).1, y ∈ pc.1.set :=
  View.cover_of_tiledL (runB c i arg3 harg3 arg4 harg4 arg5 harg5 arg6 harg6 arg7 harg7 arg8 harg8 hc x3 x4 x5 x6 x7).1 S512x128.size (by sl_kernel_rfl) y

/-- What the body leaves in the output's buffer `arg8`: its pieces read back, at the point's case. -/
def out (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16) : Vec F S512x512 .bf16 :=
  if hc : k0_cond1 i = 1#1 then
    arg8.view.read (Elt F) (arg8.view.writes (Elt F) arg8.view.junk (runA c i arg3 harg3 arg4 harg4 arg5 harg5 arg6 harg6 arg7 harg7 arg8 harg8 hc x3 x4 x5 x6 x7).1)
  else
    arg8.view.read (Elt F) (arg8.view.writes (Elt F) arg8.view.junk (runB c i arg3 harg3 arg4 harg4 arg5 harg5 arg6 harg6 arg7 harg7 arg8 harg8 hc x3 x4 x5 x6 x7).1)

/-- The body's triple at any point: the inputs as they were, the output's buffer at `out`. -/
theorem run (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16)
    (W : Waits sig Unit) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owes (c : Thread nD τ) 0 W
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out c i arg3 harg3 arg4 harg4 arg5 harg5 arg6 harg6 arg7 harg7 arg8 harg8 x3 x4 x5 x6 x7)
            ∗ (∃ W', owes (c : Thread nD τ) 0 W')) -∗ K ⟨⟩))
      ⊢ wp frame (wpE (defs₀ (F := F)) Variants.none c none) Set.univ
          (cc0_mla_attn i arg3 harg3 arg4 harg4 arg5 harg5 arg6 harg6 arg7 harg7 arg8 harg8) K := by
  unfold out
  by_cases hc : k0_cond1 i = 1#1
  · rw [dif_pos hc]
    iintro ⟨H3, H4, H5, H6, H7, H8, HW, Hk⟩
    iapply ((runA c i arg3 harg3 arg4 harg4 arg5 harg5 arg6 harg6 arg7 harg7 arg8 harg8 hc x3 x4 x5 x6 x7).2 W K)
    isplitl [H3]; · iexact H3
    isplitl [H4]; · iexact H4
    isplitl [H5]; · iexact H5
    isplitl [H6]; · iexact H6
    isplitl [H7]; · iexact H7
    isplitl [H8]; · iexact H8
    isplitl [HW]; · iexact HW
    iintro ⟨H3, H4, H5, H6, H7, ⟨%f, H8⟩, HW⟩
    iapply Hk
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverA c i arg3 harg3 arg4 harg4 arg5 harg5 arg6 harg6 arg7 harg7 arg8 harg8 hc x3 x4 x5 x6 x7)
    iexact HW
  · rw [dif_neg hc]
    iintro ⟨H3, H4, H5, H6, H7, H8, HW, Hk⟩
    iapply ((runB c i arg3 harg3 arg4 harg4 arg5 harg5 arg6 harg6 arg7 harg7 arg8 harg8 hc x3 x4 x5 x6 x7).2 W K)
    isplitl [H3]; · iexact H3
    isplitl [H4]; · iexact H4
    isplitl [H5]; · iexact H5
    isplitl [H6]; · iexact H6
    isplitl [H7]; · iexact H7
    isplitl [H8]; · iexact H8
    isplitl [HW]; · iexact HW
    iintro ⟨H3, H4, H5, H6, H7, ⟨%f, H8⟩, HW⟩
    iapply Hk
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (coverB c i arg3 harg3 arg4 harg4 arg5 harg5 arg6 harg6 arg7 harg7 arg8 harg8 hc x3 x4 x5 x6 x7)
    iexact HW

/-! ## The proof data, the body obligation, the frame -/

/-- The memrefs the body is handed at point `t`. -/
abbrev hs0 (t : Fin cfg0.N) := hstage0_0 ((cfg0.slots t 0).cast nbuf0_0)
abbrev hs1 (t : Fin cfg0.N) := hstage0_1 ((cfg0.slots t 1).cast nbuf0_1)
abbrev hs2 (t : Fin cfg0.N) := hstage0_2 ((cfg0.slots t 2).cast nbuf0_2)
abbrev hs3 (t : Fin cfg0.N) := hstage0_3 ((cfg0.slots t 3).cast nbuf0_3)
abbrev hs4 (t : Fin cfg0.N) := hstage0_4 ((cfg0.slots t 4).cast nbuf0_4)
abbrev hs5 (t : Fin cfg0.N) := hstage0_5 ((cfg0.slots t 5).cast nbuf0_5)

/-- The output's block after the body at point `t`. -/
def outAt (c : Dev nD) (t : Fin cfg0.N) : Vec F S512x512 .bf16 :=
  out c (grid0.coords t) (win0_0.stage (cfg0.slots t 0)) (hs0 t) (win0_1.stage (cfg0.slots t 1)) (hs1 t)
    (win0_2.stage (cfg0.slots t 2)) (hs2 t) (win0_3.stage (cfg0.slots t 3)) (hs3 t) (win0_4.stage (cfg0.slots t 4)) (hs4 t)
    (win0_5.stage (cfg0.slots t 5)) (hs5 t) (iblk m c 0 t) (iblk m c 1 t) (iblk m c 2 t) (iblk m c 3 t) (iblk m c 4 t)

/-- The share of each window's array: the two windows of the keys-and-values array halve it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0 m c) t, before0_1_of m (dats m 0 c) (A_eq m c 1) (after1 m c) t,
    before0_2_of m (dats m 0 c) (A_eq m c 2) (after2 m c) t, before0_3_of m (dats m 0 c) (A_eq m c 3) (after3 m c) t,
    before0_4_of m (dats m 0 c) (A_eq m c 4) (after4 m c) t]
  rw [after0, after1, after2, after3, after4, after5]
  rw [show (dats m 0 c).Φ t.succ = (dats m 0 c).Φ t.castSucc from rfl]
  unfold Dat.owesAt Pipeline.owesWithin
  rw [show (dats m 0 c).owed t.castSucc = 0 from rfl, show (dats m 0 c).owed t.succ = 0 from rfl]
  unfold outAt
  iintro ⟨HΦ, ⟨%W, -, HW⟩, ⟨%d0, H0⟩, ⟨%d1, H1⟩, ⟨%d2, H2⟩, ⟨%d3, H3⟩, ⟨%d4, H4⟩, ⟨%d5, H5⟩⟩
  iapply (run c (grid0.coords t) _ (hs0 t) _ (hs1 t) _ (hs2 t) _ (hs3 t) _ (hs4 t) _ (hs5 t)
    (iblk m c 0 t) (iblk m c 1 t) (iblk m c 2 t) (iblk m c 3 t) (iblk m c 4 t) W _)
  isplitl [H0]; · iexact H0
  isplitl [H1]; · iexact H1
  isplitl [H2]; · iexact H2
  isplitl [H3]; · iexact H3
  isplitl [H4]; · iexact H4
  isplitl [H5]; · iexists _; iexact H5
  isplitl [HW]; · iexact HW
  iintro ⟨H0, H1, H2, H3, H4, H5, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hΦ := fun _ _ => rfl)

/-- The frame, with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.KernelIdeal.Hand

end
-- ==== Proof.KI.Steps.lean ====
/- The steps of the online softmax as the kernel writes them, for blocks of 1024 and of 512 keys. -/
module

public import proofs.«01_k».proof.Proof.KI.Run

@[expose] public section

set_option maxRecDepth 16384

noncomputable section

namespace Cert.KernelIdeal.Steps

open Idealize.ShloMosaic Idealize.ShloMosaic.TcCoe Idealize.ShloMosaic.Tactic
open Cert.KernelIdeal Cert.KernelIdeal.Gen

variable {F : FTy → Type} [FloatOps F] [Named F]

/-! ## Blocks of 1024 keys -/

/-- The scores of the queries `q` against the keys of one block: their own part and the part all heads share. -/
def sc10 (q : FVec F S512x256 .bf16) (kr kn : Vec F S1024x128 .bf16) : FVec F S512x1024 .f32 :=
  matmul dot_S512x256_S1024x256_S512x1024_1_1_0_0_n_n none q
    (concatenate S1024x256 1 [⟨S1024x128, shapeCast S1024x128 kn shapeCasts_S1024x128_S1024x128⟩,
      ⟨S1024x128, shapeCast S1024x128 kr shapeCasts_S1024x128_S1024x128⟩] concatenates_S1024x128_S1024x128_S1024x256_d1)
    (constant S512x1024 .f32 0x00000000#32)

/-- The running maximum. -/
def m10 (s : FVec F S512x1024 .f32) (m : FVec F S512x1 .f32) : FVec F S512x1 .f32 :=
  maximumf m (shapeCast S512x1 (multiReduction .maximumf [1] S512 s 0xFF800000#32 reduces_S512x1024_S512 (.inl rfl) rfl)
    shapeCasts_S512_S512x1)

/-- What the state so far is rescaled by. -/
def al10 (s : FVec F S512x1024 .f32) (m : FVec F S512x1 .f32) : FVec F S512x1 .f32 := exp2 (subf m (m10 s m))

/-- The block's weights. -/
def p10 (s : FVec F S512x1024 .f32) (m : FVec F S512x1 .f32) : FVec F S512x1024 .bf16 :=
  exp2 (truncf .bf16 (subf s (broadcastTo S512x1024 (m10 s m) broadcasts_S512x1_S512x1024)) bitsLt_bf16_f32)

/-- The running sum of the weights. -/
def l10 (s : FVec F S512x1024 .f32) (m l : FVec F S512x1 .f32) : FVec F S512x1 .f32 :=
  addf (mulf (al10 s m) l) (shapeCast S512x1 (multiReduction .add [1] S512 (extf .f32 (p10 s m) bitsLt_bf16_f32)
    0x00000000#32 reduces_S512x1024_S512 (.inl rfl) rfl) shapeCasts_S512_S512x1)

/-- The running weighted sum of the values. -/
def a10 (s : FVec F S512x1024 .f32) (m : FVec F S512x1 .f32) (a : FVec F S512x128 .f32) (v : Vec F S1024x128 .bf16) :
    FVec F S512x128 .f32 :=
  addf (mulf (broadcastTo S512x128 (al10 s m) broadcasts_S512x1_S512x128) a)
    (matmul dot_S512x1024_S1024x128_S512x128_1_0_0_1_n_n none (p10 s m) (shapeCast S1024x128 v shapeCasts_S1024x128_S1024x128)
      (constant S512x128 .f32 0x00000000#32))

/-! ## Blocks of 512 keys -/

/-- The scores of the queries `q` against the keys of one block: their own part and the part all heads share. -/
def sc5 (q : FVec F S512x256 .bf16) (kr kn : Vec F S512x128 .bf16) : FVec F S512x512 .f32 :=
  matmul dot_S512x256_S512x256_S512x512_1_1_0_0_n_n none q
    (concatenate S512x256 1 [⟨S512x128, shapeCast S512x128 kn shapeCasts_S512x128_S512x128⟩,
      ⟨S512x128, shapeCast S512x128 kr shapeCasts_S512x128_S512x128⟩] concatenates_S512x128_S512x128_S512x256_d1)
    (constant S512x512 .f32 0x00000000#32)

/-- The running maximum. -/
def m5 (s : FVec F S512x512 .f32) (m : FVec F S512x1 .f32) : FVec F S512x1 .f32 :=
  maximumf m (shapeCast S512x1 (multiReduction .maximumf [1] S512 s 0xFF800000#32 reduces_S512x512_S512 (.inl rfl) rfl)
    shapeCasts_S512_S512x1)

/-- What the state so far is rescaled by. -/
def al5 (s : FVec F S512x512 .f32) (m : FVec F S512x1 .f32) : FVec F S512x1 .f32 := exp2 (subf m (m5 s m))

/-- The block's weights. -/
def p5 (s : FVec F S512x512 .f32) (m : FVec F S512x1 .f32) : FVec F S512x512 .bf16 :=
  exp2 (truncf .bf16 (subf s (broadcastTo S512x512 (m5 s m) broadcasts_S512x1_S512x512)) bitsLt_bf16_f32)

/-- The running sum of the weights. -/
def l5 (s : FVec F S512x512 .f32) (m l : FVec F S512x1 .f32) : FVec F S512x1 .f32 :=
  addf (mulf (al5 s m) l) (shapeCast S512x1 (multiReduction .add [1] S512 (extf .f32 (p5 s m) bitsLt_bf16_f32)
    0x00000000#32 reduces_S512x512_S512 (.inl rfl) rfl) shapeCasts_S512_S512x1)

/-- The running weighted sum of the values. -/
def a5 (s : FVec F S512x512 .f32) (m : FVec F S512x1 .f32) (a : FVec F S512x128 .f32) (v : Vec F S512x128 .bf16) :
    FVec F S512x128 .f32 :=
  addf (mulf (broadcastTo S512x128 (al5 s m) broadcasts_S512x1_S512x128) a)
    (matmul dot_S512x512_S512x128_S512x128_1_0_0_1_n_n none (p5 s m) (shapeCast S512x128 v shapeCasts_S512x128_S512x128)
      (constant S512x128 .f32 0x00000000#32))

/-! ## The diagonal block -/

/-- The scores of the diagonal block: a key after its query is masked. -/
def msk (s : FVec F S512x512 .f32) : FVec F S512x512 .f32 :=
  select (cmpi .sle (iota .tc S512x512 32 [1] iota_S512x512_d1_w32) (iota .tc S512x512 32 [0] iota_S512x512_d0_w32)) s
    (broadcast S512x512 (Named.named (F := F) κ "masked" 0xF149F2CA#32))

/-- The quotient stored. -/
def fin (l : FVec F S512x1 .f32) (a : FVec F S512x128 .f32) : FVec F S512x128 .bf16 :=
  truncf .bf16 (divf a (broadcastTo S512x128 l broadcasts_S512x1_S512x128)) bitsLt_bf16_f32

end Cert.KernelIdeal.Steps

end
-- ==== Proof.Online.lean ====
/- The online softmax over the extended reals: the running maximum, the running sum of `2^(s - max)` and the running
   weighted sum, carried block by block, are after any number of blocks those of the whole prefix; and their quotient is
   the softmax-weighted sum of the values, in base `e` of the scores the base-2 scores are a multiple of. -/
module

public import Idealize.ShloMosaic.PureOps.Ideal
public import Mathlib.Analysis.SpecialFunctions.Pow.Real

@[expose] public section

noncomputable section

namespace Cert.Attn

open Idealize.ShloMosaic Finset

/-- A nonnegative finite factor goes into a sum of extended reals. -/
theorem mul_sum_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [sum_insert ha, sum_insert ha, EReal.left_distrib_of_nonneg_of_ne_top h0 ht, ih]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, EReal.coe_add, ih]

/-- The carried state after the first `n` keys: `S` the scores, `V` one column of the values. -/
structure Inv (S V : ℕ → EReal) (n : ℕ) (m l a : EReal) : Prop where
  m_eq : m = (range n).sup S
  l_eq : l = ∑ k ∈ range n, Ideal.exp2 (S k - m)
  a_eq : a = ∑ k ∈ range n, Ideal.exp2 (S k - m) * V k

theorem Inv.zero (S V : ℕ → EReal) : Inv S V 0 ⊥ 0 0 := ⟨by simp, by simp, by simp⟩

theorem exp2_nonneg (x : EReal) (hx : x ≠ ⊤) : 0 ≤ Ideal.exp2 x ∧ Ideal.exp2 x ≠ ⊤ := by
  induction x with
  | bot => simp
  | top => exact absurd rfl hx
  | coe r =>
    rw [Ideal.exp2_coe]
    exact ⟨EReal.coe_nonneg.mpr (Real.rpow_nonneg (by norm_num) r), EReal.coe_ne_top _⟩

/-- Moving a term from one maximum to another. -/
theorem exp2_shift (s : EReal) (hs : s ≠ ⊤) (x y : ℝ) :
    Ideal.exp2 ((x : EReal) - (y : EReal)) * Ideal.exp2 (s - (x : EReal)) = Ideal.exp2 (s - (y : EReal)) := by
  induction s with
  | bot => simp
  | top => exact absurd rfl hs
  | coe r =>
    rw [← EReal.coe_sub, ← EReal.coe_sub, ← EReal.coe_sub, Ideal.exp2_coe, Ideal.exp2_coe, Ideal.exp2_coe, ← EReal.coe_mul]
    congr 1
    show (2 : ℝ) ^ (x - y) * (2 : ℝ) ^ (r - x) = (2 : ℝ) ^ (r - y)
    rw [← Real.rpow_add (by norm_num)]
    congr 1; ring

theorem sup_real (S : ℕ → EReal) (hS : ∀ k, S k ≠ ⊤) (h0 : ∃ x : ℝ, S 0 = x) (n : ℕ) (hn : 0 < n) :
    ∃ x : ℝ, (range n).sup S = x := by
  have ht : (range n).sup S < ⊤ := (Finset.sup_lt_iff bot_lt_top).mpr fun k _ => lt_top_iff_ne_top.mpr (hS k)
  have hb : (range n).sup S ≠ ⊥ := by
    obtain ⟨x, hx⟩ := h0
    intro h
    have h1 : S 0 ≤ (range n).sup S := Finset.le_sup (f := S) (mem_range.mpr hn)
    rw [h, hx, le_bot_iff] at h1
    exact EReal.coe_ne_bot x h1
  exact ⟨_, (EReal.coe_toReal ht.ne hb).symm⟩

theorem sup_range_add (S : ℕ → EReal) (n w : ℕ) :
    max ((range n).sup S) ((range w).sup fun i => S (n + i)) = (range (n + w)).sup S := by
  induction w with
  | zero => simp
  | succ w ih =>
    rw [← Nat.add_assoc, range_add_one, range_add_one, sup_insert, sup_insert, ← ih]
    exact max_left_comm _ _ _

theorem sub_ne_top (s : EReal) (hs : s ≠ ⊤) (y : ℝ) : s - (y : EReal) ≠ ⊤ := by
  induction s with
  | bot => simp
  | top => exact absurd rfl hs
  | coe r => rw [← EReal.coe_sub]; exact EReal.coe_ne_top _

/-- One block of `w` more keys. -/
theorem Inv.step {S V : ℕ → EReal} (hS : ∀ k, S k ≠ ⊤) (h0 : ∃ x : ℝ, S 0 = x) {n w : ℕ} (hw : 0 < w)
    {m l a m' l' a' : EReal} (h : Inv S V n m l a)
    (hm : m' = max m ((range w).sup fun i => S (n + i)))
    (hl : l' = Ideal.exp2 (m - m') * l + ∑ i ∈ range w, Ideal.exp2 (S (n + i) - m'))
    (ha : a' = Ideal.exp2 (m - m') * a + ∑ i ∈ range w, Ideal.exp2 (S (n + i) - m') * V (n + i)) :
    Inv S V (n + w) m' l' a' := by
  have hm' : m' = (range (n + w)).sup S := by rw [hm, h.m_eq, sup_range_add]
  obtain ⟨y, hy⟩ := sup_real S hS h0 (n + w) (by omega)
  rw [hy] at hm'
  rcases Nat.eq_zero_or_pos n with rfl | hn
  · have hmb : m = ⊥ := by rw [h.m_eq]; simp
    have hl0 : l = 0 := by rw [h.l_eq]; simp
    have ha0 : a = 0 := by rw [h.a_eq]; simp
    refine ⟨by rw [hm', hy], ?_, ?_⟩
    · rw [hl, hl0, mul_zero, zero_add]; simp
    · rw [ha, ha0, mul_zero, zero_add]; simp
  · obtain ⟨x, hx⟩ := sup_real S hS h0 n hn
    have hmx : m = (x : EReal) := h.m_eq.trans hx
    have hc := exp2_nonneg ((x : EReal) - (y : EReal)) (sub_ne_top _ (EReal.coe_ne_top x) y)
    refine ⟨by rw [hm', hy], ?_, ?_⟩
    · rw [hl, h.l_eq, hm', hmx, mul_sum_nonneg _ _ hc.1 hc.2, sum_range_add]
      congr 1
      exact sum_congr rfl fun k _ => exp2_shift _ (hS k) x y
    · rw [ha, h.a_eq, hm', hmx, mul_sum_nonneg _ _ hc.1 hc.2, sum_range_add]
      congr 1
      refine sum_congr rfl fun k _ => ?_
      rw [← mul_assoc, exp2_shift _ (hS k) x y]

/-- The base-2 scores `S` against the reference's `T`: both masked, or `S` is `T` over `log 2`. -/
def Scaled (S T : ℕ → EReal) : Prop :=
  ∀ k, (S k = ⊥ ∧ T k = ⊥) ∨ ∃ x : ℝ, T k = (x : EReal) ∧ S k = (((1 / Real.log 2) * x : ℝ) : EReal)

theorem Scaled.ne_top {S T : ℕ → EReal} (h : Scaled S T) (k : ℕ) : S k ≠ ⊤ ∧ T k ≠ ⊤ := by
  rcases h k with ⟨h1, h2⟩ | ⟨x, h1, h2⟩
  · rw [h1, h2]; exact ⟨bot_ne_top, bot_ne_top⟩
  · rw [h1, h2]; exact ⟨EReal.coe_ne_top _, EReal.coe_ne_top _⟩

theorem rpow_two_scaled (x : ℝ) : (2 : ℝ) ^ ((1 / Real.log 2) * x) = Real.exp x := by
  have hl : Real.log 2 ≠ 0 := (Real.log_pos (by norm_num)).ne'
  rw [Real.rpow_def_of_pos (by norm_num)]
  congr 1; field_simp

/-- The two sides' exponentials agree term by term. -/
theorem Scaled.exp_eq {S T : ℕ → EReal} (h : Scaled S T) (h0 : ∃ x : ℝ, T 0 = x) (n : ℕ) (hn : 0 < n) :
    ∃ y : ℝ, (range n).sup T = (y : EReal)
      ∧ ∀ k, Ideal.exp2 (S k - (range n).sup S) = Ideal.exp (T k - (range n).sup T) := by
  have hl : 0 < Real.log 2 := Real.log_pos (by norm_num)
  obtain ⟨y, hy⟩ := sup_real T (fun k => (h.ne_top k).2) h0 n hn
  have hs : (range n).sup S = (((1 / Real.log 2) * y : ℝ) : EReal) := by
    refine le_antisymm (Finset.sup_le fun k hk => ?_) ?_
    · rcases h k with ⟨h1, _⟩ | ⟨x, h1, h2⟩
      · rw [h1]; exact bot_le
      · have hle : T k ≤ (range n).sup T := Finset.le_sup (f := T) hk
        rw [h1, hy, EReal.coe_le_coe_iff] at hle
        rw [h2, EReal.coe_le_coe_iff]
        exact mul_le_mul_of_nonneg_left hle (by positivity)
    · obtain ⟨k, hk, hk'⟩ := Finset.exists_mem_eq_sup (range n) ⟨0, mem_range.mpr hn⟩ T
      have hle : S k ≤ (range n).sup S := Finset.le_sup (f := S) hk
      rcases h k with ⟨_, h2⟩ | ⟨x, h1, h2⟩
      · rw [hy, h2] at hk'; exact absurd hk' (EReal.coe_ne_bot y)
      · rw [hy, h1, EReal.coe_eq_coe_iff] at hk'
        rw [h2, ← hk'] at hle; exact hle
  refine ⟨y, hy, fun k => ?_⟩
  rw [hs, hy]
  rcases h k with ⟨h1, h2⟩ | ⟨x, h1, h2⟩
  · rw [h1, h2]; simp only [EReal.bot_sub, Ideal.exp2_bot]; rfl
  · rw [h1, h2, ← EReal.coe_sub, ← EReal.coe_sub, Ideal.exp2_coe]
    show ((((2 : ℝ) ^ ((1 / Real.log 2) * x - (1 / Real.log 2) * y) : ℝ)) : EReal) = ((Real.exp (x - y) : ℝ) : EReal)
    rw [← mul_sub, rpow_two_scaled]

theorem exp_nonneg_real (t : EReal) (ht : t ≠ ⊤) (y : ℝ) : ∃ r : ℝ, 0 ≤ r ∧ Ideal.exp (t - (y : EReal)) = (r : EReal) := by
  induction t with
  | bot => exact ⟨0, le_rfl, by rw [EReal.bot_sub]; rfl⟩
  | top => exact absurd rfl ht
  | coe x => exact ⟨Real.exp (x - y), (Real.exp_pos _).le, by rw [← EReal.coe_sub]; rfl⟩

/-- The quotient the kernel stores is the reference's sum of values by softmax weights; keys from `n` on are masked. -/
theorem Inv.final {S T V : ℕ → EReal} (hST : Scaled S T) (h0 : ∃ x : ℝ, T 0 = x) {n N : ℕ} (hn : 0 < n) (hN : n ≤ N)
    (hmask : ∀ k, n ≤ k → S k = ⊥) {m l a : EReal} (h : Inv S V n m l a) :
    Ideal.div a l = ∑ k ∈ range N, V k * Ideal.div (Ideal.exp (T k - (range N).sup T))
      (∑ k ∈ range N, Ideal.exp (T k - (range N).sup T)) := by
  obtain ⟨w, rfl⟩ := Nat.exists_eq_add_of_le hN
  have hsup : (range (n + w)).sup S = (range n).sup S := by
    rw [← sup_range_add]
    refine max_eq_left (Finset.sup_le fun i _ => ?_)
    rw [hmask _ (by omega)]; exact bot_le
  obtain ⟨y, hy, hexp⟩ := hST.exp_eq h0 (n + w) (by omega)
  have hS0 : ∃ x : ℝ, S 0 = x := by
    rcases hST 0 with ⟨_, h2⟩ | ⟨x, _, h2⟩
    · obtain ⟨x, hx⟩ := h0; rw [hx] at h2; exact absurd h2 (EReal.coe_ne_bot x)
    · exact ⟨_, h2⟩
  obtain ⟨x, hx⟩ := sup_real S (fun k => (hST.ne_top k).1) hS0 n hn
  have hz : ∀ i, Ideal.exp2 (S (n + i) - m) = 0 := fun i => by
    rw [hmask _ (by omega), h.m_eq, hx]; simp
  have hm : m = (range (n + w)).sup S := h.m_eq.trans hsup.symm
  have hl : l = ∑ k ∈ range (n + w), Ideal.exp (T k - (range (n + w)).sup T) := by
    rw [h.l_eq, sum_congr rfl fun k _ => (hexp k).symm, sum_range_add, ← hm]
    simp [hz]
  have ha : a = ∑ k ∈ range (n + w), Ideal.exp (T k - (range (n + w)).sup T) * V k := by
    simp only [← hexp]
    rw [h.a_eq, sum_range_add, ← hm]
    simp [hz]
  rw [← hl, ha]
  -- the denominator is a positive real
  choose e he0 he using fun k => exp_nonneg_real (T k) (hST.ne_top k).2 y
  have hlr : l = ((∑ k ∈ range (n + w), e k : ℝ) : EReal) := by
    rw [hl, hy, sum_congr rfl fun k _ => he k, coe_sum]
  have hpos : 0 < ∑ k ∈ range (n + w), e k := by
    obtain ⟨x0, hx0⟩ := h0
    refine lt_of_lt_of_le ?_ (Finset.single_le_sum (f := e) (fun k _ => he0 k) (mem_range.mpr (show 0 < n + w by omega)))
    have := he 0
    rw [hx0, ← EReal.coe_sub] at this
    have h2 : Real.exp (x0 - y) = e 0 := EReal.coe_eq_coe_iff.mp this
    rw [← h2]; exact Real.exp_pos _
  have hdiv : ∀ z : EReal, Ideal.div z l = z * (((∑ k ∈ range (n + w), e k)⁻¹ : ℝ) : EReal) := fun z => by
    rw [hlr]; unfold Ideal.div
    rw [if_neg (by rw [EReal.coe_eq_zero]; exact hpos.ne'), EReal.coe_inv]
  rw [hdiv, mul_comm, mul_sum_nonneg _ _ (EReal.coe_nonneg.mpr (inv_nonneg.mpr hpos.le)) (EReal.coe_ne_top _)]
  refine sum_congr rfl fun k _ => ?_
  rw [hdiv, ← mul_assoc, mul_comm (((_ : ℝ)) : EReal) _, mul_comm (V k)]

end Cert.Attn

end
-- ==== Proof.KI.Rows.lean ====
/- The steps read row by row over the extended reals: each carries the online softmax's invariant on. -/
module

public import proofs.«01_k».proof.Proof.KI.Steps
public import proofs.«01_k».proof.Proof.Online
public import Idealize.ShloMosaic.PureOps.Ideal.Laws
public import Idealize.ShloMosaic.Lib.Pointwise
public import Idealize.ShloMosaic.Lib.Claim

@[expose] public section

set_option maxRecDepth 16384

noncomputable section

namespace Cert.KernelIdeal.Steps

open Idealize.ShloMosaic Idealize.ShloMosaic.TcCoe Idealize.ShloMosaic.Tactic
open Cert.KernelIdeal Cert.KernelIdeal.Gen Cert.Attn

/-- The fold of `max` from `⊥` over a row is the supremum over its positions. -/
theorem fold_max_eq {w : ℕ} (g : Fin w → EReal) (G : ℕ → EReal) (h : ∀ k, g k = G k.val) :
    (Finset.univ : Finset (Fin w)).fold max (⊥ : EReal) g = (Finset.range w).sup G := by
  show (Finset.univ : Finset (Fin w)).sup g = _
  refine le_antisymm (Finset.sup_le fun k _ => ?_) (Finset.sup_le fun k hk => ?_)
  · rw [h k]; exact Finset.le_sup (f := G) (Finset.mem_range.mpr k.isLt)
  · have := Finset.le_sup (f := g) (Finset.mem_univ ⟨k, Finset.mem_range.mp hk⟩)
    rwa [h] at this

theorem sum_fin_eq {w : ℕ} (g : Fin w → EReal) (G : ℕ → EReal) (h : ∀ k, g k = G k.val) :
    ∑ k, g k = ∑ k ∈ Finset.range w, G k := by
  rw [Finset.sum_range]; exact Finset.sum_congr rfl fun k _ => h k

theorem neg_inf_f32 : Ideal.ofBits .f32 0xFF800000#32 = ⊥ := by
  simp [Ideal.ofBits, Ideal.ieee]

theorem masked_eq : (Named.named (F := Ideal) κ "masked" 0xF149F2CA#32 : Ideal .f32) = ⊥ :=
  IdealRules.named_const.ideal_named_scalar _ _ _ _ rfl

theorem column_apply (g : FVec Ideal S512 .f32) (r : Fin 512) :
    shapeCast S512x1 g shapeCasts_S512_S512x1 (ix2 r 0) = g (ix1 r) := by
  pointwise

theorem m10_apply (s : FVec Ideal S512x1024 .f32) (m : FVec Ideal S512x1 .f32) (r : Fin 512) (G : ℕ → EReal)
    (h : ∀ k : Fin 1024, s (ix2 r k) = G k.val) :
    m10 s m (ix2 r 0) = max (m (ix2 r 0)) ((Finset.range 1024).sup G) := by
  unfold m10
  rw [← fold_max_eq (fun k => s (ix2 r k)) G h, ← neg_inf_f32]
  show max (m (ix2 r 0)) (shapeCast S512x1 _ shapeCasts_S512_S512x1 (ix2 r 0)) = _
  rw [column_apply]
  refine (congrArg (max (m (ix2 r 0))) (Ideal.multiReduction_maximumf_single (a := (1 : Fin S512x1024.rank)) s 0xFF800000#32
    reduces_S512x1024_S512 (.inl rfl) rfl (ix1 r))).trans ?_
  congr 1
  refine congrArg (Finset.fold _ _ · _) (funext fun k => congrArg s (funext fun a => ?_))
  fin_cases a <;> rfl

theorem al10_apply (s : FVec Ideal S512x1024 .f32) (m : FVec Ideal S512x1 .f32) (r : Fin 512) :
    al10 s m (ix2 r 0) = Ideal.exp2 (m (ix2 r 0) - m10 s m (ix2 r 0)) := by
  unfold al10
  pointwise
  rfl

theorem p10_apply (s : FVec Ideal S512x1024 .f32) (m : FVec Ideal S512x1 .f32) (r : Fin 512) (k : Fin 1024) :
    p10 s m (ix2 r k) = Ideal.exp2 (s (ix2 r k) - m10 s m (ix2 r 0)) := by
  unfold p10
  pointwise
  rfl

theorem l10_apply (s : FVec Ideal S512x1024 .f32) (m l : FVec Ideal S512x1 .f32) (r : Fin 512) :
    l10 s m l (ix2 r 0) = al10 s m (ix2 r 0) * l (ix2 r 0) + ∑ k : Fin 1024, p10 s m (ix2 r k) := by
  unfold l10
  pointwise

theorem a10_apply (s : FVec Ideal S512x1024 .f32) (m : FVec Ideal S512x1 .f32) (a : FVec Ideal S512x128 .f32) (v : Vec Ideal S1024x128 .bf16)
    (r : Fin 512) (d : Fin 128) :
    a10 s m a v (ix2 r d) = al10 s m (ix2 r 0) * a (ix2 r d) + ∑ k : Fin 1024, p10 s m (ix2 r k) * v (ix2 k d) := by
  unfold a10
  pointwise

theorem m5_apply (s : FVec Ideal S512x512 .f32) (m : FVec Ideal S512x1 .f32) (r : Fin 512) (G : ℕ → EReal)
    (h : ∀ k : Fin 512, s (ix2 r k) = G k.val) :
    m5 s m (ix2 r 0) = max (m (ix2 r 0)) ((Finset.range 512).sup G) := by
  unfold m5
  rw [← fold_max_eq (fun k => s (ix2 r k)) G h, ← neg_inf_f32]
  show max (m (ix2 r 0)) (shapeCast S512x1 _ shapeCasts_S512_S512x1 (ix2 r 0)) = _
  rw [column_apply]
  refine (congrArg (max (m (ix2 r 0))) (Ideal.multiReduction_maximumf_single (a := (1 : Fin S512x512.rank)) s 0xFF800000#32
    reduces_S512x512_S512 (.inl rfl) rfl (ix1 r))).trans ?_
  congr 1
  refine congrArg (Finset.fold _ _ · _) (funext fun k => congrArg s (funext fun a => ?_))
  fin_cases a <;> rfl

theorem al5_apply (s : FVec Ideal S512x512 .f32) (m : FVec Ideal S512x1 .f32) (r : Fin 512) :
    al5 s m (ix2 r 0) = Ideal.exp2 (m (ix2 r 0) - m5 s m (ix2 r 0)) := by
  unfold al5
  pointwise
  rfl

theorem p5_apply (s : FVec Ideal S512x512 .f32) (m : FVec Ideal S512x1 .f32) (r : Fin 512) (k : Fin 512) :
    p5 s m (ix2 r k) = Ideal.exp2 (s (ix2 r k) - m5 s m (ix2 r 0)) := by
  unfold p5
  pointwise
  rfl

theorem l5_apply (s : FVec Ideal S512x512 .f32) (m l : FVec Ideal S512x1 .f32) (r : Fin 512) :
    l5 s m l (ix2 r 0) = al5 s m (ix2 r 0) * l (ix2 r 0) + ∑ k : Fin 512, p5 s m (ix2 r k) := by
  unfold l5
  pointwise

theorem a5_apply (s : FVec Ideal S512x512 .f32) (m : FVec Ideal S512x1 .f32) (a : FVec Ideal S512x128 .f32) (v : Vec Ideal S512x128 .bf16)
    (r : Fin 512) (d : Fin 128) :
    a5 s m a v (ix2 r d) = al5 s m (ix2 r 0) * a (ix2 r d) + ∑ k : Fin 512, p5 s m (ix2 r k) * v (ix2 k d) := by
  unfold a5
  pointwise

/-- The state of one head: for every row and every column of the values the online softmax's invariant. -/
def RInv (S V : ℕ → ℕ → EReal) (n : ℕ) (m l : FVec Ideal S512x1 .f32) (a : FVec Ideal S512x128 .f32) : Prop :=
  ∀ (r : Fin 512) (d : Fin 128), Inv (S r) (V d) n (m (ix2 r 0)) (l (ix2 r 0)) (a (ix2 r d))

theorem step10_inv {S V : ℕ → ℕ → EReal} (hS : ∀ (r : Fin 512) k, S r k ≠ ⊤) (h0 : ∀ r : Fin 512, ∃ x : ℝ, S r 0 = x) {n : ℕ}
    {m l : FVec Ideal S512x1 .f32} {a : FVec Ideal S512x128 .f32} (h : RInv S V n m l a)
    (s : FVec Ideal S512x1024 .f32) (v : Vec Ideal S1024x128 .bf16)
    (hs : ∀ (r : Fin 512) (k : Fin 1024), s (ix2 r k) = S r (n + k))
    (hv : ∀ (k : Fin 1024) (d : Fin 128), v (ix2 k d) = V d (n + k)) :
    RInv S V (n + 1024) (m10 s m) (l10 s m l) (a10 s m a v) := fun r d => by
  refine (h r d).step (hS r) (h0 r) (by norm_num) (m10_apply s m r _ (hs r)) ?_ ?_
  · rw [l10_apply, al10_apply]
    congr 1
    exact sum_fin_eq _ _ fun k => by rw [p10_apply, hs]
  · rw [a10_apply, al10_apply]
    congr 1
    exact sum_fin_eq _ _ fun k => by rw [p10_apply, hs, hv]

theorem step5_inv {S V : ℕ → ℕ → EReal} (hS : ∀ (r : Fin 512) k, S r k ≠ ⊤) (h0 : ∀ r : Fin 512, ∃ x : ℝ, S r 0 = x) {n : ℕ}
    {m l : FVec Ideal S512x1 .f32} {a : FVec Ideal S512x128 .f32} (h : RInv S V n m l a)
    (s : FVec Ideal S512x512 .f32) (v : Vec Ideal S512x128 .bf16)
    (hs : ∀ (r : Fin 512) (k : Fin 512), s (ix2 r k) = S r (n + k))
    (hv : ∀ (k : Fin 512) (d : Fin 128), v (ix2 k d) = V d (n + k)) :
    RInv S V (n + 512) (m5 s m) (l5 s m l) (a5 s m a v) := fun r d => by
  refine (h r d).step (hS r) (h0 r) (by norm_num) (m5_apply s m r _ (hs r)) ?_ ?_
  · rw [l5_apply, al5_apply]
    congr 1
    exact sum_fin_eq _ _ fun k => by rw [p5_apply, hs]
  · rw [a5_apply, al5_apply]
    congr 1
    exact sum_fin_eq _ _ fun k => by rw [p5_apply, hs, hv]

theorem sum_256 (f : Fin 256 → EReal) :
    ∑ t, f t = ∑ t : Fin 128, f (t.castLE (by norm_num)) + ∑ t : Fin 128, f ⟨128 + t, by omega⟩ :=
  Fin.sum_univ_add (a := 128) (b := 128) f

theorem sc10_apply (q : FVec Ideal S512x256 .bf16) (kr kn : Vec Ideal S1024x128 .bf16) (r : Fin 512) (k : Fin 1024) :
    sc10 q kr kn (ix2 r k) = ∑ t : Fin 128, q (ix2 r (t.castLE (by norm_num))) * kn (ix2 k t)
      + ∑ t : Fin 128, q (ix2 r ⟨128 + t, by omega⟩) * kr (ix2 k t) := by
  have e : sc10 q kr kn (ix2 r k) = ∑ t : Fin 256, q (ix2 r t) * concatenate S1024x256 1 [⟨S1024x128, shapeCast S1024x128 kn shapeCasts_S1024x128_S1024x128⟩,
      ⟨S1024x128, shapeCast S1024x128 kr shapeCasts_S1024x128_S1024x128⟩] concatenates_S1024x128_S1024x128_S1024x256_d1 (ix2 k t) := by
    unfold sc10
    generalize concatenate S1024x256 1 _ _ = z
    pointwise
  rw [e, sum_256]
  congr 1
  · refine Finset.sum_congr rfl fun t _ => congrArg _ ?_
    pointwise
    exact dif_pos t.isLt
  · refine Finset.sum_congr rfl fun t _ => congrArg _ ?_
    pointwise

theorem sc5_apply (q : FVec Ideal S512x256 .bf16) (kr kn : Vec Ideal S512x128 .bf16) (r : Fin 512) (k : Fin 512) :
    sc5 q kr kn (ix2 r k) = ∑ t : Fin 128, q (ix2 r (t.castLE (by norm_num))) * kn (ix2 k t)
      + ∑ t : Fin 128, q (ix2 r ⟨128 + t, by omega⟩) * kr (ix2 k t) := by
  have e : sc5 q kr kn (ix2 r k) = ∑ t : Fin 256, q (ix2 r t) * concatenate S512x256 1 [⟨S512x128, shapeCast S512x128 kn shapeCasts_S512x128_S512x128⟩,
      ⟨S512x128, shapeCast S512x128 kr shapeCasts_S512x128_S512x128⟩] concatenates_S512x128_S512x128_S512x256_d1 (ix2 k t) := by
    unfold sc5
    generalize concatenate S512x256 1 _ _ = z
    pointwise
  rw [e, sum_256]
  congr 1
  · refine Finset.sum_congr rfl fun t _ => congrArg _ ?_
    pointwise
    exact dif_pos t.isLt
  · refine Finset.sum_congr rfl fun t _ => congrArg _ ?_
    pointwise

theorem lanes_0_64 : ∀ t : Fin 128, (IntOp.andi (IntOp.cmpi CmpIPredicate.sge (BitVec.ofNat 32 t.val) 0#32)
    (IntOp.cmpi CmpIPredicate.slt (BitVec.ofNat 32 t.val) 64#32)) = if t.val < 64 then 1#1 else 0#1 := by
  decide +kernel

theorem pay80_lo (v9 v14 : Vec Ideal S512x128 .bf16) (r : Fin 512) (t : Fin 128) :
    k0_pay80 v9 v14 (ix2 r (t.castLE (by norm_num))) = v14 (ix2 r t) := by
  unfold k0_pay80
  pointwise
  exact dif_pos t.isLt

theorem pay80_hi (v9 v14 : Vec Ideal S512x128 .bf16) (r : Fin 512) (t : Fin 128) :
    k0_pay80 v9 v14 (ix2 r ⟨128 + t, by omega⟩) = if t.val < 64 then v9 (ix2 r t) else 0 := by
  unfold k0_pay80
  pointwise
  rw [lanes_0_64]
  by_cases h : t.val < 64
  · rw [if_pos h, if_pos h]; rfl
  · rw [if_neg h, if_neg h]; rfl

theorem lanes_64_128 : ∀ t : Fin 128, (IntOp.andi (IntOp.cmpi CmpIPredicate.sge (BitVec.ofNat 32 t.val) 64#32)
    (IntOp.cmpi CmpIPredicate.slt (BitVec.ofNat 32 t.val) 128#32)) = if 64 ≤ t.val then 1#1 else 0#1 := by
  decide +kernel

theorem pay81_lo (v9 v14 : Vec Ideal S512x128 .bf16) (r : Fin 512) (t : Fin 128) :
    k0_pay81 v9 v14 (ix2 r (t.castLE (by norm_num))) = v14 (ix2 r t) := by
  unfold k0_pay81
  pointwise
  exact dif_pos t.isLt

theorem pay81_hi (v9 v14 : Vec Ideal S512x128 .bf16) (r : Fin 512) (t : Fin 128) :
    k0_pay81 v9 v14 (ix2 r ⟨128 + t, by omega⟩) = if 64 ≤ t.val then v9 (ix2 r t) else 0 := by
  unfold k0_pay81
  pointwise
  rw [lanes_64_128]
  by_cases h : 64 ≤ t.val
  · rw [if_pos h, if_pos h]; rfl
  · rw [if_neg h, if_neg h]; rfl

theorem msk_apply (s : FVec Ideal S512x512 .f32) (r k : Fin 512) :
    msk s (ix2 r k) = if k ≤ r then s (ix2 r k) else ⊥ := by
  unfold msk
  rw [masked_eq]
  pointwise
  rw [WordCmp.cmpi_sle_ofNat (by omega) (by omega)]
  by_cases h : k ≤ r
  · rw [if_pos h, decide_eq_true (show k.val ≤ r.val from h)]; rfl
  · rw [if_neg h, decide_eq_false (show ¬ k.val ≤ r.val from h)]; rfl

theorem fin_apply (l : FVec Ideal S512x1 .f32) (a : FVec Ideal S512x128 .f32) (r : Fin 512) (d : Fin 128) :
    fin l a (ix2 r d) = Ideal.div (a (ix2 r d)) (l (ix2 r 0)) := by
  unfold fin
  pointwise

theorem init_inv (S V : ℕ → ℕ → EReal) : RInv S V 0 k0_pay85 k0_pay86 k0_pay87 := fun r d => by
  have e1 : (k0_pay85 (F := Ideal)) (ix2 r 0) = ⊥ := masked_eq
  have e2 : (k0_pay86 (F := Ideal)) (ix2 r 0) = 0 := by unfold k0_pay86; pointwise
  have e3 : (k0_pay87 (F := Ideal)) (ix2 r d) = 0 := by unfold k0_pay87; pointwise
  rw [e1, e2, e3]
  exact Inv.zero _ _

end Cert.KernelIdeal.Steps

end
-- ==== Proof.KI.Pieces.lean ====
/- One trip of the counted loop, and the pieces the body stores, as the steps of `Steps.lean`. -/
module

public import proofs.«01_k».proof.Proof.KI.Steps

@[expose] public section

set_option maxRecDepth 65536

noncomputable section

namespace Cert.KernelIdeal.Steps

open Idealize.ShloMosaic Idealize.ShloMosaic.TcCoe Idealize.ShloMosaic.Tactic
open Cert.KernelIdeal Cert.KernelIdeal.Gen Cert.KernelIdeal.Hand

variable {F : FTy → Type} [FloatOps F] [Named F]

/-- The state of the four heads: of each its maximum, its sum and its weighted sum. -/
abbrev Tup (F : FTy → Type) : Type :=
  FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32

/-- A block of 1024 keys on all four heads. -/
def step10 (q0 q1 q2 q3 : FVec F S512x256 .bf16) (kr kn0 kn1 kn2 kn3 v0 v1 v2 v3 : Vec F S1024x128 .bf16) (st : Tup F) : Tup F :=
  (m10 (sc10 q0 kr kn0) (st.1), l10 (sc10 q0 kr kn0) (st.1) (st.2.1), a10 (sc10 q0 kr kn0) (st.1) (st.2.2.1) v0,
    m10 (sc10 q1 kr kn1) (st.2.2.2.1), l10 (sc10 q1 kr kn1) (st.2.2.2.1) (st.2.2.2.2.1), a10 (sc10 q1 kr kn1) (st.2.2.2.1) (st.2.2.2.2.2.1) v1,
    m10 (sc10 q2 kr kn2) (st.2.2.2.2.2.2.1), l10 (sc10 q2 kr kn2) (st.2.2.2.2.2.2.1) (st.2.2.2.2.2.2.2.1), a10 (sc10 q2 kr kn2) (st.2.2.2.2.2.2.1) (st.2.2.2.2.2.2.2.2.1) v2,
    m10 (sc10 q3 kr kn3) (st.2.2.2.2.2.2.2.2.2.1), l10 (sc10 q3 kr kn3) (st.2.2.2.2.2.2.2.2.2.1) (st.2.2.2.2.2.2.2.2.2.2.1), a10 (sc10 q3 kr kn3) (st.2.2.2.2.2.2.2.2.2.1) (st.2.2.2.2.2.2.2.2.2.2.2) v3)

/-- A block of 512 keys on all four heads. -/
def step5 (q0 q1 q2 q3 : FVec F S512x256 .bf16) (kr kn0 kn1 kn2 kn3 v0 v1 v2 v3 : Vec F S512x128 .bf16) (st : Tup F) : Tup F :=
  (m5 (sc5 q0 kr kn0) (st.1), l5 (sc5 q0 kr kn0) (st.1) (st.2.1), a5 (sc5 q0 kr kn0) (st.1) (st.2.2.1) v0,
    m5 (sc5 q1 kr kn1) (st.2.2.2.1), l5 (sc5 q1 kr kn1) (st.2.2.2.1) (st.2.2.2.2.1), a5 (sc5 q1 kr kn1) (st.2.2.2.1) (st.2.2.2.2.2.1) v1,
    m5 (sc5 q2 kr kn2) (st.2.2.2.2.2.2.1), l5 (sc5 q2 kr kn2) (st.2.2.2.2.2.2.1) (st.2.2.2.2.2.2.2.1), a5 (sc5 q2 kr kn2) (st.2.2.2.2.2.2.1) (st.2.2.2.2.2.2.2.2.1) v2,
    m5 (sc5 q3 kr kn3) (st.2.2.2.2.2.2.2.2.2.1), l5 (sc5 q3 kr kn3) (st.2.2.2.2.2.2.2.2.2.1) (st.2.2.2.2.2.2.2.2.2.2.1), a5 (sc5 q3 kr kn3) (st.2.2.2.2.2.2.2.2.2.1) (st.2.2.2.2.2.2.2.2.2.2.2) v3)

/-- The pieces stored after the diagonal block. -/
def pieces (q0 q1 q2 q3 : FVec F S512x256 .bf16) (kr kn0 kn1 kn2 kn3 v0 v1 v2 v3 : Vec F S512x128 .bf16) (st : Tup F) :
    List (View.Piece (Elt F) S512x512 .bf16) :=
  [⟨Rect.unit (s := S512x512) ![0, 384] S512x128.size inb_S512x512_S512x128_0_384, fin (l5 (msk (sc5 q3 kr kn3)) (st.2.2.2.2.2.2.2.2.2.1) (st.2.2.2.2.2.2.2.2.2.2.1)) (a5 (msk (sc5 q3 kr kn3)) (st.2.2.2.2.2.2.2.2.2.1) (st.2.2.2.2.2.2.2.2.2.2.2) v3)⟩,
   ⟨Rect.unit (s := S512x512) ![0, 256] S512x128.size inb_S512x512_S512x128_0_256, fin (l5 (msk (sc5 q2 kr kn2)) (st.2.2.2.2.2.2.1) (st.2.2.2.2.2.2.2.1)) (a5 (msk (sc5 q2 kr kn2)) (st.2.2.2.2.2.2.1) (st.2.2.2.2.2.2.2.2.1) v2)⟩,
   ⟨Rect.unit (s := S512x512) ![0, 128] S512x128.size inb_S512x512_S512x128_0_128, fin (l5 (msk (sc5 q1 kr kn1)) (st.2.2.2.1) (st.2.2.2.2.1)) (a5 (msk (sc5 q1 kr kn1)) (st.2.2.2.1) (st.2.2.2.2.2.1) v1)⟩,
   ⟨Rect.unit (s := S512x512) ![0, 0] S512x128.size inb_S512x512_S512x128_0_0, fin (l5 (msk (sc5 q0 kr kn0)) (st.1) (st.2.1)) (a5 (msk (sc5 q0 kr kn0)) (st.1) (st.2.2.1) v0)⟩]

set_option maxHeartbeats 4000000 in
/-- One trip of the first loop is the step of 1024 keys, on the blocks it loads. -/
theorem trip1_eq (𝒱 : Variants) (c : Dev nD) (bd : Option 𝒱.V) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (arg2 : BitVec 32) (v16 v32 v48 v64 : FVec F S512x256 .bf16) (v65 v66 : FVec F S512x1 .f32) (v67 : FVec F S512x128 .f32) (c2_i32 v68 v73 v75 : BitVec 32) (v76 : BitVec 1) (X5 : BufTy.Contents (Elt F) arg5.view.ty) (X6 : BufTy.Contents (Elt F) arg6.view.ty) (X7 : BufTy.Contents (Elt F) arg7.view.ty)
    (k : Fin (k0_t1_loop i).trips) (st : Tup F) :
    (trip_k0_t1 (F := F) 𝒱 c bd i arg3 harg3 arg4 harg4 arg5 harg5 arg6 harg6 arg7 harg7 arg8 harg8 arg2 v16 v32 v48 v64 v65 v66 v67 c2_i32 v68 v73 v75 v76 X5 X6 X7 k).1 st
      = step10 v16 v32 v48 v64 (View.readAt (Elt F) arg6.view (Rect.unit (s := S4096x128) (k0_off1 i k) S1024x128.size (k0_off1_inb i k)).toLoadRect X6)
          (View.readAt (Elt F) arg5.view (Rect.unit (s := S4096x512) (k0_off2 i k) S1024x128.size (k0_off2_inb i k)).toLoadRect X5) (View.readAt (Elt F) arg5.view (Rect.unit (s := S4096x512) (k0_off3 i k) S1024x128.size (k0_off3_inb i k)).toLoadRect X5) (View.readAt (Elt F) arg5.view (Rect.unit (s := S4096x512) (k0_off4 i k) S1024x128.size (k0_off4_inb i k)).toLoadRect X5) (View.readAt (Elt F) arg5.view (Rect.unit (s := S4096x512) (k0_off5 i k) S1024x128.size (k0_off5_inb i k)).toLoadRect X5)
          (View.readAt (Elt F) arg7.view (Rect.unit (s := S4096x512) (k0_off2 i k) S1024x128.size (k0_off2_inb i k)).toLoadRect X7) (View.readAt (Elt F) arg7.view (Rect.unit (s := S4096x512) (k0_off3 i k) S1024x128.size (k0_off3_inb i k)).toLoadRect X7) (View.readAt (Elt F) arg7.view (Rect.unit (s := S4096x512) (k0_off4 i k) S1024x128.size (k0_off4_inb i k)).toLoadRect X7) (View.readAt (Elt F) arg7.view (Rect.unit (s := S4096x512) (k0_off5 i k) S1024x128.size (k0_off5_inb i k)).toLoadRect X7) st := by
  unfold trip_k0_t1
  rfl

/-- The state after the first loop, at `runA`. -/
def T1A (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16) (n : ℕ) : Tup F :=
  st_k0_t1 Variants.none c none i arg3 harg3 arg4 harg4 arg5 harg5 arg6 harg6 arg7 harg7 arg8 harg8 (BitVec.ofNat 32 ↑(i 2)) (runA.sl.v16 c arg3 harg3 arg4 harg4 x3 x4) (runA.sl.v32 c arg3 harg3 arg4 harg4 x3 x4) (runA.sl.r c arg3 harg3 arg4 harg4 x3 x4) (runA.sl.r_1 c arg3 harg3 arg4 harg4 x3 x4) k0_pay85 k0_pay86 k0_pay87 2#32 (runA.sl.v68 i) (runA.sl.v73 i) 1#32 0#1
    (harg5.unread x5) (harg6.unread x6) (harg7.unread x7)
    (k0_pay85, k0_pay86, k0_pay87, k0_pay85, k0_pay86, k0_pay87, k0_pay85, k0_pay86, k0_pay87, k0_pay85, k0_pay86, k0_pay87) n

/-- The state after the second loop (of no trips), at `runA`. -/
def T2A (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16) (st : Tup F) (n : ℕ) : Tup F :=
  st_k0_t2 Variants.none c none i arg3 harg3 arg4 harg4 arg5 harg5 arg6 harg6 arg7 harg7 arg8 harg8 (BitVec.ofNat 32 ↑(i 2)) (runA.sl.v16 c arg3 harg3 arg4 harg4 x3 x4) (runA.sl.v32 c arg3 harg3 arg4 harg4 x3 x4) (runA.sl.r c arg3 harg3 arg4 harg4 x3 x4) (runA.sl.r_1 c arg3 harg3 arg4 harg4 x3 x4) k0_pay85 k0_pay86 k0_pay87 2#32 (runA.sl.v68 i) (runA.sl.v73 i) 1#32 0#1 (runA.sl.v89 i)
    (harg5.unread x5) (harg6.unread x6) (harg7.unread x7)
    (st.1, st.2.1, st.2.2.1, st.2.2.2.1, st.2.2.2.2.1, st.2.2.2.2.2.1, st.2.2.2.2.2.2.1, st.2.2.2.2.2.2.2.1, st.2.2.2.2.2.2.2.2.1, st.2.2.2.2.2.2.2.2.2.1, st.2.2.2.2.2.2.2.2.2.2.1, st.2.2.2.2.2.2.2.2.2.2.2) n

set_option maxHeartbeats 8000000 in
/-- The pieces `runA` stores. -/
theorem runA_eq (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (hc : k0_cond1 i = 1#1) (x3 : Vec F S512x512 .bf16) (x4 : Vec F S512x256 .bf16) (x5 : Vec F S4096x512 .bf16) (x6 : Vec F S4096x128 .bf16) (x7 : Vec F S4096x512 .bf16) :
    (runA (F := F) c i arg3 harg3 arg4 harg4 arg5 harg5 arg6 harg6 arg7 harg7 arg8 harg8 hc x3 x4 x5 x6 x7).1
      = pieces (runA.sl.v16 c arg3 harg3 arg4 harg4 x3 x4) (runA.sl.v32 c arg3 harg3 arg4 harg4 x3 x4) (runA.sl.r c arg3 harg3 arg4 harg4 x3 x4) (runA.sl.r_1 c arg3 harg3 arg4 harg4 x3 x4) (View.readAt (Elt F) arg6.view (Rect.unit (s := S4096x128) (k0_off16 i) S512x128.size (k0_off16_inb i)).toLoadRect (harg6.unread x6))
          (View.readAt (Elt F) arg5.view (Rect.unit (s := S4096x512) (k0_off17 i) S512x128.size (k0_off17_inb i)).toLoadRect (harg5.unread x5)) (View.readAt (Elt F) arg5.view (Rect.unit (s := S4096x512) (k0_off18 i) S512x128.size (k0_off18_inb i)).toLoadRect (harg5.unread x5)) (View.readAt (Elt F) arg5.view (Rect.unit (s := S4096x512) (k0_off19 i) S512x128.size (k0_off19_inb i)).toLoadRect (harg5.unread x5)) (View.readAt (Elt F) arg5.view (Rect.unit (s := S4096x512) (k0_off20 i) S512x128.size (k0_off20_inb i)).toLoadRect (harg5.unread x5))
          (View.readAt (Elt F) arg7.view (Rect.unit (s := S4096x512) (k0_off17 i) S512x128.size (k0_off17_inb i)).toLoadRect (harg7.unread x7)) (View.readAt (Elt F) arg7.view (Rect.unit (s := S4096x512) (k0_off18 i) S512x128.size (k0_off18_inb i)).toLoadRect (harg7.unread x7)) (View.readAt (Elt F) arg7.view (Rect.unit (s := S4096x512) (k0_off19 i) S512x128.size (k0_off19_inb i)).toLoadRect (harg7.unread x7)) (View.readAt (Elt F) arg7.view (Rect.unit (s := S4096x512) (k0_off20 i) S512x128.size (k0_off20_inb i)).toLoadRect (harg7.unread x7))
          (step5 (runA.sl.v16 c arg3 harg3 arg4 harg4 x3 x4) (runA.sl.v32 c arg3 harg3 arg4 harg4 x3 x4) (runA.sl.r c arg3 harg3 arg4 harg4 x3 x4) (runA.sl.r_1 c arg3 harg3 arg4 harg4 x3 x4) (View.readAt (Elt F) arg6.view (Rect.unit (s := S4096x128) (k0_off11 i) S512x128.size (k0_off11_inb i hc)).toLoadRect (harg6.unread x6))
          (View.readAt (Elt F) arg5.view (Rect.unit (s := S4096x512) (k0_off12 i) S512x128.size (k0_off12_inb i hc)).toLoadRect (harg5.unread x5)) (View.readAt (Elt F) arg5.view (Rect.unit (s := S4096x512) (k0_off13 i) S512x128.size (k0_off13_inb i hc)).toLoadRect (harg5.unread x5)) (View.readAt (Elt F) arg5.view (Rect.unit (s := S4096x512) (k0_off14 i) S512x128.size (k0_off14_inb i hc)).toLoadRect (harg5.unread x5)) (View.readAt (Elt F) arg5.view (Rect.unit (s := S4096x512) (k0_off15 i) S512x128.size (k0_off15_inb i hc)).toLoadRect (harg5.unread x5))
          (View.readAt (Elt F) arg7.view (Rect.unit (s := S4096x512) (k0_off12 i) S512x128.size (k0_off12_inb i hc)).toLoadRect (harg7.unread x7)) (View.readAt (Elt F) arg7.view (Rect.unit (s := S4096x512) (k0_off13 i) S512x128.size (k0_off13_inb i hc)).toLoadRect (harg7.unread x7)) (View.readAt (Elt F) arg7.view (Rect.unit (s := S4096x512) (k0_off14 i) S512x128.size (k0_off14_inb i hc)).toLoadRect (harg7.unread x7)) (View.readAt (Elt F) arg7.view (Rect.unit (s := S4096x512) (k0_off15 i) S512x128.size (k0_off15_inb i hc)).toLoadRect (harg7.unread x7))
          (T2A c i arg3 harg3 arg4 harg4 arg5 harg5 arg6 harg6 arg7 harg7 arg8 harg8 x3 x4 x5 x6 x7 (T1A c i arg3 harg3 arg4 harg4 arg5 harg5 arg6 harg6 arg7 harg7 arg8 harg8 x3 x4 x5 x6 x7 (k0_t1_loop i).trips) (k0_t2_loop i).trips)) := by
  unfold runA
  rfl

/-- The state after the first loop, at `runB`. -/
def T1B (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16) (n : ℕ) : Tup F :=
  st_k0_t1 Variants.none c none i arg3 harg3 arg4 harg4 arg5 harg5 arg6 harg6 arg7 harg7 arg8 harg8 (BitVec.ofNat 32 ↑(i 2)) (runB.sl.v16 c arg3 harg3 arg4 harg4 x3 x4) (runB.sl.v32 c arg3 harg3 arg4 harg4 x3 x4) (runB.sl.r c arg3 harg3 arg4 harg4 x3 x4) (runB.sl.r_1 c arg3 harg3 arg4 harg4 x3 x4) k0_pay85 k0_pay86 k0_pay87 2#32 (runB.sl.v68 i) (runB.sl.v73 i) 1#32 0#1
    (harg5.unread x5) (harg6.unread x6) (harg7.unread x7)
    (k0_pay85, k0_pay86, k0_pay87, k0_pay85, k0_pay86, k0_pay87, k0_pay85, k0_pay86, k0_pay87, k0_pay85, k0_pay86, k0_pay87) n

/-- The state after the second loop (of no trips), at `runB`. -/
def T2B (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (x3 : Vec F S512x512 .bf16) (x4 : Vec F S512x256 .bf16) (x5 : Vec F S4096x512 .bf16) (x6 : Vec F S4096x128 .bf16) (x7 : Vec F S4096x512 .bf16) (st : Tup F) (n : ℕ) : Tup F :=
  st_k0_t2 Variants.none c none i arg3 harg3 arg4 harg4 arg5 harg5 arg6 harg6 arg7 harg7 arg8 harg8 (BitVec.ofNat 32 ↑(i 2)) (runB.sl.v16 c arg3 harg3 arg4 harg4 x3 x4) (runB.sl.v32 c arg3 harg3 arg4 harg4 x3 x4) (runB.sl.r c arg3 harg3 arg4 harg4 x3 x4) (runB.sl.r_1 c arg3 harg3 arg4 harg4 x3 x4) k0_pay85 k0_pay86 k0_pay87 2#32 (runB.sl.v68 i) (runB.sl.v73 i) 1#32 0#1 (runB.sl.v89 i)
    (harg5.unread x5) (harg6.unread x6) (harg7.unread x7)
    (st.1, st.2.1, st.2.2.1, st.2.2.2.1, st.2.2.2.2.1, st.2.2.2.2.2.1, st.2.2.2.2.2.2.1, st.2.2.2.2.2.2.2.1, st.2.2.2.2.2.2.2.2.1, st.2.2.2.2.2.2.2.2.2.1, st.2.2.2.2.2.2.2.2.2.2.1, st.2.2.2.2.2.2.2.2.2.2.2) n

set_option maxHeartbeats 8000000 in
/-- The pieces `runB` stores. -/
theorem runB_eq (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole) (hc : ¬ k0_cond1 i = 1#1) (x3 : Vec F S512x512 .bf16) (x4 : Vec F S512x256 .bf16) (x5 : Vec F S4096x512 .bf16) (x6 : Vec F S4096x128 .bf16) (x7 : Vec F S4096x512 .bf16) :
    (runB (F := F) c i arg3 harg3 arg4 harg4 arg5 harg5 arg6 harg6 arg7 harg7 arg8 harg8 hc x3 x4 x5 x6 x7).1
      = pieces (runB.sl.v16 c arg3 harg3 arg4 harg4 x3 x4) (runB.sl.v32 c arg3 harg3 arg4 harg4 x3 x4) (runB.sl.r c arg3 harg3 arg4 harg4 x3 x4) (runB.sl.r_1 c arg3 harg3 arg4 harg4 x3 x4) (View.readAt (Elt F) arg6.view (Rect.unit (s := S4096x128) (k0_off16 i) S512x128.size (k0_off16_inb i)).toLoadRect (harg6.unread x6))
          (View.readAt (Elt F) arg5.view (Rect.unit (s := S4096x512) (k0_off17 i) S512x128.size (k0_off17_inb i)).toLoadRect (harg5.unread x5)) (View.readAt (Elt F) arg5.view (Rect.unit (s := S4096x512) (k0_off18 i) S512x128.size (k0_off18_inb i)).toLoadRect (harg5.unread x5)) (View.readAt (Elt F) arg5.view (Rect.unit (s := S4096x512) (k0_off19 i) S512x128.size (k0_off19_inb i)).toLoadRect (harg5.unread x5)) (View.readAt (Elt F) arg5.view (Rect.unit (s := S4096x512) (k0_off20 i) S512x128.size (k0_off20_inb i)).toLoadRect (harg5.unread x5))
          (View.readAt (Elt F) arg7.view (Rect.unit (s := S4096x512) (k0_off17 i) S512x128.size (k0_off17_inb i)).toLoadRect (harg7.unread x7)) (View.readAt (Elt F) arg7.view (Rect.unit (s := S4096x512) (k0_off18 i) S512x128.size (k0_off18_inb i)).toLoadRect (harg7.unread x7)) (View.readAt (Elt F) arg7.view (Rect.unit (s := S4096x512) (k0_off19 i) S512x128.size (k0_off19_inb i)).toLoadRect (harg7.unread x7)) (View.readAt (Elt F) arg7.view (Rect.unit (s := S4096x512) (k0_off20 i) S512x128.size (k0_off20_inb i)).toLoadRect (harg7.unread x7))
          (T2B c i arg3 harg3 arg4 harg4 arg5 harg5 arg6 harg6 arg7 harg7 arg8 harg8 x3 x4 x5 x6 x7 (T1B c i arg3 harg3 arg4 harg4 arg5 harg5 arg6 harg6 arg7 harg7 arg8 harg8 x3 x4 x5 x6 x7 (k0_t1_loop i).trips) (k0_t2_loop i).trips) := by
  unfold runB
  rfl

end Cert.KernelIdeal.Steps

end
-- ==== Proof.KI.Heads.lean ====
/- The four heads of one block of queries, over the extended reals: which entries of the staged blocks a score and a value
   are, and that every step of the loop carries the four heads' invariant on. -/
module

public import proofs.«01_k».proof.Proof.KI.Rows
public import proofs.«01_k».proof.Proof.KI.Pieces

@[expose] public section

set_option maxRecDepth 16384

noncomputable section

namespace Cert.KernelIdeal.Steps

open Idealize.ShloMosaic Idealize.ShloMosaic.TcCoe Idealize.ShloMosaic.Tactic
open Cert.KernelIdeal Cert.KernelIdeal.Gen Cert.Attn

/-- Rows of a block of 512, and keys, taken from natural numbers. -/
def rr (r : ℕ) : Fin 512 := ⟨r % 512, Nat.mod_lt _ (by norm_num)⟩
def kk (k : ℕ) : Fin 4096 := ⟨k % 4096, Nat.mod_lt _ (by norm_num)⟩
def dd (d : ℕ) : Fin 128 := ⟨d % 128, Nat.mod_lt _ (by norm_num)⟩

theorem rr_val (r : Fin 512) : rr r = r := Fin.ext (Nat.mod_eq_of_lt r.isLt)
theorem dd_val (d : Fin 128) : dd d = d := Fin.ext (Nat.mod_eq_of_lt d.isLt)
theorem kk_of_lt {k : ℕ} (h : k < 4096) : kk k = ⟨k, h⟩ := Fin.ext (Nat.mod_eq_of_lt h)

/-- Head `j`'s lane `t` of the queries, keys and values without rotation, of the rotated queries, and of the rotated key
(which is there twice). -/
def col (j : Fin 4) (t : Fin 128) : Fin 512 := ⟨128 * j + t, by omega⟩
def colq (j : Fin 4) (t : Fin 64) : Fin 256 := ⟨64 * j + t, by omega⟩
def colk (j : Fin 4) (t : Fin 64) : Fin 128 := ⟨64 * (j % 2) + t, by omega⟩

section
variable (x3 : Vec Ideal S512x512 .bf16) (x4 : Vec Ideal S512x256 .bf16) (x5 : Vec Ideal S4096x512 .bf16) (x6 : Vec Ideal S4096x128 .bf16)
  (x7 : Vec Ideal S4096x512 .bf16) (q : ℕ)

/-- The score of row `r` and key `k` on head `j`. -/
def KS (j : Fin 4) (r k : ℕ) : EReal :=
  ∑ t : Fin 128, x3 (ix2 (rr r) (col j t)) * x5 (ix2 (kk k) (col j t))
    + ∑ t : Fin 64, x4 (ix2 (rr r) (colq j t)) * x6 (ix2 (kk k) (colk j t))

/-- The score under the causal mask, block `q` of the queries. -/
def MS (j : Fin 4) (r k : ℕ) : EReal := if k ≤ 512 * q + r then KS x3 x4 x5 x6 j r k else ⊥

/-- The values. -/
def VS (j : Fin 4) (d k : ℕ) : EReal := x7 (ix2 (kk k) (col j (dd d)))

/-- The 256 lanes the body makes for head `j`'s queries: the 128 without rotation, then the rotated 64 against the half of the
doubled key they stand over, zeros against the other. -/
structure IsQ (j : Fin 4) (Q : FVec Ideal S512x256 .bf16) : Prop where
  lo : ∀ (r : Fin 512) (t : Fin 128), Q (ix2 r (t.castLE (by norm_num))) = x3 (ix2 r (col j t))
  hi : ∀ (r : Fin 512) (w : Fin 128 → EReal), ∑ t : Fin 128, Q (ix2 r ⟨128 + t, by omega⟩) * w t
    = ∑ t : Fin 64, x4 (ix2 r (colq j t)) * w (colk j t)

variable {x3 x4 x5 x6 x7 q}

theorem sum_128 (f : Fin 128 → EReal) :
    ∑ t, f t = ∑ t : Fin 64, f (t.castLE (by norm_num)) + ∑ t : Fin 64, f ⟨64 + t, by omega⟩ :=
  Fin.sum_univ_add (a := 64) (b := 64) f

/-- The even heads' queries. -/
theorem isQ80 (j : Fin 4) (hj : j.val % 2 = 0) (v9 v14 : Vec Ideal S512x128 .bf16) (h14 : ∀ r t, v14 (ix2 r t) = x3 (ix2 r (col j t)))
    (h9 : ∀ r (t : Fin 64), v9 (ix2 r (t.castLE (by norm_num))) = x4 (ix2 r (colq j t))) : IsQ x3 x4 j (k0_pay80 v9 v14) where
  lo r t := (pay80_lo v9 v14 r t).trans (h14 r t)
  hi r w := by
    rw [sum_128]
    have e2 : ∑ t : Fin 64, k0_pay80 v9 v14 (ix2 r ⟨128 + (⟨64 + t, by omega⟩ : Fin 128), by simp; omega⟩) * w ⟨64 + t, by omega⟩ = 0 :=
      Finset.sum_eq_zero fun t _ => by
        rw [pay80_hi v9 v14 r ⟨64 + t, by omega⟩, if_neg (by simp), zero_mul]
    rw [e2, add_zero]
    refine Finset.sum_congr rfl fun t _ => ?_
    rw [pay80_hi v9 v14 r (t.castLE (by norm_num)), if_pos (by simp), h9]
    congr 2
    refine Fin.ext ?_
    show t.val = 64 * (j.val % 2) + t.val
    omega

/-- The odd heads' queries. -/
theorem isQ81 (j : Fin 4) (hj : j.val % 2 = 1) (v9 v14 : Vec Ideal S512x128 .bf16) (h14 : ∀ r t, v14 (ix2 r t) = x3 (ix2 r (col j t)))
    (h9 : ∀ r (t : Fin 64), v9 (ix2 r ⟨64 + t, by omega⟩) = x4 (ix2 r (colq j t))) : IsQ x3 x4 j (k0_pay81 v9 v14) where
  lo r t := (pay81_lo v9 v14 r t).trans (h14 r t)
  hi r w := by
    rw [sum_128]
    have e2 : ∑ t : Fin 64, k0_pay81 v9 v14 (ix2 r ⟨128 + (t.castLE (by norm_num) : Fin 128), by simp; omega⟩) * w (t.castLE (by norm_num)) = 0 :=
      Finset.sum_eq_zero fun t _ => by
        rw [pay81_hi v9 v14 r (t.castLE (by norm_num)), if_neg (by simp), zero_mul]
    rw [e2, zero_add]
    refine Finset.sum_congr rfl fun t _ => ?_
    rw [pay81_hi v9 v14 r ⟨64 + t, by omega⟩, if_pos (by simp), h9]
    congr 2
    refine Fin.ext ?_
    show 64 + t.val = 64 * (j.val % 2) + t.val
    omega

theorem sc10_KS {j : Fin 4} {Q : FVec Ideal S512x256 .bf16} (hQ : IsQ x3 x4 j Q) {n : ℕ} (kr kn : Vec Ideal S1024x128 .bf16)
    (hr : ∀ (k : Fin 1024) t, kr (ix2 k t) = x6 (ix2 (kk (n + k)) t)) (hn : ∀ (k : Fin 1024) t, kn (ix2 k t) = x5 (ix2 (kk (n + k)) (col j t)))
    (r : Fin 512) (k : Fin 1024) : sc10 Q kr kn (ix2 r k) = KS x3 x4 x5 x6 j r (n + k) := by
  rw [sc10_apply, hQ.hi r (fun t => kr (ix2 k t))]
  unfold KS
  rw [rr_val]
  simp only [hQ.lo, hr, hn]

theorem sc5_KS {j : Fin 4} {Q : FVec Ideal S512x256 .bf16} (hQ : IsQ x3 x4 j Q) {n : ℕ} (kr kn : Vec Ideal S512x128 .bf16)
    (hr : ∀ (k : Fin 512) t, kr (ix2 k t) = x6 (ix2 (kk (n + k)) t)) (hn : ∀ (k : Fin 512) t, kn (ix2 k t) = x5 (ix2 (kk (n + k)) (col j t)))
    (r : Fin 512) (k : Fin 512) : sc5 Q kr kn (ix2 r k) = KS x3 x4 x5 x6 j r (n + k) := by
  rw [sc5_apply, hQ.hi r (fun t => kr (ix2 k t))]
  unfold KS
  rw [rr_val]
  simp only [hQ.lo, hr, hn]

/-- Every unmasked score is a real number. -/
def Fin4 (x3 : Vec Ideal S512x512 .bf16) (x4 : Vec Ideal S512x256 .bf16) (x5 : Vec Ideal S4096x512 .bf16) (x6 : Vec Ideal S4096x128 .bf16) (q : ℕ) : Prop :=
  ∀ (j : Fin 4) (r k : ℕ), ∃ x : ℝ, KS x3 x4 x5 x6 j r k = x

theorem MS_ne_top (hf : Fin4 x3 x4 x5 x6 q) (j : Fin 4) (r : Fin 512) (k : ℕ) : MS x3 x4 x5 x6 q j r k ≠ ⊤ := by
  unfold MS
  split
  · obtain ⟨x, hx⟩ := hf j r k
    rw [hx]; exact EReal.coe_ne_top _
  · exact bot_ne_top

theorem MS_zero (hf : Fin4 x3 x4 x5 x6 q) (j : Fin 4) (r : Fin 512) : ∃ x : ℝ, MS x3 x4 x5 x6 q j r 0 = x := by
  unfold MS
  rw [if_pos (Nat.zero_le _)]
  exact hf j r 0

/-- One head's state. -/
abbrev HInv (x3 : Vec Ideal S512x512 .bf16) (x4 : Vec Ideal S512x256 .bf16) (x5 : Vec Ideal S4096x512 .bf16) (x6 : Vec Ideal S4096x128 .bf16)
    (x7 : Vec Ideal S4096x512 .bf16) (q : ℕ) (j : Fin 4) (n : ℕ) (m l : FVec Ideal S512x1 .f32) (a : FVec Ideal S512x128 .f32) : Prop :=
  RInv (MS x3 x4 x5 x6 q j) (VS x7 j) n m l a

theorem head10 (hf : Fin4 x3 x4 x5 x6 q) {j : Fin 4} {Q : FVec Ideal S512x256 .bf16} (hQ : IsQ x3 x4 j Q) {n : ℕ} (hn : n + 1024 ≤ 512 * q)
    {kr kn v : Vec Ideal S1024x128 .bf16}
    (hr : ∀ (k : Fin 1024) t, kr (ix2 k t) = x6 (ix2 (kk (n + k)) t)) (hk : ∀ (k : Fin 1024) t, kn (ix2 k t) = x5 (ix2 (kk (n + k)) (col j t)))
    (hv : ∀ (k : Fin 1024) t, v (ix2 k t) = x7 (ix2 (kk (n + k)) (col j t)))
    {m l : FVec Ideal S512x1 .f32} {a : FVec Ideal S512x128 .f32} (h : HInv x3 x4 x5 x6 x7 q j n m l a) :
    HInv x3 x4 x5 x6 x7 q j (n + 1024) (m10 (sc10 Q kr kn) m) (l10 (sc10 Q kr kn) m l) (a10 (sc10 Q kr kn) m a v) := by
  refine step10_inv (MS_ne_top hf j) (MS_zero hf j) h _ _ (fun r k => ?_) (fun k d => ?_)
  · rw [sc10_KS hQ kr kn hr hk]
    unfold MS
    rw [if_pos (by omega)]
  · rw [hv]; unfold VS; rw [dd_val]

theorem head5 (hf : Fin4 x3 x4 x5 x6 q) {j : Fin 4} {Q : FVec Ideal S512x256 .bf16} (hQ : IsQ x3 x4 j Q) {n : ℕ} (hn : n + 512 ≤ 512 * q)
    {kr kn v : Vec Ideal S512x128 .bf16}
    (hr : ∀ (k : Fin 512) t, kr (ix2 k t) = x6 (ix2 (kk (n + k)) t)) (hk : ∀ (k : Fin 512) t, kn (ix2 k t) = x5 (ix2 (kk (n + k)) (col j t)))
    (hv : ∀ (k : Fin 512) t, v (ix2 k t) = x7 (ix2 (kk (n + k)) (col j t)))
    {m l : FVec Ideal S512x1 .f32} {a : FVec Ideal S512x128 .f32} (h : HInv x3 x4 x5 x6 x7 q j n m l a) :
    HInv x3 x4 x5 x6 x7 q j (n + 512) (m5 (sc5 Q kr kn) m) (l5 (sc5 Q kr kn) m l) (a5 (sc5 Q kr kn) m a v) := by
  refine step5_inv (MS_ne_top hf j) (MS_zero hf j) h _ _ (fun r k => ?_) (fun k d => ?_)
  · rw [sc5_KS hQ kr kn hr hk]
    unfold MS
    rw [if_pos (by omega)]
  · rw [hv]; unfold VS; rw [dd_val]

/-- The diagonal block, and the quotient stored: the softmax-weighted values. `T` are the scores of the softmax to base e. -/
theorem headD (hf : Fin4 x3 x4 x5 x6 q) (hq : q < 8) {j : Fin 4} {Q : FVec Ideal S512x256 .bf16} (hQ : IsQ x3 x4 j Q)
    {kr kn v : Vec Ideal S512x128 .bf16}
    (hr : ∀ (k : Fin 512) t, kr (ix2 k t) = x6 (ix2 (kk (512 * q + k)) t))
    (hk : ∀ (k : Fin 512) t, kn (ix2 k t) = x5 (ix2 (kk (512 * q + k)) (col j t)))
    (hv : ∀ (k : Fin 512) t, v (ix2 k t) = x7 (ix2 (kk (512 * q + k)) (col j t)))
    {m l : FVec Ideal S512x1 .f32} {a : FVec Ideal S512x128 .f32} (h : HInv x3 x4 x5 x6 x7 q j (512 * q) m l a)
    (r : Fin 512) (d : Fin 128) {T : ℕ → EReal} (hT : Scaled (MS x3 x4 x5 x6 q j r) T) (hT0 : ∃ x : ℝ, T 0 = x) :
    fin (l5 (msk (sc5 Q kr kn)) m l) (a5 (msk (sc5 Q kr kn)) m a v) (ix2 r d)
      = ∑ k ∈ Finset.range 4096, VS x7 j d k * Ideal.div (Ideal.exp (T k - (Finset.range 4096).sup T))
          (∑ k ∈ Finset.range 4096, Ideal.exp (T k - (Finset.range 4096).sup T)) := by
  have := step5_inv (MS_ne_top hf j) (MS_zero hf j) h (msk (sc5 Q kr kn)) v (fun r k => ?_) (fun k d => ?_)
  · rw [fin_apply]
    refine (this r d).final hT hT0 (by omega) (by omega) (fun k hk => ?_)
    unfold MS
    rw [if_neg (by omega)]
  · rw [msk_apply, sc5_KS hQ kr kn hr hk]
    unfold MS
    by_cases hrk : k ≤ r
    · rw [if_pos hrk, if_pos (by have : k.val ≤ r.val := hrk; omega)]
    · rw [if_neg hrk, if_neg (by have : ¬ k.val ≤ r.val := hrk; omega)]
  · rw [hv]; unfold VS; rw [dd_val]

/-- The four heads' states. -/
structure Inv4 (x3 : Vec Ideal S512x512 .bf16) (x4 : Vec Ideal S512x256 .bf16) (x5 : Vec Ideal S4096x512 .bf16) (x6 : Vec Ideal S4096x128 .bf16)
    (x7 : Vec Ideal S4096x512 .bf16) (q n : ℕ) (st : Tup Ideal) : Prop where
  h0 : HInv x3 x4 x5 x6 x7 q 0 n st.1 st.2.1 st.2.2.1
  h1 : HInv x3 x4 x5 x6 x7 q 1 n st.2.2.2.1 st.2.2.2.2.1 st.2.2.2.2.2.1
  h2 : HInv x3 x4 x5 x6 x7 q 2 n st.2.2.2.2.2.2.1 st.2.2.2.2.2.2.2.1 st.2.2.2.2.2.2.2.2.1
  h3 : HInv x3 x4 x5 x6 x7 q 3 n st.2.2.2.2.2.2.2.2.2.1 st.2.2.2.2.2.2.2.2.2.2.1 st.2.2.2.2.2.2.2.2.2.2.2

end

end Cert.KernelIdeal.Steps

end
-- ==== Proof.KI.Body.lean ====
/- What the body leaves in its output block, over the extended reals: the loops' offsets and trips in closed form, the blocks
   they load, and the four heads' softmax-weighted values. -/
module

public import proofs.«01_k».proof.Proof.KI.Heads
public import Idealize.ShloMosaic.Lib.WholeRead
public import Idealize.ShloMosaic.Lib.Pipeline.ValueKit.Tiles

@[expose] public section

set_option maxRecDepth 16384

noncomputable section

namespace Cert.KernelIdeal.Steps

open Idealize.ShloMosaic Idealize.ShloMosaic.TcCoe Idealize.ShloMosaic.Tactic
open Cert.KernelIdeal Cert.KernelIdeal.Gen Cert.KernelIdeal.Hand Cert.Attn

/-! ## Trips and offsets -/

theorem trips1 (i : grid0.Coords) : (k0_t1_loop i).trips = (i 2).val / 2 := by
  unfold k0_t1_loop
  generalize i 2 = a
  revert a
  decide +kernel

theorem trips2 (i : grid0.Coords) : (k0_t2_loop i).trips = 0 := by
  unfold k0_t2_loop
  generalize i 2 = a
  revert a
  decide +kernel

theorem cond1_iff (i : grid0.Coords) : k0_cond1 i = 1#1 ↔ (i 2).val % 2 = 1 := by
  unfold k0_cond1
  generalize i 2 = a
  revert a
  decide +kernel

theorem q_lt (i : grid0.Coords) : (i 2).val < 8 := (i 2).isLt

theorem row10 (k : ℕ) (hk : k < 4) :
    (Scalar.indexCast (Scalar.muli (Scf.iv 0#32 1#32 k) 1024#32) : BitVec 32).toNat = 1024 * k := by
  interval_cases k <;> rfl

theorem row5 (q : ℕ) (hq : q < 8) :
    (Scalar.indexCast (Scalar.muli (BitVec.ofNat 32 q) 512#32) : BitVec 32).toNat = 512 * q := by
  interval_cases q <;> rfl

theorem row5' (q : ℕ) (hq : q < 8) (h1 : 0 < q) :
    (Scalar.indexCast (Scalar.muli (Scalar.subi (BitVec.ofNat 32 q) 1#32) 512#32) : BitVec 32).toNat = 512 * (q - 1) := by
  interval_cases q <;> rfl

theorem trip_lt (i : grid0.Coords) (k : Fin (k0_t1_loop i).trips) : k.val < 4 := by
  have h := k.isLt.trans_eq (trips1 i)
  have := q_lt i
  omega

theorem off1_eq (i : grid0.Coords) (k : Fin (k0_t1_loop i).trips) : k0_off1 i k = ![1024 * k.val, 0] :=
  congrArg (fun z => ![z, 0]) (row10 k.val (trip_lt i k))
theorem off2_eq (i : grid0.Coords) (k : Fin (k0_t1_loop i).trips) : k0_off2 i k = ![1024 * k.val, 0] :=
  congrArg (fun z => ![z, 0]) (row10 k.val (trip_lt i k))
theorem off3_eq (i : grid0.Coords) (k : Fin (k0_t1_loop i).trips) : k0_off3 i k = ![1024 * k.val, 128] :=
  congrArg (fun z => ![z, 128]) (row10 k.val (trip_lt i k))
theorem off4_eq (i : grid0.Coords) (k : Fin (k0_t1_loop i).trips) : k0_off4 i k = ![1024 * k.val, 256] :=
  congrArg (fun z => ![z, 256]) (row10 k.val (trip_lt i k))
theorem off5_eq (i : grid0.Coords) (k : Fin (k0_t1_loop i).trips) : k0_off5 i k = ![1024 * k.val, 384] :=
  congrArg (fun z => ![z, 384]) (row10 k.val (trip_lt i k))
theorem off11_eq (i : grid0.Coords) (h : 0 < (i 2).val) : k0_off11 i = ![512 * ((i 2).val - 1), 0] :=
  congrArg (fun z => ![z, 0]) (row5' (i 2).val (q_lt i) h)
theorem off12_eq (i : grid0.Coords) (h : 0 < (i 2).val) : k0_off12 i = ![512 * ((i 2).val - 1), 0] :=
  congrArg (fun z => ![z, 0]) (row5' (i 2).val (q_lt i) h)
theorem off13_eq (i : grid0.Coords) (h : 0 < (i 2).val) : k0_off13 i = ![512 * ((i 2).val - 1), 128] :=
  congrArg (fun z => ![z, 128]) (row5' (i 2).val (q_lt i) h)
theorem off14_eq (i : grid0.Coords) (h : 0 < (i 2).val) : k0_off14 i = ![512 * ((i 2).val - 1), 256] :=
  congrArg (fun z => ![z, 256]) (row5' (i 2).val (q_lt i) h)
theorem off15_eq (i : grid0.Coords) (h : 0 < (i 2).val) : k0_off15 i = ![512 * ((i 2).val - 1), 384] :=
  congrArg (fun z => ![z, 384]) (row5' (i 2).val (q_lt i) h)
theorem off16_eq (i : grid0.Coords) : k0_off16 i = ![512 * (i 2).val, 0] :=
  congrArg (fun z => ![z, 0]) (row5 (i 2).val (q_lt i))
theorem off17_eq (i : grid0.Coords) : k0_off17 i = ![512 * (i 2).val, 0] :=
  congrArg (fun z => ![z, 0]) (row5 (i 2).val (q_lt i))
theorem off18_eq (i : grid0.Coords) : k0_off18 i = ![512 * (i 2).val, 128] :=
  congrArg (fun z => ![z, 128]) (row5 (i 2).val (q_lt i))
theorem off19_eq (i : grid0.Coords) : k0_off19 i = ![512 * (i 2).val, 256] :=
  congrArg (fun z => ![z, 256]) (row5 (i 2).val (q_lt i))
theorem off20_eq (i : grid0.Coords) : k0_off20 i = ![512 * (i 2).val, 384] :=
  congrArg (fun z => ![z, 384]) (row5 (i 2).val (q_lt i))

/-! ## Loads -/

/-- A load of whole contents reads them at the offset index. -/
theorem load_apply {e : EltTy} {sp : Space} {A B A' B' : ℕ} {mr : Memref sig .tc sp ⟨2, ![A, B]⟩ e} (h : mr.IsWhole)
    (x : (⟨2, ![A, B]⟩ : Shape).Idx → Elt Ideal e) (off : Fin 2 → ℕ) (inb) (a b : ℕ) (ho : off = ![a, b])
    (y0 : Fin A') (y1 : Fin B') (i0 : Fin A) (i1 : Fin B) (h0 : i0.val = a + y0) (h1 : i1.val = b + y1) :
    View.readAt (Elt Ideal) mr.view (Rect.unit (s := ⟨2, ![A, B]⟩) off ![A', B'] inb).toLoadRect (h.unread x) (ix2 y0 y1) = x (ix2 i0 i1) := by
  subst ho
  rw [h.readAt_unread]
  refine congrArg x (funext fun z => Fin.ext ?_)
  refine (Rect.idx_unit_val ![a, b] ![A', B'] inb (ix2 y0 y1) z).trans ?_
  match z with
  | ⟨0, _⟩ => exact h0.symm
  | ⟨1, _⟩ => exact h1.symm

theorem kk_val {k : ℕ} (h : k < 4096) : (kk k).val = k := Nat.mod_eq_of_lt h

theorem runA_Q0 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 0 (runA.sl.v16 (F := Ideal) c arg3 harg3 arg4 harg4 x3 x4) := by
  have e : runA.sl.v16 (F := Ideal) c arg3 harg3 arg4 harg4 x3 x4
      = k0_pay80 (View.readAt (Elt Ideal) arg4.view (Rect.unit (s := S512x256) ![0, 0] S512x128.size inb_S512x256_S512x128_0_0).toLoadRect (harg4.unread x4))
          (View.readAt (Elt Ideal) arg3.view (Rect.unit (s := S512x512) ![0, 0] S512x128.size inb_S512x512_S512x128_0_0).toLoadRect (harg3.unread x3)) := rfl
  rw [e]
  refine isQ80 0 (by decide) _ _ (fun r t => ?_) (fun r t => ?_)
  · exact load_apply harg3 x3 _ _ 0 0 rfl r t r (col 0 t) (by simp) (by simp [col])
  · exact load_apply harg4 x4 _ _ 0 0 rfl r _ r (colq 0 t) (by simp) (by simp [colq]; try omega)

theorem runA_Q1 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 1 (runA.sl.v32 (F := Ideal) c arg3 harg3 arg4 harg4 x3 x4) := by
  have e : runA.sl.v32 (F := Ideal) c arg3 harg3 arg4 harg4 x3 x4
      = k0_pay81 (View.readAt (Elt Ideal) arg4.view (Rect.unit (s := S512x256) ![0, 0] S512x128.size inb_S512x256_S512x128_0_0).toLoadRect (harg4.unread x4))
          (View.readAt (Elt Ideal) arg3.view (Rect.unit (s := S512x512) ![0, 128] S512x128.size inb_S512x512_S512x128_0_128).toLoadRect (harg3.unread x3)) := rfl
  rw [e]
  refine isQ81 1 (by decide) _ _ (fun r t => ?_) (fun r t => ?_)
  · exact load_apply harg3 x3 _ _ 0 128 rfl r t r (col 1 t) (by simp) (by simp [col])
  · exact load_apply harg4 x4 _ _ 0 0 rfl r _ r (colq 1 t) (by simp) (by simp [colq]; try omega)

theorem runA_Q2 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 2 (runA.sl.r (F := Ideal) c arg3 harg3 arg4 harg4 x3 x4) := by
  have e : runA.sl.r (F := Ideal) c arg3 harg3 arg4 harg4 x3 x4
      = k0_pay80 (View.readAt (Elt Ideal) arg4.view (Rect.unit (s := S512x256) ![0, 128] S512x128.size inb_S512x256_S512x128_0_128).toLoadRect (harg4.unread x4))
          (View.readAt (Elt Ideal) arg3.view (Rect.unit (s := S512x512) ![0, 256] S512x128.size inb_S512x512_S512x128_0_256).toLoadRect (harg3.unread x3)) := rfl
  rw [e]
  refine isQ80 2 (by decide) _ _ (fun r t => ?_) (fun r t => ?_)
  · exact load_apply harg3 x3 _ _ 0 256 rfl r t r (col 2 t) (by simp) (by simp [col])
  · exact load_apply harg4 x4 _ _ 0 128 rfl r _ r (colq 2 t) (by simp) (by simp [colq]; try omega)

theorem runA_Q3 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 3 (runA.sl.r_1 (F := Ideal) c arg3 harg3 arg4 harg4 x3 x4) := by
  have e : runA.sl.r_1 (F := Ideal) c arg3 harg3 arg4 harg4 x3 x4
      = k0_pay81 (View.readAt (Elt Ideal) arg4.view (Rect.unit (s := S512x256) ![0, 128] S512x128.size inb_S512x256_S512x128_0_128).toLoadRect (harg4.unread x4))
          (View.readAt (Elt Ideal) arg3.view (Rect.unit (s := S512x512) ![0, 384] S512x128.size inb_S512x512_S512x128_0_384).toLoadRect (harg3.unread x3)) := rfl
  rw [e]
  refine isQ81 3 (by decide) _ _ (fun r t => ?_) (fun r t => ?_)
  · exact load_apply harg3 x3 _ _ 0 384 rfl r t r (col 3 t) (by simp) (by simp [col])
  · exact load_apply harg4 x4 _ _ 0 128 rfl r _ r (colq 3 t) (by simp) (by simp [colq]; try omega)

theorem runB_Q0 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 0 (runB.sl.v16 (F := Ideal) c arg3 harg3 arg4 harg4 x3 x4) := by
  have e : runB.sl.v16 (F := Ideal) c arg3 harg3 arg4 harg4 x3 x4
      = k0_pay80 (View.readAt (Elt Ideal) arg4.view (Rect.unit (s := S512x256) ![0, 0] S512x128.size inb_S512x256_S512x128_0_0).toLoadRect (harg4.unread x4))
          (View.readAt (Elt Ideal) arg3.view (Rect.unit (s := S512x512) ![0, 0] S512x128.size inb_S512x512_S512x128_0_0).toLoadRect (harg3.unread x3)) := rfl
  rw [e]
  refine isQ80 0 (by decide) _ _ (fun r t => ?_) (fun r t => ?_)
  · exact load_apply harg3 x3 _ _ 0 0 rfl r t r (col 0 t) (by simp) (by simp [col])
  · exact load_apply harg4 x4 _ _ 0 0 rfl r _ r (colq 0 t) (by simp) (by simp [colq]; try omega)

theorem runB_Q1 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 1 (runB.sl.v32 (F := Ideal) c arg3 harg3 arg4 harg4 x3 x4) := by
  have e : runB.sl.v32 (F := Ideal) c arg3 harg3 arg4 harg4 x3 x4
      = k0_pay81 (View.readAt (Elt Ideal) arg4.view (Rect.unit (s := S512x256) ![0, 0] S512x128.size inb_S512x256_S512x128_0_0).toLoadRect (harg4.unread x4))
          (View.readAt (Elt Ideal) arg3.view (Rect.unit (s := S512x512) ![0, 128] S512x128.size inb_S512x512_S512x128_0_128).toLoadRect (harg3.unread x3)) := rfl
  rw [e]
  refine isQ81 1 (by decide) _ _ (fun r t => ?_) (fun r t => ?_)
  · exact load_apply harg3 x3 _ _ 0 128 rfl r t r (col 1 t) (by simp) (by simp [col])
  · exact load_apply harg4 x4 _ _ 0 0 rfl r _ r (colq 1 t) (by simp) (by simp [colq]; try omega)

theorem runB_Q2 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 2 (runB.sl.r (F := Ideal) c arg3 harg3 arg4 harg4 x3 x4) := by
  have e : runB.sl.r (F := Ideal) c arg3 harg3 arg4 harg4 x3 x4
      = k0_pay80 (View.readAt (Elt Ideal) arg4.view (Rect.unit (s := S512x256) ![0, 128] S512x128.size inb_S512x256_S512x128_0_128).toLoadRect (harg4.unread x4))
          (View.readAt (Elt Ideal) arg3.view (Rect.unit (s := S512x512) ![0, 256] S512x128.size inb_S512x512_S512x128_0_256).toLoadRect (harg3.unread x3)) := rfl
  rw [e]
  refine isQ80 2 (by decide) _ _ (fun r t => ?_) (fun r t => ?_)
  · exact load_apply harg3 x3 _ _ 0 256 rfl r t r (col 2 t) (by simp) (by simp [col])
  · exact load_apply harg4 x4 _ _ 0 128 rfl r _ r (colq 2 t) (by simp) (by simp [colq]; try omega)

theorem runB_Q3 (c : Dev nD) (arg3 : Memref sig .tc .vmem S512x512 .bf16) (harg3 : arg3.IsWhole) (arg4 : Memref sig .tc .vmem S512x256 .bf16) (harg4 : arg4.IsWhole)
    (x3 : Vec Ideal S512x512 .bf16) (x4 : Vec Ideal S512x256 .bf16) : IsQ x3 x4 3 (runB.sl.r_1 (F := Ideal) c arg3 harg3 arg4 harg4 x3 x4) := by
  have e : runB.sl.r_1 (F := Ideal) c arg3 harg3 arg4 harg4 x3 x4
      = k0_pay81 (View.readAt (Elt Ideal) arg4.view (Rect.unit (s := S512x256) ![0, 128] S512x128.size inb_S512x256_S512x128_0_128).toLoadRect (harg4.unread x4))
          (View.readAt (Elt Ideal) arg3.view (Rect.unit (s := S512x512) ![0, 384] S512x128.size inb_S512x512_S512x128_0_384).toLoadRect (harg3.unread x3)) := rfl
  rw [e]
  refine isQ81 3 (by decide) _ _ (fun r t => ?_) (fun r t => ?_)
  · exact load_apply harg3 x3 _ _ 0 384 rfl r t r (col 3 t) (by simp) (by simp [col])
  · exact load_apply harg4 x4 _ _ 0 128 rfl r _ r (colq 3 t) (by simp) (by simp [colq]; try omega)

/-! ## Steps on the blocks loaded -/
theorem trip10_inv (i : grid0.Coords) (k : Fin (k0_t1_loop i).trips) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val)
    {Q0 Q1 Q2 Q3 : FVec Ideal S512x256 .bf16} (hQ0 : IsQ x3 x4 0 Q0) (hQ1 : IsQ x3 x4 1 Q1) (hQ2 : IsQ x3 x4 2 Q2) (hQ3 : IsQ x3 x4 3 Q3)
    {st : Tup Ideal} (h : Inv4 x3 x4 x5 x6 x7 (i 2).val (1024 * k.val) st) :
    Inv4 x3 x4 x5 x6 x7 (i 2).val (1024 * k.val + 1024) (step10 Q0 Q1 Q2 Q3 (View.readAt (Elt Ideal) arg6.view (Rect.unit (s := S4096x128) (k0_off1 i k) S1024x128.size (k0_off1_inb i k)).toLoadRect (harg6.unread x6))
        (View.readAt (Elt Ideal) arg5.view (Rect.unit (s := S4096x512) (k0_off2 i k) S1024x128.size (k0_off2_inb i k)).toLoadRect (harg5.unread x5)) (View.readAt (Elt Ideal) arg5.view (Rect.unit (s := S4096x512) (k0_off3 i k) S1024x128.size (k0_off3_inb i k)).toLoadRect (harg5.unread x5)) (View.readAt (Elt Ideal) arg5.view (Rect.unit (s := S4096x512) (k0_off4 i k) S1024x128.size (k0_off4_inb i k)).toLoadRect (harg5.unread x5)) (View.readAt (Elt Ideal) arg5.view (Rect.unit (s := S4096x512) (k0_off5 i k) S1024x128.size (k0_off5_inb i k)).toLoadRect (harg5.unread x5))
        (View.readAt (Elt Ideal) arg7.view (Rect.unit (s := S4096x512) (k0_off2 i k) S1024x128.size (k0_off2_inb i k)).toLoadRect (harg7.unread x7)) (View.readAt (Elt Ideal) arg7.view (Rect.unit (s := S4096x512) (k0_off3 i k) S1024x128.size (k0_off3_inb i k)).toLoadRect (harg7.unread x7)) (View.readAt (Elt Ideal) arg7.view (Rect.unit (s := S4096x512) (k0_off4 i k) S1024x128.size (k0_off4_inb i k)).toLoadRect (harg7.unread x7)) (View.readAt (Elt Ideal) arg7.view (Rect.unit (s := S4096x512) (k0_off5 i k) S1024x128.size (k0_off5_inb i k)).toLoadRect (harg7.unread x7)) st) := by
  have hl := (show 1024 * k.val + 1024 ≤ 512 * (i 2).val by have := k.isLt.trans_eq (trips1 i); omega)
  have hq := q_lt i
  have hr : ∀ (y : Fin 1024) (t : Fin 128), (View.readAt (Elt Ideal) arg6.view (Rect.unit (s := S4096x128) (k0_off1 i k) S1024x128.size (k0_off1_inb i k)).toLoadRect (harg6.unread x6)) (ix2 y t) = x6 (ix2 (kk (1024 * k.val + y)) t) := fun y t =>
    load_apply harg6 x6 _ _ (1024 * k.val) 0 (off1_eq i k) y t _ t (kk_val (by omega)) (by simp)
  have hk0 : ∀ (y : Fin 1024) (t : Fin 128), (View.readAt (Elt Ideal) arg5.view (Rect.unit (s := S4096x512) (k0_off2 i k) S1024x128.size (k0_off2_inb i k)).toLoadRect (harg5.unread x5)) (ix2 y t) = x5 (ix2 (kk (1024 * k.val + y)) (col 0 t)) := fun y t =>
    load_apply harg5 x5 _ _ (1024 * k.val) 0 (off2_eq i k) y t _ (col 0 t) (kk_val (by omega)) (by simp [col])
  have hv0 : ∀ (y : Fin 1024) (t : Fin 128), (View.readAt (Elt Ideal) arg7.view (Rect.unit (s := S4096x512) (k0_off2 i k) S1024x128.size (k0_off2_inb i k)).toLoadRect (harg7.unread x7)) (ix2 y t) = x7 (ix2 (kk (1024 * k.val + y)) (col 0 t)) := fun y t =>
    load_apply harg7 x7 _ _ (1024 * k.val) 0 (off2_eq i k) y t _ (col 0 t) (kk_val (by omega)) (by simp [col])
  have hk1 : ∀ (y : Fin 1024) (t : Fin 128), (View.readAt (Elt Ideal) arg5.view (Rect.unit (s := S4096x512) (k0_off3 i k) S1024x128.size (k0_off3_inb i k)).toLoadRect (harg5.unread x5)) (ix2 y t) = x5 (ix2 (kk (1024 * k.val + y)) (col 1 t)) := fun y t =>
    load_apply harg5 x5 _ _ (1024 * k.val) 128 (off3_eq i k) y t _ (col 1 t) (kk_val (by omega)) (by simp [col])
  have hv1 : ∀ (y : Fin 1024) (t : Fin 128), (View.readAt (Elt Ideal) arg7.view (Rect.unit (s := S4096x512) (k0_off3 i k) S1024x128.size (k0_off3_inb i k)).toLoadRect (harg7.unread x7)) (ix2 y t) = x7 (ix2 (kk (1024 * k.val + y)) (col 1 t)) := fun y t =>
    load_apply harg7 x7 _ _ (1024 * k.val) 128 (off3_eq i k) y t _ (col 1 t) (kk_val (by omega)) (by simp [col])
  have hk2 : ∀ (y : Fin 1024) (t : Fin 128), (View.readAt (Elt Ideal) arg5.view (Rect.unit (s := S4096x512) (k0_off4 i k) S1024x128.size (k0_off4_inb i k)).toLoadRect (harg5.unread x5)) (ix2 y t) = x5 (ix2 (kk (1024 * k.val + y)) (col 2 t)) := fun y t =>
    load_apply harg5 x5 _ _ (1024 * k.val) 256 (off4_eq i k) y t _ (col 2 t) (kk_val (by omega)) (by simp [col])
  have hv2 : ∀ (y : Fin 1024) (t : Fin 128), (View.readAt (Elt Ideal) arg7.view (Rect.unit (s := S4096x512) (k0_off4 i k) S1024x128.size (k0_off4_inb i k)).toLoadRect (harg7.unread x7)) (ix2 y t) = x7 (ix2 (kk (1024 * k.val + y)) (col 2 t)) := fun y t =>
    load_apply harg7 x7 _ _ (1024 * k.val) 256 (off4_eq i k) y t _ (col 2 t) (kk_val (by omega)) (by simp [col])
  have hk3 : ∀ (y : Fin 1024) (t : Fin 128), (View.readAt (Elt Ideal) arg5.view (Rect.unit (s := S4096x512) (k0_off5 i k) S1024x128.size (k0_off5_inb i k)).toLoadRect (harg5.unread x5)) (ix2 y t) = x5 (ix2 (kk (1024 * k.val + y)) (col 3 t)) := fun y t =>
    load_apply harg5 x5 _ _ (1024 * k.val) 384 (off5_eq i k) y t _ (col 3 t) (kk_val (by omega)) (by simp [col])
  have hv3 : ∀ (y : Fin 1024) (t : Fin 128), (View.readAt (Elt Ideal) arg7.view (Rect.unit (s := S4096x512) (k0_off5 i k) S1024x128.size (k0_off5_inb i k)).toLoadRect (harg7.unread x7)) (ix2 y t) = x7 (ix2 (kk (1024 * k.val + y)) (col 3 t)) := fun y t =>
    load_apply harg7 x7 _ _ (1024 * k.val) 384 (off5_eq i k) y t _ (col 3 t) (kk_val (by omega)) (by simp [col])
  exact ⟨head10 hf hQ0 hl hr hk0 hv0 h.h0, head10 hf hQ1 hl hr hk1 hv1 h.h1, head10 hf hQ2 hl hr hk2 hv2 h.h2, head10 hf hQ3 hl hr hk3 hv3 h.h3⟩

theorem odd5_inv (i : grid0.Coords) (hc : k0_cond1 i = 1#1) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val)
    {Q0 Q1 Q2 Q3 : FVec Ideal S512x256 .bf16} (hQ0 : IsQ x3 x4 0 Q0) (hQ1 : IsQ x3 x4 1 Q1) (hQ2 : IsQ x3 x4 2 Q2) (hQ3 : IsQ x3 x4 3 Q3)
    {st : Tup Ideal} (h : Inv4 x3 x4 x5 x6 x7 (i 2).val (512 * ((i 2).val - 1)) st) :
    Inv4 x3 x4 x5 x6 x7 (i 2).val (512 * ((i 2).val - 1) + 512) (step5 Q0 Q1 Q2 Q3 (View.readAt (Elt Ideal) arg6.view (Rect.unit (s := S4096x128) (k0_off11 i) S512x128.size (k0_off11_inb i hc)).toLoadRect (harg6.unread x6))
        (View.readAt (Elt Ideal) arg5.view (Rect.unit (s := S4096x512) (k0_off12 i) S512x128.size (k0_off12_inb i hc)).toLoadRect (harg5.unread x5)) (View.readAt (Elt Ideal) arg5.view (Rect.unit (s := S4096x512) (k0_off13 i) S512x128.size (k0_off13_inb i hc)).toLoadRect (harg5.unread x5)) (View.readAt (Elt Ideal) arg5.view (Rect.unit (s := S4096x512) (k0_off14 i) S512x128.size (k0_off14_inb i hc)).toLoadRect (harg5.unread x5)) (View.readAt (Elt Ideal) arg5.view (Rect.unit (s := S4096x512) (k0_off15 i) S512x128.size (k0_off15_inb i hc)).toLoadRect (harg5.unread x5))
        (View.readAt (Elt Ideal) arg7.view (Rect.unit (s := S4096x512) (k0_off12 i) S512x128.size (k0_off12_inb i hc)).toLoadRect (harg7.unread x7)) (View.readAt (Elt Ideal) arg7.view (Rect.unit (s := S4096x512) (k0_off13 i) S512x128.size (k0_off13_inb i hc)).toLoadRect (harg7.unread x7)) (View.readAt (Elt Ideal) arg7.view (Rect.unit (s := S4096x512) (k0_off14 i) S512x128.size (k0_off14_inb i hc)).toLoadRect (harg7.unread x7)) (View.readAt (Elt Ideal) arg7.view (Rect.unit (s := S4096x512) (k0_off15 i) S512x128.size (k0_off15_inb i hc)).toLoadRect (harg7.unread x7)) st) := by
  have hl := (show 512 * ((i 2).val - 1) + 512 ≤ 512 * (i 2).val by have := (cond1_iff i).mp hc; omega)
  have hq := q_lt i
  have hpos : 0 < (i 2).val := by have := (cond1_iff i).mp hc; omega
  have hr : ∀ (y : Fin 512) (t : Fin 128), (View.readAt (Elt Ideal) arg6.view (Rect.unit (s := S4096x128) (k0_off11 i) S512x128.size (k0_off11_inb i hc)).toLoadRect (harg6.unread x6)) (ix2 y t) = x6 (ix2 (kk (512 * ((i 2).val - 1) + y)) t) := fun y t =>
    load_apply harg6 x6 _ _ (512 * ((i 2).val - 1)) 0 (off11_eq i hpos) y t _ t (kk_val (by omega)) (by simp)
  have hk0 : ∀ (y : Fin 512) (t : Fin 128), (View.readAt (Elt Ideal) arg5.view (Rect.unit (s := S4096x512) (k0_off12 i) S512x128.size (k0_off12_inb i hc)).toLoadRect (harg5.unread x5)) (ix2 y t) = x5 (ix2 (kk (512 * ((i 2).val - 1) + y)) (col 0 t)) := fun y t =>
    load_apply harg5 x5 _ _ (512 * ((i 2).val - 1)) 0 (off12_eq i hpos) y t _ (col 0 t) (kk_val (by omega)) (by simp [col])
  have hv0 : ∀ (y : Fin 512) (t : Fin 128), (View.readAt (Elt Ideal) arg7.view (Rect.unit (s := S4096x512) (k0_off12 i) S512x128.size (k0_off12_inb i hc)).toLoadRect (harg7.unread x7)) (ix2 y t) = x7 (ix2 (kk (512 * ((i 2).val - 1) + y)) (col 0 t)) := fun y t =>
    load_apply harg7 x7 _ _ (512 * ((i 2).val - 1)) 0 (off12_eq i hpos) y t _ (col 0 t) (kk_val (by omega)) (by simp [col])
  have hk1 : ∀ (y : Fin 512) (t : Fin 128), (View.readAt (Elt Ideal) arg5.view (Rect.unit (s := S4096x512) (k0_off13 i) S512x128.size (k0_off13_inb i hc)).toLoadRect (harg5.unread x5)) (ix2 y t) = x5 (ix2 (kk (512 * ((i 2).val - 1) + y)) (col 1 t)) := fun y t =>
    load_apply harg5 x5 _ _ (512 * ((i 2).val - 1)) 128 (off13_eq i hpos) y t _ (col 1 t) (kk_val (by omega)) (by simp [col])
  have hv1 : ∀ (y : Fin 512) (t : Fin 128), (View.readAt (Elt Ideal) arg7.view (Rect.unit (s := S4096x512) (k0_off13 i) S512x128.size (k0_off13_inb i hc)).toLoadRect (harg7.unread x7)) (ix2 y t) = x7 (ix2 (kk (512 * ((i 2).val - 1) + y)) (col 1 t)) := fun y t =>
    load_apply harg7 x7 _ _ (512 * ((i 2).val - 1)) 128 (off13_eq i hpos) y t _ (col 1 t) (kk_val (by omega)) (by simp [col])
  have hk2 : ∀ (y : Fin 512) (t : Fin 128), (View.readAt (Elt Ideal) arg5.view (Rect.unit (s := S4096x512) (k0_off14 i) S512x128.size (k0_off14_inb i hc)).toLoadRect (harg5.unread x5)) (ix2 y t) = x5 (ix2 (kk (512 * ((i 2).val - 1) + y)) (col 2 t)) := fun y t =>
    load_apply harg5 x5 _ _ (512 * ((i 2).val - 1)) 256 (off14_eq i hpos) y t _ (col 2 t) (kk_val (by omega)) (by simp [col])
  have hv2 : ∀ (y : Fin 512) (t : Fin 128), (View.readAt (Elt Ideal) arg7.view (Rect.unit (s := S4096x512) (k0_off14 i) S512x128.size (k0_off14_inb i hc)).toLoadRect (harg7.unread x7)) (ix2 y t) = x7 (ix2 (kk (512 * ((i 2).val - 1) + y)) (col 2 t)) := fun y t =>
    load_apply harg7 x7 _ _ (512 * ((i 2).val - 1)) 256 (off14_eq i hpos) y t _ (col 2 t) (kk_val (by omega)) (by simp [col])
  have hk3 : ∀ (y : Fin 512) (t : Fin 128), (View.readAt (Elt Ideal) arg5.view (Rect.unit (s := S4096x512) (k0_off15 i) S512x128.size (k0_off15_inb i hc)).toLoadRect (harg5.unread x5)) (ix2 y t) = x5 (ix2 (kk (512 * ((i 2).val - 1) + y)) (col 3 t)) := fun y t =>
    load_apply harg5 x5 _ _ (512 * ((i 2).val - 1)) 384 (off15_eq i hpos) y t _ (col 3 t) (kk_val (by omega)) (by simp [col])
  have hv3 : ∀ (y : Fin 512) (t : Fin 128), (View.readAt (Elt Ideal) arg7.view (Rect.unit (s := S4096x512) (k0_off15 i) S512x128.size (k0_off15_inb i hc)).toLoadRect (harg7.unread x7)) (ix2 y t) = x7 (ix2 (kk (512 * ((i 2).val - 1) + y)) (col 3 t)) := fun y t =>
    load_apply harg7 x7 _ _ (512 * ((i 2).val - 1)) 384 (off15_eq i hpos) y t _ (col 3 t) (kk_val (by omega)) (by simp [col])
  exact ⟨head5 hf hQ0 hl hr hk0 hv0 h.h0, head5 hf hQ1 hl hr hk1 hv1 h.h1, head5 hf hQ2 hl hr hk2 hv2 h.h2, head5 hf hQ3 hl hr hk3 hv3 h.h3⟩

theorem T1A_inv (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val) :
    ∀ n, n ≤ (k0_t1_loop i).trips → Inv4 x3 x4 x5 x6 x7 (i 2).val (1024 * n) (T1A (F := Ideal) c i arg3 harg3 arg4 harg4 arg5 harg5 arg6 harg6 arg7 harg7 arg8 harg8 x3 x4 x5 x6 x7 n) := by
  intro n
  induction n with
  | zero =>
    intro _
    unfold T1A
    rw [st_k0_t1_zero]
    exact ⟨init_inv _ _, init_inv _ _, init_inv _ _, init_inv _ _⟩
  | succ n ih =>
    intro hn
    have e := trip10_inv i ⟨n, hn⟩ arg5 harg5 arg6 harg6 arg7 harg7 x3 x4 x5 x6 x7 hf (runA_Q0 c arg3 harg3 arg4 harg4 x3 x4)
      (runA_Q1 c arg3 harg3 arg4 harg4 x3 x4) (runA_Q2 c arg3 harg3 arg4 harg4 x3 x4) (runA_Q3 c arg3 harg3 arg4 harg4 x3 x4) (ih (by omega))
    rw [show 1024 * (n + 1) = 1024 * n + 1024 by omega]
    unfold T1A
    rw [show n + 1 = (⟨n, hn⟩ : Fin (k0_t1_loop i).trips).val + 1 from rfl, st_k0_t1_succ]
    unfold tripR_k0_t1
    rw [trip1_eq]
    exact e

theorem T2A_eq (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (x3 : Vec Ideal S512x512 .bf16) (x4 : Vec Ideal S512x256 .bf16) (x5 : Vec Ideal S4096x512 .bf16) (x6 : Vec Ideal S4096x128 .bf16) (x7 : Vec Ideal S4096x512 .bf16) (st : Tup Ideal) : T2A (F := Ideal) c i arg3 harg3 arg4 harg4 arg5 harg5 arg6 harg6 arg7 harg7 arg8 harg8 x3 x4 x5 x6 x7 st (k0_t2_loop i).trips = st := by
  unfold T2A
  rw [trips2, st_k0_t2_zero]

theorem T1B_inv (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val) :
    ∀ n, n ≤ (k0_t1_loop i).trips → Inv4 x3 x4 x5 x6 x7 (i 2).val (1024 * n) (T1B (F := Ideal) c i arg3 harg3 arg4 harg4 arg5 harg5 arg6 harg6 arg7 harg7 arg8 harg8 x3 x4 x5 x6 x7 n) := by
  intro n
  induction n with
  | zero =>
    intro _
    unfold T1B
    rw [st_k0_t1_zero]
    exact ⟨init_inv _ _, init_inv _ _, init_inv _ _, init_inv _ _⟩
  | succ n ih =>
    intro hn
    have e := trip10_inv i ⟨n, hn⟩ arg5 harg5 arg6 harg6 arg7 harg7 x3 x4 x5 x6 x7 hf (runB_Q0 c arg3 harg3 arg4 harg4 x3 x4)
      (runB_Q1 c arg3 harg3 arg4 harg4 x3 x4) (runB_Q2 c arg3 harg3 arg4 harg4 x3 x4) (runB_Q3 c arg3 harg3 arg4 harg4 x3 x4) (ih (by omega))
    rw [show 1024 * (n + 1) = 1024 * n + 1024 by omega]
    unfold T1B
    rw [show n + 1 = (⟨n, hn⟩ : Fin (k0_t1_loop i).trips).val + 1 from rfl, st_k0_t1_succ]
    unfold tripR_k0_t1
    rw [trip1_eq]
    exact e

theorem T2B_eq (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (x3 : Vec Ideal S512x512 .bf16) (x4 : Vec Ideal S512x256 .bf16) (x5 : Vec Ideal S4096x512 .bf16) (x6 : Vec Ideal S4096x128 .bf16) (x7 : Vec Ideal S4096x512 .bf16) (st : Tup Ideal) : T2B (F := Ideal) c i arg3 harg3 arg4 harg4 arg5 harg5 arg6 harg6 arg7 harg7 arg8 harg8 x3 x4 x5 x6 x7 st (k0_t2_loop i).trips = st := by
  unfold T2B
  rw [trips2, st_k0_t2_zero]

/-- The pieces stored, each at its index: the head's softmax-weighted values, the softmax over the scores `T`. -/
theorem pieces_apply (i : grid0.Coords) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val)
    {Q0 Q1 Q2 Q3 : FVec Ideal S512x256 .bf16} (hQ0 : IsQ x3 x4 0 Q0) (hQ1 : IsQ x3 x4 1 Q1) (hQ2 : IsQ x3 x4 2 Q2) (hQ3 : IsQ x3 x4 3 Q3)
    {st : Tup Ideal} (h : Inv4 x3 x4 x5 x6 x7 (i 2).val (512 * (i 2).val) st)
    (T : Fin 4 → Fin 512 → ℕ → EReal) (hT : ∀ j (r : Fin 512), Scaled (MS x3 x4 x5 x6 (i 2).val j r) (T j r)) (hT0 : ∀ j r, ∃ x : ℝ, T j r 0 = x)
    (W : S512x512.Idx → EReal) (hW : ∀ (j : Fin 4) (r : Fin 512) (d : Fin 128), W (ix2 r (col j d))
      = ∑ k ∈ Finset.range 4096, VS x7 j d k * Ideal.div (Ideal.exp (T j r k - (Finset.range 4096).sup (T j r)))
          (∑ k ∈ Finset.range 4096, Ideal.exp (T j r k - (Finset.range 4096).sup (T j r)))) :
    ∀ pc ∈ pieces Q0 Q1 Q2 Q3 (View.readAt (Elt Ideal) arg6.view (Rect.unit (s := S4096x128) (k0_off16 i) S512x128.size (k0_off16_inb i)).toLoadRect (harg6.unread x6))
        (View.readAt (Elt Ideal) arg5.view (Rect.unit (s := S4096x512) (k0_off17 i) S512x128.size (k0_off17_inb i)).toLoadRect (harg5.unread x5)) (View.readAt (Elt Ideal) arg5.view (Rect.unit (s := S4096x512) (k0_off18 i) S512x128.size (k0_off18_inb i)).toLoadRect (harg5.unread x5)) (View.readAt (Elt Ideal) arg5.view (Rect.unit (s := S4096x512) (k0_off19 i) S512x128.size (k0_off19_inb i)).toLoadRect (harg5.unread x5)) (View.readAt (Elt Ideal) arg5.view (Rect.unit (s := S4096x512) (k0_off20 i) S512x128.size (k0_off20_inb i)).toLoadRect (harg5.unread x5))
        (View.readAt (Elt Ideal) arg7.view (Rect.unit (s := S4096x512) (k0_off17 i) S512x128.size (k0_off17_inb i)).toLoadRect (harg7.unread x7)) (View.readAt (Elt Ideal) arg7.view (Rect.unit (s := S4096x512) (k0_off18 i) S512x128.size (k0_off18_inb i)).toLoadRect (harg7.unread x7)) (View.readAt (Elt Ideal) arg7.view (Rect.unit (s := S4096x512) (k0_off19 i) S512x128.size (k0_off19_inb i)).toLoadRect (harg7.unread x7)) (View.readAt (Elt Ideal) arg7.view (Rect.unit (s := S4096x512) (k0_off20 i) S512x128.size (k0_off20_inb i)).toLoadRect (harg7.unread x7)) st, ∀ y, pc.2 y = W (pc.1.idx y) := by
  have hq := q_lt i
  have hr : ∀ (y : Fin 512) (t : Fin 128), (View.readAt (Elt Ideal) arg6.view (Rect.unit (s := S4096x128) (k0_off16 i) S512x128.size (k0_off16_inb i)).toLoadRect (harg6.unread x6)) (ix2 y t) = x6 (ix2 (kk (512 * (i 2).val + y)) t) := fun y t =>
    load_apply harg6 x6 _ _ (512 * (i 2).val) 0 (off16_eq i) y t _ t (kk_val (by omega)) (by simp)
  have hk0 : ∀ (y : Fin 512) (t : Fin 128), (View.readAt (Elt Ideal) arg5.view (Rect.unit (s := S4096x512) (k0_off17 i) S512x128.size (k0_off17_inb i)).toLoadRect (harg5.unread x5)) (ix2 y t) = x5 (ix2 (kk (512 * (i 2).val + y)) (col 0 t)) := fun y t =>
    load_apply harg5 x5 _ _ (512 * (i 2).val) 0 (off17_eq i) y t _ (col 0 t) (kk_val (by omega)) (by simp [col])
  have hv0 : ∀ (y : Fin 512) (t : Fin 128), (View.readAt (Elt Ideal) arg7.view (Rect.unit (s := S4096x512) (k0_off17 i) S512x128.size (k0_off17_inb i)).toLoadRect (harg7.unread x7)) (ix2 y t) = x7 (ix2 (kk (512 * (i 2).val + y)) (col 0 t)) := fun y t =>
    load_apply harg7 x7 _ _ (512 * (i 2).val) 0 (off17_eq i) y t _ (col 0 t) (kk_val (by omega)) (by simp [col])
  have hk1 : ∀ (y : Fin 512) (t : Fin 128), (View.readAt (Elt Ideal) arg5.view (Rect.unit (s := S4096x512) (k0_off18 i) S512x128.size (k0_off18_inb i)).toLoadRect (harg5.unread x5)) (ix2 y t) = x5 (ix2 (kk (512 * (i 2).val + y)) (col 1 t)) := fun y t =>
    load_apply harg5 x5 _ _ (512 * (i 2).val) 128 (off18_eq i) y t _ (col 1 t) (kk_val (by omega)) (by simp [col])
  have hv1 : ∀ (y : Fin 512) (t : Fin 128), (View.readAt (Elt Ideal) arg7.view (Rect.unit (s := S4096x512) (k0_off18 i) S512x128.size (k0_off18_inb i)).toLoadRect (harg7.unread x7)) (ix2 y t) = x7 (ix2 (kk (512 * (i 2).val + y)) (col 1 t)) := fun y t =>
    load_apply harg7 x7 _ _ (512 * (i 2).val) 128 (off18_eq i) y t _ (col 1 t) (kk_val (by omega)) (by simp [col])
  have hk2 : ∀ (y : Fin 512) (t : Fin 128), (View.readAt (Elt Ideal) arg5.view (Rect.unit (s := S4096x512) (k0_off19 i) S512x128.size (k0_off19_inb i)).toLoadRect (harg5.unread x5)) (ix2 y t) = x5 (ix2 (kk (512 * (i 2).val + y)) (col 2 t)) := fun y t =>
    load_apply harg5 x5 _ _ (512 * (i 2).val) 256 (off19_eq i) y t _ (col 2 t) (kk_val (by omega)) (by simp [col])
  have hv2 : ∀ (y : Fin 512) (t : Fin 128), (View.readAt (Elt Ideal) arg7.view (Rect.unit (s := S4096x512) (k0_off19 i) S512x128.size (k0_off19_inb i)).toLoadRect (harg7.unread x7)) (ix2 y t) = x7 (ix2 (kk (512 * (i 2).val + y)) (col 2 t)) := fun y t =>
    load_apply harg7 x7 _ _ (512 * (i 2).val) 256 (off19_eq i) y t _ (col 2 t) (kk_val (by omega)) (by simp [col])
  have hk3 : ∀ (y : Fin 512) (t : Fin 128), (View.readAt (Elt Ideal) arg5.view (Rect.unit (s := S4096x512) (k0_off20 i) S512x128.size (k0_off20_inb i)).toLoadRect (harg5.unread x5)) (ix2 y t) = x5 (ix2 (kk (512 * (i 2).val + y)) (col 3 t)) := fun y t =>
    load_apply harg5 x5 _ _ (512 * (i 2).val) 384 (off20_eq i) y t _ (col 3 t) (kk_val (by omega)) (by simp [col])
  have hv3 : ∀ (y : Fin 512) (t : Fin 128), (View.readAt (Elt Ideal) arg7.view (Rect.unit (s := S4096x512) (k0_off20 i) S512x128.size (k0_off20_inb i)).toLoadRect (harg7.unread x7)) (ix2 y t) = x7 (ix2 (kk (512 * (i 2).val + y)) (col 3 t)) := fun y t =>
    load_apply harg7 x7 _ _ (512 * (i 2).val) 384 (off20_eq i) y t _ (col 3 t) (kk_val (by omega)) (by simp [col])
  have key : ∀ (j : Fin 4) (off : Fin 2 → ℕ) (inb) (ho : off = ![0, 128 * j.val]) (w : FVec Ideal S512x128 .bf16)
      (hw : ∀ (r : Fin 512) (d : Fin 128), w (ix2 r d) = W (ix2 r (col j d))) (y : S512x128.Idx),
      w y = W ((Rect.unit (s := S512x512) off S512x128.size inb).idx y) := by
    intro j off inb ho w hw y
    subst ho
    have ey : y = ix2 (y 0) (y 1) := funext fun z => by
      match z with
      | ⟨0, _⟩ => rfl
      | ⟨1, _⟩ => rfl
    rw [ey]
    refine (hw (y 0) (y 1)).trans (congrArg W (funext fun z => Fin.ext ?_))
    refine Eq.trans ?_ (Rect.idx_unit_val (s := S512x512) ![0, 128 * j.val] S512x128.size inb (ix2 (y 0) (y 1)) z).symm
    match z with
    | ⟨0, _⟩ => exact (Nat.zero_add _).symm
    | ⟨1, _⟩ => rfl
  intro pc hpc
  unfold pieces at hpc
  rcases List.mem_cons.mp hpc with rfl | hpc
  · exact key 3 _ inb_S512x512_S512x128_0_384 rfl _ fun r d => (headD hf hq hQ3 hr hk3 hv3 h.h3 r d (hT 3 r) (hT0 3 r)).trans (hW 3 r d).symm
  rcases List.mem_cons.mp hpc with rfl | hpc
  · exact key 2 _ inb_S512x512_S512x128_0_256 rfl _ fun r d => (headD hf hq hQ2 hr hk2 hv2 h.h2 r d (hT 2 r) (hT0 2 r)).trans (hW 2 r d).symm
  rcases List.mem_cons.mp hpc with rfl | hpc
  · exact key 1 _ inb_S512x512_S512x128_0_128 rfl _ fun r d => (headD hf hq hQ1 hr hk1 hv1 h.h1 r d (hT 1 r) (hT0 1 r)).trans (hW 1 r d).symm
  rcases List.mem_cons.mp hpc with rfl | hpc
  · exact key 0 _ inb_S512x512_S512x128_0_0 rfl _ fun r d => (headD hf hq hQ0 hr hk0 hv0 h.h0 r d (hT 0 r) (hT0 0 r)).trans (hW 0 r d).symm
  exact absurd hpc List.not_mem_nil

/-- The output block the body leaves. -/
theorem out_apply (c : Dev nD) (i : grid0.Coords) (arg3 : Memref sig .tc .vmem S512x512 .bf16) (harg3 : arg3.IsWhole) (arg4 : Memref sig .tc .vmem S512x256 .bf16) (harg4 : arg4.IsWhole) (arg5 : Memref sig .tc .vmem S4096x512 .bf16) (harg5 : arg5.IsWhole) (arg6 : Memref sig .tc .vmem S4096x128 .bf16) (harg6 : arg6.IsWhole) (arg7 : Memref sig .tc .vmem S4096x512 .bf16) (harg7 : arg7.IsWhole) (arg8 : Memref sig .tc .vmem S512x512 .bf16) (harg8 : arg8.IsWhole)
    (x3 : Vec Ideal S512x512 .bf16) (x4 : Vec Ideal S512x256 .bf16) (x5 : Vec Ideal S4096x512 .bf16) (x6 : Vec Ideal S4096x128 .bf16) (x7 : Vec Ideal S4096x512 .bf16) (hf : Fin4 x3 x4 x5 x6 (i 2).val)
    (T : Fin 4 → Fin 512 → ℕ → EReal) (hT : ∀ j (r : Fin 512), Scaled (MS x3 x4 x5 x6 (i 2).val j r) (T j r)) (hT0 : ∀ j r, ∃ x : ℝ, T j r 0 = x)
    (W : S512x512.Idx → EReal) (hW : ∀ (j : Fin 4) (r : Fin 512) (d : Fin 128), W (ix2 r (col j d))
      = ∑ k ∈ Finset.range 4096, VS x7 j d k * Ideal.div (Ideal.exp (T j r k - (Finset.range 4096).sup (T j r)))
          (∑ k ∈ Finset.range 4096, Ideal.exp (T j r k - (Finset.range 4096).sup (T j r)))) (y : S512x512.Idx) :
    out (F := Ideal) c i arg3 harg3 arg4 harg4 arg5 harg5 arg6 harg6 arg7 harg7 arg8 harg8 x3 x4 x5 x6 x7 y = W y := by
  by_cases hc : k0_cond1 i = 1#1
  ·
    unfold out
    rw [dif_pos hc, View.read_writes_eq_canon _ _ _ (coverA c i arg3 harg3 arg4 harg4 arg5 harg5 arg6 harg6 arg7 harg7 arg8 harg8 hc x3 x4 x5 x6 x7)]
    refine View.canon_apply_of_pieces W _ ?_ y (coverA c i arg3 harg3 arg4 harg4 arg5 harg5 arg6 harg6 arg7 harg7 arg8 harg8 hc x3 x4 x5 x6 x7 y)
    rw [runA_eq]
    have h1 := T1A_inv c i arg3 harg3 arg4 harg4 arg5 harg5 arg6 harg6 arg7 harg7 arg8 harg8 x3 x4 x5 x6 x7 hf _ le_rfl
    rw [trips1] at h1
    have hm := (cond1_iff i).mp hc
    rw [show 1024 * ((i 2).val / 2) = 512 * ((i 2).val - 1) by omega, ← trips1] at h1
    have h2 := odd5_inv i hc arg5 harg5 arg6 harg6 arg7 harg7 x3 x4 x5 x6 x7 hf (runA_Q0 c arg3 harg3 arg4 harg4 x3 x4) (runA_Q1 c arg3 harg3 arg4 harg4 x3 x4) (runA_Q2 c arg3 harg3 arg4 harg4 x3 x4) (runA_Q3 c arg3 harg3 arg4 harg4 x3 x4) h1
    rw [show 512 * ((i 2).val - 1) + 512 = 512 * (i 2).val by omega] at h2
    rw [T2A_eq]
    exact pieces_apply i arg5 harg5 arg6 harg6 arg7 harg7 x3 x4 x5 x6 x7 hf (runA_Q0 c arg3 harg3 arg4 harg4 x3 x4) (runA_Q1 c arg3 harg3 arg4 harg4 x3 x4) (runA_Q2 c arg3 harg3 arg4 harg4 x3 x4) (runA_Q3 c arg3 harg3 arg4 harg4 x3 x4) h2 T hT hT0 W hW
  ·
    unfold out
    rw [dif_neg hc, View.read_writes_eq_canon _ _ _ (coverB c i arg3 harg3 arg4 harg4 arg5 harg5 arg6 harg6 arg7 harg7 arg8 harg8 hc x3 x4 x5 x6 x7)]
    refine View.canon_apply_of_pieces W _ ?_ y (coverB c i arg3 harg3 arg4 harg4 arg5 harg5 arg6 harg6 arg7 harg7 arg8 harg8 hc x3 x4 x5 x6 x7 y)
    rw [runB_eq]
    have h1 := T1B_inv c i arg3 harg3 arg4 harg4 arg5 harg5 arg6 harg6 arg7 harg7 arg8 harg8 x3 x4 x5 x6 x7 hf _ le_rfl
    rw [trips1] at h1
    have hm : ¬ (i 2).val % 2 = 1 := fun h => hc ((cond1_iff i).mpr h)
    rw [show 1024 * ((i 2).val / 2) = 512 * (i 2).val by omega, ← trips1] at h1
    rw [T2B_eq]
    exact pieces_apply i arg5 harg5 arg6 harg6 arg7 harg7 x3 x4 x5 x6 x7 hf (runB_Q0 c arg3 harg3 arg4 harg4 x3 x4) (runB_Q1 c arg3 harg3 arg4 harg4 x3 x4) (runB_Q2 c arg3 harg3 arg4 harg4 x3 x4) (runB_Q3 c arg3 harg3 arg4 harg4 x3 x4) h1 T hT hT0 W hW

end Cert.KernelIdeal.Steps

end
-- ==== Proof.Ref.lean ====
/- The reference's result at an index over the extended reals, when its queries and keys are real: the softmax-weighted values,
   the softmax over the masked scores. -/
module

public import proofs.«01_k».proof.Proof.Gen.ReferenceIdeal.Read
public import proofs.«01_k».proof.Proof.KI.Heads

@[expose] public section

set_option maxRecDepth 16384

noncomputable section

namespace Cert.ReferenceIdeal.Read

open Idealize.ShloMosaic Idealize.ShloMosaic.TcCoe Idealize.ShloMosaic.Tactic
open Cert.ReferenceIdeal Cert.ReferenceIdeal.Gen Cert.Attn
open Cert.KernelIdeal.Steps (kk kk_of_lt fold_max_eq sum_fin_eq neg_inf_f32)

/-- 1/√192 as printed. -/
def scale : EReal := Ideal.ofBits .f32 0x3D93CD3A#32

theorem scale_real : ∃ x : ℝ, 0 < x ∧ scale = x := by
  refine ⟨9686330 * 2 ^ (-27 : ℤ), by norm_num, ?_⟩
  unfold scale
  simp [Ideal.ofBits, Ideal.ieee, -EReal.coe_mul]

section
variable (x0 : (⟨S4x4096x32x128, .f32⟩ : BufTy).Contents (Elt Ideal)) (x1 : (⟨S4x4096x32x64, .f32⟩ : BufTy).Contents (Elt Ideal))
  (x2 : (⟨S4x4096x32x128, .f32⟩ : BufTy).Contents (Elt Ideal)) (x3 : (⟨S4x4096x64, .f32⟩ : BufTy).Contents (Elt Ideal))
  (x4 : (⟨S4x4096x32x128, .f32⟩ : BufTy).Contents (Elt Ideal))

/-- The reference's score, and the score under the causal mask. -/
def RS (b : Fin 4) (h : Fin 32) (q : Fin 4096) (k : ℕ) : EReal :=
  (∑ t : Fin 128, x0 (ix4 b q h t) * x2 (ix4 b (kk k) h t) + ∑ t : Fin 64, x3 (ix3 b (kk k) t) * x1 (ix4 b q h t)) * scale

def RT (b : Fin 4) (h : Fin 32) (q : Fin 4096) (k : ℕ) : EReal := if k ≤ q.val then RS x0 x1 x2 x3 b h q k else ⊥

theorem v5_eq (b : Fin 4) (h : Fin 32) (q k : Fin 4096) :
    val_main_v5 (F := Ideal) x0 x1 x2 x3 (ix4 b h q k) = RS x0 x1 x2 x3 b h q k := by
  unfold RS
  rw [kk_of_lt k.isLt, val_main_v5_apply, val_main_v3_apply, val_main_v0_apply, val_main_v2_apply, val_main_v1_apply, val_main_v4_apply]
  show (_ + _) * _ = (_ + _) * _
  congr 1
  congr 1
  · refine Finset.sum_congr rfl fun t _ => congrArg₂ _ (congrArg x0 (funext fun a => ?_)) (congrArg x2 (funext fun a => ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl
  · refine Finset.sum_congr rfl fun t _ => congrArg₂ _ (congrArg x3 (funext fun a => ?_)) (congrArg x1 (funext fun a => ?_))
    · match a with | ⟨0, _⟩ => rfl | ⟨1, _⟩ => rfl | ⟨2, _⟩ => rfl
    · match a with | ⟨0, _⟩ => rfl | ⟨1, _⟩ => rfl | ⟨2, _⟩ => rfl | ⟨3, _⟩ => rfl

theorem v13_eq (b : Fin 4) (h : Fin 32) (q k : Fin 4096) :
    val_main_v13 (F := Ideal) x0 x1 x2 x3 (ix4 b h q k) = RT x0 x1 x2 x3 b h q k := by
  rw [val_main_v13_apply, v5_eq]
  have e : val_main_call0_v1 (F := Ideal) (ix4 b h q k) = BitVec.ofBool (decide (k.val ≤ q.val)) := by
    rw [val_main_call0_v1_apply, val_main_v12_apply, val_main_v11_apply, val_main_v9_apply, val_main_v10_apply, val_main_v7_apply,
      val_main_v8_apply, val_main_v6_apply, val_main_v6_apply]
    exact WordCmp.cmpi_sle_ofNat (Nat.lt_trans k.isLt (by norm_num)) (Nat.lt_trans q.isLt (by norm_num))
  have e2 : val_main_call0_v2 (F := Ideal) (ix4 b h q k) = ⊥ := by
    rw [val_main_call0_v2_apply]; exact neg_inf_f32
  rw [e, e2]
  unfold RT
  by_cases hkq : k.val ≤ q.val
  · rw [if_pos hkq, decide_eq_true hkq]; rfl
  · rw [if_neg hkq, decide_eq_false hkq]; rfl

theorem v14_eq (b : Fin 4) (h : Fin 32) (q : Fin 4096) :
    val_main_v14 (F := Ideal) x0 x1 x2 x3 (ix3 b h q) = (Finset.range 4096).sup (RT x0 x1 x2 x3 b h q) := by
  unfold val_main_v14
  have hl : ∀ k : Fin 4096, (val_main_v13 (F := Ideal) x0 x1 x2 x3 ∘ (show S4x32x4096x4096.Reduces [3] S4x32x4096 by decide).lift (ix3 b h q)) k
      = RT x0 x1 x2 x3 b h q k := fun k => by
    rw [← v13_eq]
    refine congrArg (val_main_v13 (F := Ideal) x0 x1 x2 x3) (funext fun a => ?_)
    match a with | ⟨0, _⟩ => rfl | ⟨1, _⟩ => rfl | ⟨2, _⟩ => rfl | ⟨3, _⟩ => rfl
  refine (Host.reduce_eq_fold_single (FloatOps.maximumf (F := Ideal) (φ := .f32)) _ _ _ (by decide) h_S_ _).trans ?_
  refine Eq.trans ?_ (fold_max_eq _ _ hl)
  show Finset.fold max (Ideal.ofBits .f32 0xFF800000#32) _ _ = _
  rw [neg_inf_f32]
  rfl

theorem v16_eq (b : Fin 4) (h : Fin 32) (q : Fin 4096) :
    val_main_v16 (F := Ideal) x0 x1 x2 x3 (ix3 b h q) = (Finset.range 4096).sup (RT x0 x1 x2 x3 b h q) := by
  rw [val_main_v16_apply, v14_eq, val_main_v15_apply]
  show max (Ideal.ofBits .f32 0xFF800000#32) _ = _
  rw [neg_inf_f32]
  exact bot_sup_eq _

theorem v20_eq (b : Fin 4) (h : Fin 32) (q k : Fin 4096) :
    val_main_v20 (F := Ideal) x0 x1 x2 x3 (ix4 b h q k)
      = Ideal.exp (RT x0 x1 x2 x3 b h q k - (Finset.range 4096).sup (RT x0 x1 x2 x3 b h q)) := by
  rw [val_main_v20_apply, val_main_v19_apply, v13_eq, val_main_v18_apply, val_main_v17_apply]
  rw [show idx_main_v17 (idx_main_v18 (ix4 b h q k)) = ix3 b h q from funext fun a => by
    match a with | ⟨0, _⟩ => rfl | ⟨1, _⟩ => rfl | ⟨2, _⟩ => rfl, v16_eq]
  rfl

theorem v24_eq (b : Fin 4) (h : Fin 32) (q k : Fin 4096) :
    val_main_v24 (F := Ideal) x0 x1 x2 x3 (ix4 b h q k)
      = Ideal.div (Ideal.exp (RT x0 x1 x2 x3 b h q k - (Finset.range 4096).sup (RT x0 x1 x2 x3 b h q)))
          (∑ k ∈ Finset.range 4096, Ideal.exp (RT x0 x1 x2 x3 b h q k - (Finset.range 4096).sup (RT x0 x1 x2 x3 b h q))) := by
  rw [val_main_v24_apply, v20_eq, val_main_v23_apply, val_main_v22_apply]
  rw [show idx_main_v22 (idx_main_v23 (ix4 b h q k)) = ix3 b h q from funext fun a => by
    match a with | ⟨0, _⟩ => rfl | ⟨1, _⟩ => rfl | ⟨2, _⟩ => rfl, val_main_v21_apply]
  have e : ∀ k' : Fin 4096, val_main_v20 (F := Ideal) x0 x1 x2 x3 (idx_main_v21 (ix3 b h q) k')
      = Ideal.exp (RT x0 x1 x2 x3 b h q k' - (Finset.range 4096).sup (RT x0 x1 x2 x3 b h q)) := fun k' => by
    rw [← v20_eq]
    refine congrArg (val_main_v20 (F := Ideal) x0 x1 x2 x3) (funext fun a => ?_)
    match a with | ⟨0, _⟩ => rfl | ⟨1, _⟩ => rfl | ⟨2, _⟩ => rfl | ⟨3, _⟩ => rfl
  rw [sum_fin_eq _ (fun k => Ideal.exp (RT x0 x1 x2 x3 b h q k - (Finset.range 4096).sup (RT x0 x1 x2 x3 b h q))) e]
  have z : (val_main_cst_3 (F := Ideal)) (Shape.Idx.first h_S_) = 0 := by
    rw [val_main_cst_3_apply]
    show Ideal.ofBits .f32 0x00000000#32 = 0
    simp [Ideal.ofBits, Ideal.ieee]
  rw [z, zero_add]
  rfl

/-- The reference's result at row `4096·b + q` and column `128·h + d`. -/
theorem ref_apply (b : Fin 4) (h : Fin 32) (q : Fin 4096) (d : Fin 128) (i : S16384x4096.Idx)
    (hi0 : (i 0).val = 4096 * b.val + q.val) (hi1 : (i 1).val = 128 * h.val + d.val) :
    val_main_v28 (F := Ideal) x0 x1 x2 x3 x4 i
      = ∑ k ∈ Finset.range 4096, x4 (ix4 b (kk k) h d) * Ideal.div (Ideal.exp (RT x0 x1 x2 x3 b h q k - (Finset.range 4096).sup (RT x0 x1 x2 x3 b h q)))
          (∑ k ∈ Finset.range 4096, Ideal.exp (RT x0 x1 x2 x3 b h q k - (Finset.range 4096).sup (RT x0 x1 x2 x3 b h q))) := by
  rw [val_main_v28_apply]
  refine (show _ = val_main_v27 (F := Ideal) x0 x1 x2 x3 x4 i from rfl).trans ?_
  rw [val_main_v27_apply]
  have ei : idx_main_v27 i = ix4 b q h d := funext fun a => by
    have := b.isLt; have := q.isLt; have := h.isLt; have := d.isLt
    match a with
    | ⟨0, _⟩ => exact Fin.ext (show ((i 0).val * 4096 + (i 1).val) / 16777216 = b.val by rw [hi0, hi1]; omega)
    | ⟨1, _⟩ => exact Fin.ext (show ((i 0).val * 4096 + (i 1).val) / 4096 % 4096 = q.val by rw [hi0, hi1]; omega)
    | ⟨2, _⟩ => exact Fin.ext (show ((i 0).val * 4096 + (i 1).val) / 128 % 32 = h.val by rw [hi0, hi1]; omega)
    | ⟨3, _⟩ => exact Fin.ext (show ((i 0).val * 4096 + (i 1).val) % 128 = d.val by rw [hi0, hi1]; omega)
  rw [ei, val_main_v26_apply, val_main_v25_apply]
  refine sum_fin_eq _ _ fun k => ?_
  rw [kk_of_lt k.isLt]
  refine congrArg₂ _ (congrArg x4 (funext fun a => ?_)) ?_
  · match a with | ⟨0, _⟩ => rfl | ⟨1, _⟩ => rfl | ⟨2, _⟩ => rfl | ⟨3, _⟩ => rfl
  · rw [← v24_eq]
    refine congrArg (val_main_v24 (F := Ideal) x0 x1 x2 x3) (funext fun a => ?_)
    match a with | ⟨0, _⟩ => rfl | ⟨1, _⟩ => rfl | ⟨2, _⟩ => rfl | ⟨3, _⟩ => rfl

end

end Cert.ReferenceIdeal.Read

end
-- ==== Proof.KI.Host.lean ====
/- What the host operations leave in the arrays the kernel stages, read at an index over the extended reals. -/
module

public import proofs.«01_k».proof.Proof.KI.Body
public import proofs.«01_k».proof.Proof.Ref

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.Attn
open Cert.ReferenceIdeal.Read (scale scale_real)

/-- The factor the kernel's queries carry: 1/√192 times 1/log 2, the logarithm of two divided on the host. -/
def sig2 : EReal := scale * Ideal.div (Ideal.ofBits .f32 0x3F800000#32) (Ideal.log (Ideal.ofBits .f32 0x40000000#32))

theorem sig2_eq (s : ℝ) (hs : scale = s) : sig2 = ((s * (1 / Real.log 2) : ℝ) : EReal) := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  unfold sig2
  rw [h1, h2, hs]
  rw [Ideal.log_coe, if_neg (by norm_num : ¬(2 : ℝ) ≤ 0), Ideal.div_coe (Real.log_pos (by norm_num)).ne', ← EReal.coe_mul, ← EReal.coe_mul]
  norm_num

variable (m : (ℓ : Loc nD τ sig) → Buf (Elt Ideal) ℓ)

/-- The five arguments as arrays of extended reals. -/
abbrev A0 (c : Dev nD) : S4x4096x32x128.Idx → EReal := m ((c : Thread nD τ).loc main_arg0)
abbrev A1 (c : Dev nD) : S4x4096x32x64.Idx → EReal := m ((c : Thread nD τ).loc main_arg1)
abbrev A2 (c : Dev nD) : S4x4096x32x128.Idx → EReal := m ((c : Thread nD τ).loc main_arg2)
abbrev A3 (c : Dev nD) : S4x4096x64.Idx → EReal := m ((c : Thread nD τ).loc main_arg3)
abbrev A4 (c : Dev nD) : S4x4096x32x128.Idx → EReal := m ((c : Thread nD τ).loc main_arg4)

/-- The four staged arrays as arrays of extended reals. -/
abbrev W6 (c : Dev nD) : S16384x4096.Idx → EReal := V m c main_v6
abbrev W10 (c : Dev nD) : S16384x2048.Idx → EReal := V m c main_v10
abbrev W14 (c : Dev nD) : S16384x8192.Idx → EReal := V m c main_v14
abbrev W17 (c : Dev nD) : S16384x128.Idx → EReal := V m c main_v17

theorem W6_eq (c : Dev nD) : W6 m c = fun i => shapeCast S16384x4096 (A0 m c) shapeCasts_S4x4096x32x128_S16384x4096 i * sig2 := by
  unfold W6 V
  after_results
  rfl

theorem W10_eq (c : Dev nD) : W10 m c = fun i => shapeCast S16384x2048 (A1 m c) shapeCasts_S4x4096x32x64_S16384x2048 i * sig2 := by
  unfold W10 V
  after_results
  rfl

theorem W14_eq (c : Dev nD) : W14 m c = concatenate S16384x8192 1
    [⟨S16384x4096, shapeCast S16384x4096 (A2 m c) shapeCasts_S4x4096x32x128_S16384x4096⟩,
      ⟨S16384x4096, shapeCast S16384x4096 (A4 m c) shapeCasts_S4x4096x32x128_S16384x4096⟩] concatenates_S16384x4096_S16384x4096_S16384x8192_d1 := by
  unfold W14 V
  after_results
  rfl

theorem W17_eq (c : Dev nD) : W17 m c = concatenate S16384x128 1
    [⟨S16384x64, shapeCast S16384x64 (A3 m c) shapeCasts_S4x4096x64_S16384x64⟩,
      ⟨S16384x64, shapeCast S16384x64 (A3 m c) shapeCasts_S4x4096x64_S16384x64⟩] concatenates_S16384x64_S16384x64_S16384x128_d1 := by
  unfold W17 V
  after_results
  rfl

/-- The arguments' heads side by side: row `4096·b + q`, column `128·h + t`. -/
theorem cast128 (x : S4x4096x32x128.Idx → EReal) (b : Fin 4) (q : Fin 4096) (h : Fin 32) (t : Fin 128) (i : S16384x4096.Idx)
    (hi0 : (i 0).val = 4096 * b.val + q.val) (hi1 : (i 1).val = 128 * h.val + t.val) :
    shapeCast S16384x4096 x shapeCasts_S4x4096x32x128_S16384x4096 i = x (ix4 b q h t) := by
  refine shapeCast_apply x _ i _ ?_
  rw [Shape.rowMajor_val_four, Shape.rowMajor_val_two]
  show ((b.val * 4096 + q.val) * 32 + h.val) * 128 + t.val = (i 0).val * 4096 + (i 1).val
  omega

theorem cast64 (x : S4x4096x32x64.Idx → EReal) (b : Fin 4) (q : Fin 4096) (h : Fin 32) (t : Fin 64) (i : S16384x2048.Idx)
    (hi0 : (i 0).val = 4096 * b.val + q.val) (hi1 : (i 1).val = 64 * h.val + t.val) :
    shapeCast S16384x2048 x shapeCasts_S4x4096x32x64_S16384x2048 i = x (ix4 b q h t) := by
  refine shapeCast_apply x _ i _ ?_
  rw [Shape.rowMajor_val_four, Shape.rowMajor_val_two]
  show ((b.val * 4096 + q.val) * 32 + h.val) * 64 + t.val = (i 0).val * 2048 + (i 1).val
  omega

theorem W6_apply (c : Dev nD) (b : Fin 4) (q : Fin 4096) (h : Fin 32) (t : Fin 128) (i : S16384x4096.Idx)
    (hi0 : (i 0).val = 4096 * b.val + q.val) (hi1 : (i 1).val = 128 * h.val + t.val) :
    W6 m c i = A0 m c (ix4 b q h t) * sig2 := by
  rw [W6_eq]
  dsimp only
  rw [cast128 _ b q h t i hi0 hi1]

theorem W10_apply (c : Dev nD) (b : Fin 4) (q : Fin 4096) (h : Fin 32) (t : Fin 64) (i : S16384x2048.Idx)
    (hi0 : (i 0).val = 4096 * b.val + q.val) (hi1 : (i 1).val = 64 * h.val + t.val) :
    W10 m c i = A1 m c (ix4 b q h t) * sig2 := by
  rw [W10_eq]
  dsimp only
  rw [cast64 _ b q h t i hi0 hi1]

theorem W14_key (c : Dev nD) (b : Fin 4) (k : Fin 4096) (h : Fin 32) (t : Fin 128) (i : S16384x8192.Idx)
    (hi0 : (i 0).val = 4096 * b.val + k.val) (hi1 : (i 1).val = 128 * h.val + t.val) : W14 m c i = A2 m c (ix4 b k h t) := by
  have hb := b.isLt; have hk := k.isLt; have hh := h.isLt; have ht := t.isLt
  rw [W14_eq]
  refine (concatenate_pair_apply_left (t := S16384x8192) (s₁ := S16384x4096) (s₂ := S16384x4096) 1 _ _ _ i rfl
    (ix2 ⟨(i 0).val, (i 0).isLt⟩ ⟨128 * h.val + t.val, by omega⟩) fun a => ?_).trans (cast128 _ b k h t _ hi0 rfl)
  match a with
  | ⟨0, _⟩ => rfl
  | ⟨1, _⟩ => exact hi1.symm

theorem W14_val (c : Dev nD) (b : Fin 4) (k : Fin 4096) (h : Fin 32) (t : Fin 128) (i : S16384x8192.Idx)
    (hi0 : (i 0).val = 4096 * b.val + k.val) (hi1 : (i 1).val = 4096 + (128 * h.val + t.val)) : W14 m c i = A4 m c (ix4 b k h t) := by
  have hb := b.isLt; have hk := k.isLt; have hh := h.isLt; have ht := t.isLt
  rw [W14_eq]
  refine (concatenate_pair_apply_right (t := S16384x8192) (s₁ := S16384x4096) (s₂ := S16384x4096) 1 _ _ _ i rfl rfl
    (ix2 ⟨(i 0).val, (i 0).isLt⟩ ⟨128 * h.val + t.val, by omega⟩) (fun a ha => ?_) ?_).trans (cast128 _ b k h t _ hi0 rfl)
  · match a, ha with
    | ⟨0, _⟩, _ => rfl
    | ⟨1, _⟩, ha => exact absurd rfl ha
  · show 128 * h.val + t.val + 4096 = (i 1).val
    omega

theorem cast3 (x : S4x4096x64.Idx → EReal) (b : Fin 4) (k : Fin 4096) (t : Fin 64) (i : S16384x64.Idx)
    (hi0 : (i 0).val = 4096 * b.val + k.val) (hi1 : (i 1).val = t.val) :
    shapeCast S16384x64 x shapeCasts_S4x4096x64_S16384x64 i = x (ix3 b k t) := by
  refine shapeCast_apply x _ i _ ?_
  rw [Shape.rowMajor_val_three, Shape.rowMajor_val_two]
  show (b.val * 4096 + k.val) * 64 + t.val = (i 0).val * 64 + (i 1).val
  omega

/-- The positional keys stand twice side by side: column `64·p + t` for `p` either half. -/
theorem W17_apply (c : Dev nD) (b : Fin 4) (k : Fin 4096) (p : ℕ) (hp : p < 2) (t : Fin 64) (i : S16384x128.Idx)
    (hi0 : (i 0).val = 4096 * b.val + k.val) (hi1 : (i 1).val = 64 * p + t.val) : W17 m c i = A3 m c (ix3 b k t) := by
  have hb := b.isLt; have hk := k.isLt; have ht := t.isLt
  rw [W17_eq]
  obtain rfl | rfl : p = 0 ∨ p = 1 := by omega
  · refine (concatenate_pair_apply_left (t := S16384x128) (s₁ := S16384x64) (s₂ := S16384x64) 1 _ _ _ i rfl
      (ix2 ⟨(i 0).val, (i 0).isLt⟩ t) fun a => ?_).trans (cast3 _ b k t _ hi0 rfl)
    match a with
    | ⟨0, _⟩ => rfl
    | ⟨1, _⟩ => show t.val = (i 1).val; omega
  · refine (concatenate_pair_apply_right (t := S16384x128) (s₁ := S16384x64) (s₂ := S16384x64) 1 _ _ _ i rfl rfl
      (ix2 ⟨(i 0).val, (i 0).isLt⟩ t) (fun a ha => ?_) ?_).trans (cast3 _ b k t _ hi0 rfl)
    · match a, ha with
      | ⟨0, _⟩, _ => rfl
      | ⟨1, _⟩, ha => exact absurd rfl ha
    · show t.val + 64 = (i 1).val
      omega

end Cert.KernelIdeal.Hand

end
-- ==== Proof.KI.Value.lean ====
/- The kernel's result is the reference's over the extended reals, when the queries and keys are real: point by point, then the
   whole array, every block of which some point writes. -/
module

public import proofs.«01_k».proof.Proof.KI.Host

@[expose] public section

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen Cert.KernelIdeal.Steps Cert.Attn
open Cert.ReferenceIdeal.Read (scale scale_real RS RT ref_apply val_main_v28)

/-! ## The grid: batch entry `t / 64`, four-head group `t / 8 % 8`, row block `t % 8` -/

theorem coord2 : ∀ t : Fin grid0.N, (grid0.coords t 2).val = t.val % 8 := by decide +kernel
theorem index0 : ∀ t : Fin grid0.N, win0_0.index t 0 = 8 * (t.val / 64) + t.val % 8 ∧ win0_0.index t 1 = t.val / 8 % 8 := by decide +kernel
theorem index1 : ∀ t : Fin grid0.N, win0_1.index t 0 = 8 * (t.val / 64) + t.val % 8 ∧ win0_1.index t 1 = t.val / 8 % 8 := by decide +kernel
theorem index2 : ∀ t : Fin grid0.N, win0_2.index t 0 = t.val / 64 ∧ win0_2.index t 1 = t.val / 8 % 8 := by decide +kernel
theorem index3 : ∀ t : Fin grid0.N, win0_3.index t 0 = t.val / 64 ∧ win0_3.index t 1 = 0 := by decide +kernel
theorem index4 : ∀ t : Fin grid0.N, win0_4.index t 0 = t.val / 64 ∧ win0_4.index t 1 = 8 + t.val / 8 % 8 := by decide +kernel
theorem index5 : ∀ t : Fin grid0.N, win0_5.index t 0 = 8 * (t.val / 64) + t.val % 8 ∧ win0_5.index t 1 = t.val / 8 % 8 := by decide +kernel

variable (m : (ℓ : Loc nD τ sig) → Buf (Elt Ideal) ℓ)

theorem iblk0_apply (c : Dev nD) (t : Fin cfg0.N) (y : S512x512.Idx) (z : S16384x4096.Idx)
    (h0 : (z 0).val = 512 * (8 * (t.val / 64) + t.val % 8) + (y 0).val) (h1 : (z 1).val = 512 * (t.val / 8 % 8) + (y 1).val) :
    (iblk m c 0 t : S512x512.Idx → EReal) y = W6 m c z := by
  unfold iblk
  rw [View.read_apply]
  show V m c main_v6 _ = V m c main_v6 _
  congr 1
  funext a
  apply Fin.ext
  match a with
  | ⟨0, _⟩ => show win0_0.index t 0 * 512 + 1 * (y 0).val = (z 0).val; rw [(index0 t).1]; omega
  | ⟨1, _⟩ => show win0_0.index t 1 * 512 + 1 * (y 1).val = (z 1).val; rw [(index0 t).2]; omega

theorem iblk1_apply (c : Dev nD) (t : Fin cfg0.N) (y : S512x256.Idx) (z : S16384x2048.Idx)
    (h0 : (z 0).val = 512 * (8 * (t.val / 64) + t.val % 8) + (y 0).val) (h1 : (z 1).val = 256 * (t.val / 8 % 8) + (y 1).val) :
    (iblk m c 1 t : S512x256.Idx → EReal) y = W10 m c z := by
  unfold iblk
  rw [View.read_apply]
  show V m c main_v10 _ = V m c main_v10 _
  congr 1
  funext a
  apply Fin.ext
  match a with
  | ⟨0, _⟩ => show win0_1.index t 0 * 512 + 1 * (y 0).val = (z 0).val; rw [(index1 t).1]; omega
  | ⟨1, _⟩ => show win0_1.index t 1 * 256 + 1 * (y 1).val = (z 1).val; rw [(index1 t).2]; omega

theorem iblk2_apply (c : Dev nD) (t : Fin cfg0.N) (y : S4096x512.Idx) (z : S16384x8192.Idx)
    (h0 : (z 0).val = 4096 * (t.val / 64) + (y 0).val) (h1 : (z 1).val = 512 * (t.val / 8 % 8) + (y 1).val) :
    (iblk m c 2 t : S4096x512.Idx → EReal) y = W14 m c z := by
  unfold iblk
  rw [View.read_apply]
  show V m c main_v14 _ = V m c main_v14 _
  congr 1
  funext a
  apply Fin.ext
  match a with
  | ⟨0, _⟩ => show win0_2.index t 0 * 4096 + 1 * (y 0).val = (z 0).val; rw [(index2 t).1]; omega
  | ⟨1, _⟩ => show win0_2.index t 1 * 512 + 1 * (y 1).val = (z 1).val; rw [(index2 t).2]; omega

theorem iblk3_apply (c : Dev nD) (t : Fin cfg0.N) (y : S4096x128.Idx) (z : S16384x128.Idx)
    (h0 : (z 0).val = 4096 * (t.val / 64) + (y 0).val) (h1 : (z 1).val = (y 1).val) :
    (iblk m c 3 t : S4096x128.Idx → EReal) y = W17 m c z := by
  unfold iblk
  rw [View.read_apply]
  show V m c main_v17 _ = V m c main_v17 _
  congr 1
  funext a
  apply Fin.ext
  match a with
  | ⟨0, _⟩ => show win0_3.index t 0 * 4096 + 1 * (y 0).val = (z 0).val; rw [(index3 t).1]; omega
  | ⟨1, _⟩ => show win0_3.index t 1 * 128 + 1 * (y 1).val = (z 1).val; rw [(index3 t).2]; omega

theorem iblk4_apply (c : Dev nD) (t : Fin cfg0.N) (y : S4096x512.Idx) (z : S16384x8192.Idx)
    (h0 : (z 0).val = 4096 * (t.val / 64) + (y 0).val) (h1 : (z 1).val = 4096 + 512 * (t.val / 8 % 8) + (y 1).val) :
    (iblk m c 4 t : S4096x512.Idx → EReal) y = W14 m c z := by
  unfold iblk
  rw [View.read_apply]
  show V m c main_v14 _ = V m c main_v14 _
  congr 1
  funext a
  apply Fin.ext
  match a with
  | ⟨0, _⟩ => show win0_4.index t 0 * 4096 + 1 * (y 0).val = (z 0).val; rw [(index4 t).1]; omega
  | ⟨1, _⟩ => show win0_4.index t 1 * 512 + 1 * (y 1).val = (z 1).val; rw [(index4 t).2]; omega

/-! ## A point's batch entry, head and query -/

def bOf (t : Fin cfg0.N) : Fin 4 := ⟨t.val / 64, by have := t.isLt.trans_eq N_0; omega⟩
def hOf (t : Fin cfg0.N) (j : Fin 4) : Fin 32 := ⟨4 * (t.val / 8 % 8) + j.val, by omega⟩
def qOf (t : Fin cfg0.N) (r : ℕ) : Fin 4096 := ⟨512 * (t.val % 8) + (rr r).val, by have := (rr r).isLt; omega⟩

theorem x3_apply (c : Dev nD) (t : Fin cfg0.N) (j : Fin 4) (r : ℕ) (u : Fin 128) :
    (iblk m c 0 t : S512x512.Idx → EReal) (ix2 (rr r) (col j u)) = A0 m c (ix4 (bOf t) (qOf t r) (hOf t j) u) * sig2 := by
  have hN := t.isLt.trans_eq N_0; have := (rr r).isLt; have := j.isLt; have := u.isLt
  have h0 : 512 * (8 * (t.val / 64) + t.val % 8) + (rr r).val = 4096 * (bOf t).val + (qOf t r).val := by
    show _ = 4096 * (t.val / 64) + (512 * (t.val % 8) + (rr r).val); omega
  have h1 : 512 * (t.val / 8 % 8) + (col j u).val = 128 * (hOf t j).val + u.val := by
    show 512 * (t.val / 8 % 8) + (128 * j.val + u.val) = 128 * (4 * (t.val / 8 % 8) + j.val) + u.val; omega
  refine (iblk0_apply m c t _ (ix2 ⟨512 * (8 * (t.val / 64) + t.val % 8) + (rr r).val, by omega⟩
    ⟨512 * (t.val / 8 % 8) + (col j u).val, by have := (col j u).isLt; omega⟩) rfl rfl).trans
    (W6_apply m c (bOf t) (qOf t r) (hOf t j) u _ h0 h1)

theorem x4_apply (c : Dev nD) (t : Fin cfg0.N) (j : Fin 4) (r : ℕ) (u : Fin 64) :
    (iblk m c 1 t : S512x256.Idx → EReal) (ix2 (rr r) (colq j u)) = A1 m c (ix4 (bOf t) (qOf t r) (hOf t j) u) * sig2 := by
  have hN := t.isLt.trans_eq N_0; have := (rr r).isLt; have := j.isLt; have := u.isLt
  have h0 : 512 * (8 * (t.val / 64) + t.val % 8) + (rr r).val = 4096 * (bOf t).val + (qOf t r).val := by
    show _ = 4096 * (t.val / 64) + (512 * (t.val % 8) + (rr r).val); omega
  have h1 : 256 * (t.val / 8 % 8) + (colq j u).val = 64 * (hOf t j).val + u.val := by
    show 256 * (t.val / 8 % 8) + (64 * j.val + u.val) = 64 * (4 * (t.val / 8 % 8) + j.val) + u.val; omega
  refine (iblk1_apply m c t _ (ix2 ⟨512 * (8 * (t.val / 64) + t.val % 8) + (rr r).val, by omega⟩
    ⟨256 * (t.val / 8 % 8) + (colq j u).val, by have := (colq j u).isLt; omega⟩) rfl rfl).trans
    (W10_apply m c (bOf t) (qOf t r) (hOf t j) u _ h0 h1)

theorem x5_apply (c : Dev nD) (t : Fin cfg0.N) (j : Fin 4) (k : ℕ) (u : Fin 128) :
    (iblk m c 2 t : S4096x512.Idx → EReal) (ix2 (kk k) (col j u)) = A2 m c (ix4 (bOf t) (kk k) (hOf t j) u) := by
  have hN := t.isLt.trans_eq N_0; have := (kk k).isLt; have := j.isLt; have := u.isLt
  have h1 : 512 * (t.val / 8 % 8) + (col j u).val = 128 * (hOf t j).val + u.val := by
    show 512 * (t.val / 8 % 8) + (128 * j.val + u.val) = 128 * (4 * (t.val / 8 % 8) + j.val) + u.val; omega
  refine (iblk2_apply m c t _ (ix2 ⟨4096 * (t.val / 64) + (kk k).val, by omega⟩
    ⟨512 * (t.val / 8 % 8) + (col j u).val, by have := (col j u).isLt; omega⟩) rfl rfl).trans
    (W14_key m c (bOf t) (kk k) (hOf t j) u _ rfl h1)

theorem x6_apply (c : Dev nD) (t : Fin cfg0.N) (j : Fin 4) (k : ℕ) (u : Fin 64) :
    (iblk m c 3 t : S4096x128.Idx → EReal) (ix2 (kk k) (colk j u)) = A3 m c (ix3 (bOf t) (kk k) u) := by
  have hN := t.isLt.trans_eq N_0; have := (kk k).isLt; have := u.isLt
  refine (iblk3_apply m c t _ (ix2 ⟨4096 * (t.val / 64) + (kk k).val, by omega⟩ (colk j u)) rfl rfl).trans
    (W17_apply m c (bOf t) (kk k) (j.val % 2) (Nat.mod_lt _ (by norm_num)) u _ rfl rfl)

theorem x7_apply (c : Dev nD) (t : Fin cfg0.N) (j : Fin 4) (k : ℕ) (u : Fin 128) :
    (iblk m c 4 t : S4096x512.Idx → EReal) (ix2 (kk k) (col j u)) = A4 m c (ix4 (bOf t) (kk k) (hOf t j) u) := by
  have hN := t.isLt.trans_eq N_0; have := (kk k).isLt; have := j.isLt; have := u.isLt
  have h1 : 4096 + 512 * (t.val / 8 % 8) + (col j u).val = 4096 + (128 * (hOf t j).val + u.val) := by
    show 4096 + 512 * (t.val / 8 % 8) + (128 * j.val + u.val) = 4096 + (128 * (4 * (t.val / 8 % 8) + j.val) + u.val); omega
  refine (iblk4_apply m c t _ (ix2 ⟨4096 * (t.val / 64) + (kk k).val, by omega⟩
    ⟨4096 + 512 * (t.val / 8 % 8) + (col j u).val, by have := (col j u).isLt; omega⟩) rfl rfl).trans
    (W14_val m c (bOf t) (kk k) (hOf t j) u _ rfl h1)

/-! ## The scores -/

/-- Every query and key of device `c` is a real number. -/
structure Reals (c : Dev nD) : Prop where
  r0 : ∀ i, ∃ x : ℝ, A0 m c i = x
  r1 : ∀ i, ∃ x : ℝ, A1 m c i = x
  r2 : ∀ i, ∃ x : ℝ, A2 m c i = x
  r3 : ∀ i, ∃ x : ℝ, A3 m c i = x

/-- The kernel's score is the reference's times 1/log 2, both real. -/
theorem scores (c : Dev nD) (H : Reals m c) (t : Fin cfg0.N) (j : Fin 4) (r k : ℕ) :
    ∃ x : ℝ, RS (A0 m c) (A1 m c) (A2 m c) (A3 m c) (bOf t) (hOf t j) (qOf t r) k = x
      ∧ KS (iblk m c 0 t) (iblk m c 1 t) (iblk m c 2 t) (iblk m c 3 t) j r k = ((1 / Real.log 2 * x : ℝ) : EReal) := by
  obtain ⟨s, _, hs⟩ := scale_real
  choose a0 h0 using H.r0
  choose a1 h1 using H.r1
  choose a2 h2 using H.r2
  choose a3 h3 using H.r3
  refine ⟨(∑ u : Fin 128, a0 (ix4 (bOf t) (qOf t r) (hOf t j) u) * a2 (ix4 (bOf t) (kk k) (hOf t j) u)
    + ∑ u : Fin 64, a3 (ix3 (bOf t) (kk k) u) * a1 (ix4 (bOf t) (qOf t r) (hOf t j) u)) * s, ?_, ?_⟩
  · unfold RS
    simp only [h0, h1, h2, h3, hs, ← EReal.coe_mul, coe_sum, ← EReal.coe_add]
  · unfold KS
    simp only [x3_apply, x4_apply, x5_apply, x6_apply, h0, h1, h2, h3, sig2_eq s hs, ← EReal.coe_mul, coe_sum, ← EReal.coe_add]
    congr 1
    rw [add_mul, mul_add, Finset.sum_mul, Finset.sum_mul, Finset.mul_sum, Finset.mul_sum]
    congr 1 <;> refine Finset.sum_congr rfl fun u _ => ?_ <;> ring

/-- The masked scores likewise. -/
theorem scaled (c : Dev nD) (H : Reals m c) (t : Fin cfg0.N) (j : Fin 4) (r : Fin 512) :
    Scaled (MS (iblk m c 0 t) (iblk m c 1 t) (iblk m c 2 t) (iblk m c 3 t) (grid0.coords t 2).val j r)
      (RT (A0 m c) (A1 m c) (A2 m c) (A3 m c) (bOf t) (hOf t j) (qOf t r)) := by
  intro k
  obtain ⟨x, h1, h2⟩ := scores m c H t j r k
  have hq : (qOf t r).val = 512 * (grid0.coords t 2).val + r.val := by
    rw [coord2]
    show 512 * (t.val % 8) + r.val % 512 = _
    rw [Nat.mod_eq_of_lt r.isLt]
  unfold MS RT
  rw [hq]
  by_cases hk : k ≤ 512 * (grid0.coords t 2).val + r.val
  · rw [if_pos hk, if_pos hk]; exact Or.inr ⟨x, h1, h2⟩
  · rw [if_neg hk, if_neg hk]; exact Or.inl ⟨rfl, rfl⟩

/-- What the body leaves at a point is the reference's block there. -/
theorem outAt_apply (c : Dev nD) (H : Reals m c) (t : Fin cfg0.N) (y : S512x512.Idx) (z : S16384x4096.Idx)
    (h0 : (z 0).val = 512 * (8 * (t.val / 64) + t.val % 8) + (y 0).val) (h1 : (z 1).val = 512 * (t.val / 8 % 8) + (y 1).val) :
    (outAt m c t : S512x512.Idx → EReal) y = val_main_v28 (F := Ideal) (A0 m c) (A1 m c) (A2 m c) (A3 m c) (A4 m c) z := by
  have hN := t.isLt.trans_eq N_0
  have lt0 : ∀ w : S512x512.Idx, 512 * (8 * (t.val / 64) + t.val % 8) + (w 0).val < 16384 := fun w => by
    have : (w 0).val < 512 := (w 0).isLt; omega
  have lt1 : ∀ w : S512x512.Idx, 512 * (t.val / 8 % 8) + (w 1).val < 4096 := fun w => by
    have : (w 1).val < 512 := (w 1).isLt; omega
  have ez : z = ix2 ⟨_, lt0 y⟩ ⟨_, lt1 y⟩ := funext fun a => by
    match a with
    | ⟨0, _⟩ => exact Fin.ext h0
    | ⟨1, _⟩ => exact Fin.ext h1
  rw [ez]
  unfold outAt
  refine out_apply c _ _ _ _ _ _ _ _ _ _ _ _ _ _ _ _ _ _
    (fun j r k => (scores m c H t j r k).imp' (fun x => 1 / Real.log 2 * x) fun x h => h.2)
    (fun j r => RT (A0 m c) (A1 m c) (A2 m c) (A3 m c) (bOf t) (hOf t j) (qOf t r)) (scaled m c H t)
    (fun j r => ?_) (fun w => val_main_v28 (F := Ideal) (A0 m c) (A1 m c) (A2 m c) (A3 m c) (A4 m c) (ix2 ⟨_, lt0 w⟩ ⟨_, lt1 w⟩))
    (fun j r d => ?_) y
  · obtain ⟨x, hx, _⟩ := scores m c H t j r 0
    refine ⟨x, ?_⟩
    unfold RT
    rw [if_pos (Nat.zero_le _), hx]
  · have hj := j.isLt; have hd := d.isLt; have hr := r.isLt
    rw [ref_apply (A0 m c) (A1 m c) (A2 m c) (A3 m c) (A4 m c) (bOf t) (hOf t j) (qOf t r) d _ ?_ ?_]
    · refine Finset.sum_congr rfl fun k _ => congrArg (· * _) ?_
      unfold VS
      have e : dd d.val = d := Fin.ext (Nat.mod_eq_of_lt hd)
      rw [e, x7_apply]
    · show 512 * (8 * (t.val / 64) + t.val % 8) + r.val = 4096 * (t.val / 64) + (512 * (t.val % 8) + r.val % 512)
      omega
    · show 512 * (t.val / 8 % 8) + (128 * j.val + d.val) = 128 * (4 * (t.val / 8 % 8) + j.val) + d.val
      omega

/-- The reference's result of the kernel's arguments. -/
abbrev refOf (c : Dev nD) : S16384x4096.Idx → EReal := val_main_v28 (F := Ideal) (A0 m c) (A1 m c) (A2 m c) (A3 m c) (A4 m c)

theorem flushed_eq (c : Dev nD) (H : Reals m c) (t : Fin cfg0.N) (hf : (cfg0.win 5).flush t = true) :
    (dats m 0 c).flushed 5 t = ((cfg0.win 5).blk t).view.read (Elt Ideal) (refOf m c) := by
  show (cfg0.win 5).cut (grid0.coords t) ((dats m 0 c).after 5 t) = _
  rw [after5]
  funext y
  rw [View.read_apply]
  refine outAt_apply m c H t _ _ ?_ ?_
  · show win0_5.index t 0 * 512 + 1 * (y 0).val = _ + (y 0).val
    rw [(index5 t).1]; omega
  · show win0_5.index t 1 * 512 + 1 * (y 1).val = _ + (y 1).val
    rw [(index5 t).2]; omega

/-- The point that writes row `R`, column `C`. -/
def pointOf (R C : ℕ) (hR : R < 16384) (hC : C < 4096) : Fin cfg0.N :=
  ⟨64 * (R / 4096) + 8 * (C / 512) + R % 4096 / 512, lt_of_lt_of_eq (by omega) N_0.symm⟩

theorem final_o (c : Dev nD) (H : Reals m c) : (dats m 0 c).arrAt 5 cfg0.N = refOf m c :=
  (dats m 0 c).arrAt_eq_of_cover 5 (refOf m c) (flushed_eq m c H) fun i => by
    have hR : (i 0 : Nat) < 16384 := (i 0).isLt
    have hC : (i 1 : Nat) < 4096 := (i 1).isLt
    refine ⟨pointOf (i 0 : Nat) (i 1 : Nat) hR hC, flush0_5 _, ?_⟩
    show i ∈ ((View.whole main_v18).slice (win0_5.rect (pointOf (i 0 : Nat) (i 1 : Nat) hR hC))).set
    rw [View.set_slice_whole, Rect.mem_set_unit]
    obtain ⟨e0, e1⟩ := index5 (pointOf (i 0 : Nat) (i 1 : Nat) hR hC)
    have ev : (pointOf (i 0 : Nat) (i 1 : Nat) hR hC).val = 64 * ((i 0 : Nat) / 4096) + 8 * ((i 1 : Nat) / 512) + (i 0 : Nat) % 4096 / 512 := rfl
    rw [ev] at e0 e1
    intro a
    match a with
    | ⟨0, _⟩ =>
      show win0_5.index (pointOf (i 0 : Nat) (i 1 : Nat) hR hC) 0 * 512 ≤ (i 0 : Nat) ∧ (i 0 : Nat) < win0_5.index (pointOf (i 0 : Nat) (i 1 : Nat) hR hC) 0 * 512 + 512
      rw [e0]; omega
    | ⟨1, _⟩ =>
      show win0_5.index (pointOf (i 0 : Nat) (i 1 : Nat) hR hC) 1 * 512 ≤ (i 1 : Nat) ∧ (i 1 : Nat) < win0_5.index (pointOf (i 0 : Nat) (i 1 : Nat) hR hC) 1 * 512 + 512
      rw [e1]; omega

end Cert.KernelIdeal.Hand

end
-- ==== Proof.Alg.lean ====
/- The value claim: with every query and key finite, the kernel's idealization and the reference's leave one result. -/
module

public import proofs.«01_k».proof.Defs
public import proofs.«01_k».proof.Proof.KI.Value
public import proofs.«01_k».proof.Proof.Gen.Pre_scores_finite
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Pre_scores_finite.Decode

open Cert.Pre_scores_finite Cert.Pre_scores_finite.Gen

/-- Below +∞ in absolute value is real. -/
theorem real_of_lt (e : EReal) (h : FloatOps.cmpf (F := Ideal) (φ := .f32) .olt (FloatOps.hostAbsf (F := Ideal) (φ := .f32) e) (Ideal.ofBits .f32 0x7F800000#32) = 1#1) :
    ∃ x : ℝ, e = x := by
  have hi : Ideal.ofBits .f32 0x7F800000#32 = ⊤ := by simp [Ideal.ofBits, Ideal.ieee]
  rw [hi] at h
  have h' : Ideal.cmp .olt (max e (-e)) ⊤ = 1#1 := h
  have hlt : max e (-e) < ⊤ := by
    by_contra hn
    simp [Ideal.cmp, hn] at h'
  induction e with
  | bot => simp at hlt
  | top => simp at hlt
  | coe x => exact ⟨x, rfl⟩

theorem and_one {a b : BitVec 1} (h : a &&& b = 1#1) : a = 1#1 ∧ b = 1#1 := by
  revert a b; decide

section
variable (x0 : FVec Ideal S4x4096x32x128 .f32) (x1 : FVec Ideal S4x4096x32x64 .f32) (x2 : FVec Ideal S4x4096x32x128 .f32)
  (x3 : FVec Ideal S4x4096x64 .f32) (x4 : FVec Ideal S4x4096x32x128 .f32) (h : fn (F := Ideal) x0 x1 x2 x3 x4 = fun _ => 1#1)
include h

/-- The precondition at its first 128 columns bounds the queries and keys without position, at its last 64 those with. -/
theorem left (b : Fin 4) (q : Fin 4096) (hd : Fin 32) (t : Fin 128) :
    (∃ x : ℝ, x0 (ix4 b q hd t) = x) ∧ ∃ x : ℝ, x2 (ix4 b q hd t) = x := by
  have ht := t.isLt
  have e := congrFun h (ix4 b q hd ⟨t.val, by omega⟩)
  unfold fn at e
  dsimp only at e
  rw [concatenate_pair_apply_left (t := S4x4096x32x192) (s₁ := S4x4096x32x128) (s₂ := S4x4096x32x64) 3 _ _ _ _ rfl (ix4 b q hd t) (fun a => by
    match a with | ⟨0, _⟩ => rfl | ⟨1, _⟩ => rfl | ⟨2, _⟩ => rfl | ⟨3, _⟩ => rfl)] at e
  obtain ⟨e0, e2⟩ := and_one e
  exact ⟨real_of_lt _ e0, real_of_lt _ e2⟩

theorem right (b : Fin 4) (q : Fin 4096) (hd : Fin 32) (t : Fin 64) :
    (∃ x : ℝ, x1 (ix4 b q hd t) = x) ∧ ∃ x : ℝ, x3 (ix3 b q t) = x := by
  have ht := t.isLt
  have e := congrFun h (ix4 b q hd ⟨128 + t.val, by omega⟩)
  unfold fn at e
  dsimp only at e
  rw [concatenate_pair_apply_right (t := S4x4096x32x192) (s₁ := S4x4096x32x128) (s₂ := S4x4096x32x64) 3 _ _ _ _ rfl rfl (ix4 b q hd t) (fun a ha => by
    match a, ha with | ⟨0, _⟩, _ => rfl | ⟨1, _⟩, _ => rfl | ⟨2, _⟩, _ => rfl | ⟨3, _⟩, ha => exact absurd rfl ha) (Nat.add_comm _ _)] at e
  obtain ⟨e1, e3⟩ := and_one e
  refine ⟨real_of_lt _ e1, real_of_lt _ (Eq.trans (congrArg (fun z => FloatOps.cmpf (F := Ideal) (φ := .f32) .olt (FloatOps.hostAbsf (F := Ideal) (φ := .f32) (x3 z)) _) ?_) e3)⟩
  exact funext fun a => by match a with | ⟨0, _⟩ => rfl | ⟨1, _⟩ => rfl | ⟨2, _⟩ => rfl

end

end Cert.Pre_scores_finite.Decode

namespace Cert.Alg

theorem reals (m : (ℓ : Loc Cert.KernelIdeal.nD Cert.KernelIdeal.τ Cert.KernelIdeal.sig) → Buf (Elt Ideal) ℓ)
    (h : Pre_KernelIdeal_scores_finite m) (c : Dev Cert.KernelIdeal.nD) : Cert.KernelIdeal.Hand.Reals m c where
  r0 i := by rw [eq_ix4 i]; exact (Cert.Pre_scores_finite.Decode.left _ _ _ _ _ (h c) _ _ _ _).1
  r1 i := by rw [eq_ix4 i]; exact (Cert.Pre_scores_finite.Decode.right _ _ _ _ _ (h c) _ _ _ _).1
  r2 i := by rw [eq_ix4 i]; exact (Cert.Pre_scores_finite.Decode.left _ _ _ _ _ (h c) _ _ _ _).2
  r3 i := by rw [eq_ix3 i]; exact (Cert.Pre_scores_finite.Decode.right _ _ _ _ _ (h c) _ _ 0 _).2

open Cert.KernelIdeal.Gen Cert.KernelIdeal.Hand in
/-- The kernel's run, read at its result. -/
theorem kernel_run (m : (ℓ : Loc Cert.KernelIdeal.nD Cert.KernelIdeal.τ Cert.KernelIdeal.sig) → Buf (Elt Ideal) ℓ) (ρ : Dev Cert.KernelIdeal.nD → PrngReg)
    (H : ∀ c, Reals m c) :
    θ_run Cert.KernelIdeal.defs (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18) = refOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨((h.1 c).1 5).trans (final_o m c (H c)),
     ((h.1 c).2 Cert.KernelIdeal.main_arg0 (Pipeline.mem_restRefs_of Cert.KernelIdeal.main_arg0 (by decide) (by decide))).trans (V_main_arg0 m c),
     ((h.1 c).2 Cert.KernelIdeal.main_arg1 (Pipeline.mem_restRefs_of Cert.KernelIdeal.main_arg1 (by decide) (by decide))).trans (V_main_arg1 m c),
     ((h.1 c).2 Cert.KernelIdeal.main_arg2 (Pipeline.mem_restRefs_of Cert.KernelIdeal.main_arg2 (by decide) (by decide))).trans (V_main_arg2 m c),
     ((h.1 c).2 Cert.KernelIdeal.main_arg3 (Pipeline.mem_restRefs_of Cert.KernelIdeal.main_arg3 (by decide) (by decide))).trans (V_main_arg3 m c),
     ((h.1 c).2 Cert.KernelIdeal.main_arg4 (Pipeline.mem_restRefs_of Cert.KernelIdeal.main_arg4 (by decide) (by decide))).trans (V_main_arg4 m c)⟩)
    (run_main m ρ)

theorem quiescent_ref : quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem quiescent_ref_pre : quiescent_ReferenceIdeal_pre_scores_finite := fun m ρ _ => quiescent_ref m ρ trivial

theorem algebraic : algebraic_KernelIdeal_ReferenceIdeal_pre_scores_finite := by
  intro m g m' g' hpre hagree
  refine ⟨fun c => Cert.KernelIdeal.Hand.refOf m c, kernel_run m g (reals m hpre), ?_⟩
  refine (θ_run Cert.ReferenceIdeal.defs _ _).mono (fun _ h c => ⟨(h c).1.trans ?_, (h c).2⟩) (Cert.ReferenceIdeal.Value.run (F := Ideal) m' g')
  obtain ⟨e0, e1, e2, e3, e4⟩ := hagree c
  rw [Cert.ReferenceIdeal.Read.val_main_v28_eq, e0, e1, e2, e3, e4]

end Cert.Alg

end
-- ==== Proof.Plain.lean ====
/- What the products of the projections need: a plain product of blocks at an index, and a sum over an axis as the sum over its
   pieces. -/
module

public import Idealize.ShloMosaic.Lib.MatmulPlain
public import Idealize.ShloMosaic.Lib.Pipeline.Value
public import Idealize.ShloMosaic.Lib.Tactic
public import Idealize.ShloMosaic.Lib.Quiescent

@[expose] public section

noncomputable section

namespace Cert.Plain

open Idealize.ShloMosaic Idealize.ShloMosaic.ValueIdx

theorem zeros : (![0, 0] : Fin 2 → Nat) = fun _ => 0 := funext fun a => by fin_cases a <;> rfl

/-- A plain product into zeros, at an index. -/
theorem dot_apply {M K N : ℕ} {φ₁ φ₂ : FTy} (x : FVec Ideal ⟨2, ![M, K]⟩ φ₁) (w : FVec Ideal ⟨2, ![K, N]⟩ φ₂) (r : Fin M) (c : Fin N) :
    matmul (DotDims.plain M K N) none x w (constant ⟨2, ![M, N]⟩ .f32 0x00000000#32) (ix2 r c) = ∑ k : Fin K, (x (ix2 r k) : EReal) * w (ix2 k c) := by
  refine (Ideal.matmul_plain_apply none x w (constant ⟨2, ![M, N]⟩ .f32 0x00000000#32) r c).trans ?_
  show Ideal.ofBits .f32 0x00000000#32 + _ = _
  rw [Ideal.ofBits_zero_f32, zero_add]

/-- A product with the right operand's rows as its columns, into zeros, at an index. -/
theorem dot_rows_apply {M K N : ℕ} {φ₁ φ₂ : FTy} (x : FVec Ideal ⟨2, ![M, K]⟩ φ₁) (w : FVec Ideal ⟨2, ![N, K]⟩ φ₂) (r : Fin M) (c : Fin N) :
    matmul (DotDims.transposedRhs M K N) none x w (constant ⟨2, ![M, N]⟩ .f32 0x00000000#32) (ix2 r c) = ∑ k : Fin K, (x (ix2 r k) : EReal) * w (ix2 c k) := by
  refine (Ideal.matmul_transposedRhs_apply none x w (constant ⟨2, ![M, N]⟩ .f32 0x00000000#32) r c).trans ?_
  show Ideal.ofBits .f32 0x00000000#32 + _ = _
  rw [Ideal.ofBits_zero_f32, zero_add]

theorem one_bits : Ideal.ofBits .f32 0x3F800000#32 = 1 := by
  simp [Ideal.ofBits, Ideal.ieee, -EReal.coe_mul]; norm_num

/-- A sum over `n·b` positions, piece by piece. -/
theorem sum_pieces (g : ℕ → EReal) (n b : ℕ) : ∑ k ∈ Finset.range (n * b), g k = ∑ q ∈ Finset.range n, ∑ k : Fin b, g (b * q + k.val) := by
  induction n with
  | zero => simp
  | succ n ih => rw [Nat.succ_mul, Finset.sum_range_add, ih, Finset.sum_range_succ, Finset.sum_range fun x => g (n * b + x), Nat.mul_comm n b]

/-- A position on an axis of `N`, the axis taken round. -/
abbrev at_ (N : ℕ) [NeZero N] (n : ℕ) : Fin N := ⟨n % N, Nat.mod_lt _ (NeZero.pos N)⟩

end Cert.Plain

end
-- ==== Proof.Up.lean ====
/- The dense feed-forward's first call: every block of the kernel's result is the gated product of its rows and columns, over the
   extended reals, and the blocks cover the result. -/
module

public import proofs.«01_k».proof.Defs
public import proofs.«01_k».proof.Proof.Plain
public import proofs.«01_k».proof.Proof.Gen.Kernel2Ideal.Value
public import proofs.«01_k».proof.Proof.Gen.Reference2Ideal.Read

@[expose] public section

set_option maxRecDepth 16384

noncomputable section

namespace Cert.Kernel2Ideal.Hand

open Idealize.ShloMosaic Idealize.ShloMosaic.TcCoe Idealize.ShloMosaic.ValueIdx Idealize.ShloMosaic.Tactic Idealize.SL.Sem
open Cert.Kernel2Ideal Cert.Kernel2Ideal.Gen Cert.Plain
open Cert.Reference2Ideal.Read

/-- The gate: a·σ(a)·b. -/
def gated (a b : EReal) : EReal := a * Ideal.logistic a * b

theorem out_apply (x : Vec Ideal S1024x4096 .bf16) (w1 w3 : Vec Ideal S4096x512 .bf16) (r : Fin 1024) (c : Fin 512) :
    (out0_3 x w1 w3 : S1024x512.Idx → EReal) (ix2 r c)
      = gated (∑ k : Fin 4096, (x (ix2 r k) : EReal) * w1 (ix2 k c)) (∑ k : Fin 4096, (x (ix2 r k) : EReal) * w3 (ix2 k c)) := by
  unfold out0_3
  rw [View.canon_unit_zero zeros]
  unfold k0_pay1
  simp only [View.ld_unit_zero (S := S1024x4096) zeros, View.ld_unit_zero (S := S4096x512) zeros, shapeCast_self]
  rw [← dot_apply x w1 r c, ← dot_apply x w3 r c]
  rfl

theorem index0 : ∀ t : Fin grid0.N, win0_0.index t 0 = t.val / 28 ∧ win0_0.index t 1 = 0 := by decide +kernel
theorem index1 : ∀ t : Fin grid0.N, win0_1.index t 0 = 0 ∧ win0_1.index t 1 = t.val % 28 := by decide +kernel
theorem index2 : ∀ t : Fin grid0.N, win0_2.index t 0 = 0 ∧ win0_2.index t 1 = t.val % 28 := by decide +kernel
theorem index3 : ∀ t : Fin grid0.N, win0_3.index t 0 = t.val / 28 ∧ win0_3.index t 1 = t.val % 28 := by decide +kernel

variable (m : (ℓ : Loc nD τ sig) → Buf (Elt Ideal) ℓ)

abbrev A0 (c : Dev nD) : S4x4096x4096.Idx → EReal := m ((c : Thread nD τ).loc main_arg0)
abbrev A1 (c : Dev nD) : S4096x14336.Idx → EReal := m ((c : Thread nD τ).loc main_arg1)
abbrev A2 (c : Dev nD) : S4096x14336.Idx → EReal := m ((c : Thread nD τ).loc main_arg2)
abbrev W1 (c : Dev nD) : S16384x4096.Idx → EReal := V m c main_v1
abbrev W2 (c : Dev nD) : S4096x14336.Idx → EReal := V m c main_v2
abbrev W3 (c : Dev nD) : S4096x14336.Idx → EReal := V m c main_v3

theorem W1_eq (c : Dev nD) : W1 m c = shapeCast S16384x4096 (A0 m c) shapeCasts_S4x4096x4096_S16384x4096 := by
  unfold W1 V
  after_results
  rfl

theorem W2_eq (c : Dev nD) : W2 m c = A1 m c := by
  unfold W2 V
  after_results
  rfl

theorem W3_eq (c : Dev nD) : W3 m c = A2 m c := by
  unfold W3 V
  after_results
  rfl

theorem iblk0_apply (c : Dev nD) (t : Fin cfg0.N) (r : Fin 1024) (k : Fin 4096) (z : S16384x4096.Idx)
    (h0 : (z 0).val = 1024 * (t.val / 28) + r.val) (h1 : (z 1).val = k.val) : (iblk m c 0 t : S1024x4096.Idx → EReal) (ix2 r k) = W1 m c z := by
  unfold iblk
  rw [View.read_apply]
  show V m c main_v1 _ = V m c main_v1 _
  congr 1
  funext a
  apply Fin.ext
  match a with
  | ⟨0, _⟩ => show win0_0.index t 0 * 1024 + 1 * r.val = (z 0).val; rw [(index0 t).1]; omega
  | ⟨1, _⟩ => show win0_0.index t 1 * 4096 + 1 * k.val = (z 1).val; rw [(index0 t).2]; omega

theorem iblk1_apply (c : Dev nD) (t : Fin cfg0.N) (k : Fin 4096) (r : Fin 512) (z : S4096x14336.Idx)
    (h0 : (z 0).val = k.val) (h1 : (z 1).val = 512 * (t.val % 28) + r.val) : (iblk m c 1 t : S4096x512.Idx → EReal) (ix2 k r) = W2 m c z := by
  unfold iblk
  rw [View.read_apply]
  show V m c main_v2 _ = V m c main_v2 _
  congr 1
  funext a
  apply Fin.ext
  match a with
  | ⟨0, _⟩ => show win0_1.index t 0 * 4096 + 1 * k.val = (z 0).val; rw [(index1 t).1]; omega
  | ⟨1, _⟩ => show win0_1.index t 1 * 512 + 1 * r.val = (z 1).val; rw [(index1 t).2]; omega

theorem iblk2_apply (c : Dev nD) (t : Fin cfg0.N) (k : Fin 4096) (r : Fin 512) (z : S4096x14336.Idx)
    (h0 : (z 0).val = k.val) (h1 : (z 1).val = 512 * (t.val % 28) + r.val) : (iblk m c 2 t : S4096x512.Idx → EReal) (ix2 k r) = W3 m c z := by
  unfold iblk
  rw [View.read_apply]
  show V m c main_v3 _ = V m c main_v3 _
  congr 1
  funext a
  apply Fin.ext
  match a with
  | ⟨0, _⟩ => show win0_2.index t 0 * 4096 + 1 * k.val = (z 0).val; rw [(index2 t).1]; omega
  | ⟨1, _⟩ => show win0_2.index t 1 * 512 + 1 * r.val = (z 1).val; rw [(index2 t).2]; omega

/-- The reference's result of the kernel's arguments. -/
abbrev refOf (c : Dev nD) : S16384x14336.Idx → EReal := val_main_v5 (F := Ideal) (A0 m c) (A1 m c) (A2 m c)

theorem ref_apply (x : S4x4096x4096.Idx → EReal) (w1 w3 : S4096x14336.Idx → EReal) (z : S16384x14336.Idx) :
    val_main_v5 (F := Ideal) x w1 w3 z
      = gated (∑ k : Fin 4096, shapeCast S16384x4096 x shapeCasts_S4x4096x4096_S16384x4096 (ix2 (z 0) k) * w1 (ix2 k (z 1)))
          (∑ k : Fin 4096, shapeCast S16384x4096 x shapeCasts_S4x4096x4096_S16384x4096 (ix2 (z 0) k) * w3 (ix2 k (z 1))) := by
  have h0 : (z 0).val < 16384 := (z 0).isLt
  have h1 : (z 1).val < 14336 := (z 1).isLt
  have el : ∀ k : Fin 4096, shapeCast S16384x4096 x shapeCasts_S4x4096x4096_S16384x4096 (ix2 (z 0) k) = x (lidx_main_v0 (idx_main_v4 z) k) := fun k => by
    refine shapeCast_apply x _ _ _ ?_
    rw [Shape.rowMajor_val_three, Shape.rowMajor_val_two]
    show (((z 0).val * 14336 + (z 1).val) / 58720256 * 4096 + ((z 0).val * 14336 + (z 1).val) / 14336 % 4096) * 4096 + k.val = (z 0).val * 4096 + k.val
    omega
  have er : ∀ k : Fin 4096, (ix2 k (z 1) : S4096x14336.Idx) = ridx_main_v0 (idx_main_v4 z) k := fun k => funext fun a => Fin.ext (by
    match a with
    | ⟨0, _⟩ => rfl
    | ⟨1, _⟩ => show (z 1).val = ((z 0).val * 14336 + (z 1).val) % 14336; omega)
  simp only [el, er]
  have ea := val_main_v0_apply x w1 (idx_main_v4 z)
  have eb := val_main_v2_apply x w3 (idx_main_v4 z)
  rw [← ea]
  refine Eq.trans ?_ (congrArg (gated _) eb)
  rw [val_main_v5_apply, val_main_v4_apply, val_main_v3_apply, val_main_v1_apply, val_main_call0_v5_apply, val_main_call0_v3_apply,
    val_main_call0_v4_apply, val_main_call0_v2_apply, val_main_call0_cst_apply, val_main_call0_cst_0_apply, val_main_call0_v1_apply, val_main_call0_v0_apply]
  unfold gated Ideal.logistic
  rw [← one_bits]
  rfl

/-- What the body leaves at a point is the reference's block there. -/
theorem point_apply (c : Dev nD) (t : Fin cfg0.N) (y : S1024x512.Idx) (z : S16384x14336.Idx)
    (h0 : (z 0).val = 1024 * (t.val / 28) + (y 0).val) (h1 : (z 1).val = 512 * (t.val % 28) + (y 1).val) :
    (out0_3 (iblk m c 0 t) (iblk m c 1 t) (iblk m c 2 t) : S1024x512.Idx → EReal) y = refOf m c z := by
  obtain ⟨r, u, rfl⟩ : ∃ (r : Fin 1024) (u : Fin 512), y = (ix2 r u : S1024x512.Idx) := ⟨y 0, y 1, eq_ix2 y⟩
  refine (out_apply _ _ _ r u).trans ?_
  refine Eq.trans ?_ (ref_apply (A0 m c) (A1 m c) (A2 m c) z).symm
  rw [← W1_eq, ← W2_eq, ← W3_eq]
  refine congrArg₂ gated ?_ ?_
  · exact Finset.sum_congr rfl fun k _ => congrArg₂ (· * ·) (iblk0_apply m c t r k _ h0 rfl) (iblk1_apply m c t k u _ rfl h1)
  · exact Finset.sum_congr rfl fun k _ => congrArg₂ (· * ·) (iblk0_apply m c t r k _ h0 rfl) (iblk2_apply m c t k u _ rfl h1)

theorem flushed_eq (c : Dev nD) (t : Fin cfg0.N) (hf : (cfg0.win 3).flush t = true) :
    (dats m 0 c).flushed 3 t = ((cfg0.win 3).blk t).view.read (Elt Ideal) (refOf m c) := by
  rw [Value.flushed3]
  funext y
  rw [View.read_apply]
  refine point_apply m c t _ _ ?_ ?_
  · show win0_3.index t 0 * 1024 + 1 * (y 0).val = _ + (y 0).val
    rw [(index3 t).1]; omega
  · show win0_3.index t 1 * 512 + 1 * (y 1).val = _ + (y 1).val
    rw [(index3 t).2]; omega

/-- The point that writes row `R`, column `C`. -/
def pointOf (R C : ℕ) (hR : R < 16384) (hC : C < 14336) : Fin cfg0.N := ⟨28 * (R / 1024) + C / 512, lt_of_lt_of_eq (by omega) N_0.symm⟩

theorem final_o (c : Dev nD) : (dats m 0 c).arrAt 3 cfg0.N = refOf m c :=
  (dats m 0 c).arrAt_eq_of_cover 3 (refOf m c) (flushed_eq m c) fun i => by
    have hR : (i 0 : Nat) < 16384 := (i 0).isLt
    have hC : (i 1 : Nat) < 14336 := (i 1).isLt
    refine ⟨pointOf (i 0 : Nat) (i 1 : Nat) hR hC, flush0_3 _, ?_⟩
    show i ∈ ((View.whole main_v4).slice (win0_3.rect (pointOf (i 0 : Nat) (i 1 : Nat) hR hC))).set
    rw [View.set_slice_whole, Rect.mem_set_unit]
    obtain ⟨e0, e1⟩ := index3 (pointOf (i 0 : Nat) (i 1 : Nat) hR hC)
    have ev : (pointOf (i 0 : Nat) (i 1 : Nat) hR hC).val = 28 * ((i 0 : Nat) / 1024) + (i 1 : Nat) / 512 := rfl
    rw [ev] at e0 e1
    intro a
    match a with
    | ⟨0, _⟩ =>
      show win0_3.index (pointOf (i 0 : Nat) (i 1 : Nat) hR hC) 0 * 1024 ≤ (i 0 : Nat) ∧ (i 0 : Nat) < win0_3.index (pointOf (i 0 : Nat) (i 1 : Nat) hR hC) 0 * 1024 + 1024
      rw [e0]; omega
    | ⟨1, _⟩ =>
      show win0_3.index (pointOf (i 0 : Nat) (i 1 : Nat) hR hC) 1 * 512 ≤ (i 1 : Nat) ∧ (i 1 : Nat) < win0_3.index (pointOf (i 0 : Nat) (i 1 : Nat) hR hC) 1 * 512 + 512
      rw [e1]; omega

end Cert.Kernel2Ideal.Hand

namespace Cert.Alg2

open Idealize.ShloMosaic

theorem quiescent_ref : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : algebraic_Kernel2Ideal_Reference2Ideal := by
  intro m g m' g' _ hagree
  refine ⟨fun c => Cert.Kernel2Ideal.Hand.refOf m c,
    (θ_run Cert.Kernel2Ideal.defs _ _).mono (fun _ h c => ⟨(h c).1.trans (Cert.Kernel2Ideal.Hand.final_o m c), (h c).2⟩) (Cert.Kernel2Ideal.Value.run_blocks m g), ?_⟩
  refine (θ_run Cert.Reference2Ideal.defs _ _).mono (fun _ h c => ⟨(h c).1.trans ?_, (h c).2⟩) (Cert.Reference2Ideal.Value.run (F := Ideal) m' g')
  obtain ⟨e0, e1, e2⟩ := hagree c
  rw [Cert.Reference2Ideal.Read.val_main_v5_eq, e0, e1, e2]

end Cert.Alg2

end
-- ==== Proof.Down.lean ====
/- The dense feed-forward's second call: the four partial products of a block add up to the product of its rows and columns, over the
   extended reals, and the blocks written back after the fourth cover the result. -/
module

public import proofs.«01_k».proof.Defs
public import proofs.«01_k».proof.Proof.Plain
public import proofs.«01_k».proof.Proof.Gen.Kernel3Ideal.Value
public import proofs.«01_k».proof.Proof.Gen.Reference3Ideal.Read

@[expose] public section

set_option maxRecDepth 16384

noncomputable section

namespace Cert.Kernel3Ideal.Hand

open Idealize.ShloMosaic Idealize.ShloMosaic.TcCoe Idealize.ShloMosaic.ValueIdx Idealize.ShloMosaic.Tactic Idealize.SL.Sem
open Cert.Kernel3Ideal Cert.Kernel3Ideal.Gen Cert.Plain
open Cert.Reference3Ideal.Read

section body

variable (c : Dev nD) (i : grid0.Coords) (a3 : Memref sig .tc .vmem S1024x3584 .bf16) (h3 : a3.IsWhole) (a4 : Memref sig .tc .vmem S3584x1024 .bf16)
  (h4 : a4.IsWhole) (a5 : Memref sig .tc .vmem S1024x1024 .f32) (h5 : a5.IsWhole) (x : Vec Ideal S1024x3584 .bf16) (w : Vec Ideal S3584x1024 .bf16)

/-- The first step of a block stores its partial product. -/
theorem first_eq (hc : cond0_0 i) (hd : ¬cond0_1 i) : out0_A_2 c i a3 h3 a4 h4 a5 h5 hc hd x w = k0_pay1 x w := by
  unfold out0_A_2
  rw [View.read_writes_eq_canon _ _ _ (cover0_A_2 c i a3 h3 a4 h4 a5 h5 hc hd x w)]
  unfold kernelRun0_A
  dsimp only
  rw [View.canon_unit_zero zeros]
  simp only [View.readAt_eq_ld, h3.read_unread, h4.read_unread, View.ld_unit_zero (S := S1024x3584) zeros, View.ld_unit_zero (S := S3584x1024) zeros]

/-- A later step adds its partial product to what the step before left. -/
theorem later_eq (hc : ¬cond0_0 i) (hd : cond0_1 i) (o : Vec Ideal S1024x1024 .f32) :
    out0_B_2 c i a3 h3 a4 h4 a5 h5 hc hd x w o = addf o (k0_pay1 x w) := by
  unfold out0_B_2
  rw [View.read_writes_eq_canon _ _ _ (cover0_B_2 c i a3 h3 a4 h4 a5 h5 hc hd x w o)]
  unfold kernelRun0_B
  dsimp only
  rw [View.canon_unit_zero zeros]
  unfold k0_pay2
  simp only [View.readAt_eq_ld, h3.read_unread, h4.read_unread, h5.read_unread, View.ld_unit_zero (S := S1024x3584) zeros,
    View.ld_unit_zero (S := S3584x1024) zeros, View.ld_unit_zero (S := S1024x1024) zeros, shapeCast_self]

theorem part_apply (r u : Fin 1024) : (k0_pay1 x w : S1024x1024.Idx → EReal) (ix2 r u) = ∑ k : Fin 3584, (x (ix2 r k) : EReal) * w (ix2 k u) := by
  unfold k0_pay1
  simp only [shapeCast_self]
  rw [← dot_apply x w r u]
  rfl

end body

theorem index0 : ∀ t : Fin grid0.N, win0_0.index t 0 = t.val / 16 ∧ win0_0.index t 1 = t.val % 4 := by decide +kernel
theorem index1 : ∀ t : Fin grid0.N, win0_1.index t 0 = t.val % 4 ∧ win0_1.index t 1 = t.val / 4 % 4 := by decide +kernel
theorem index2 : ∀ t : Fin grid0.N, win0_2.index t 0 = t.val / 16 ∧ win0_2.index t 1 = t.val / 4 % 4 := by decide +kernel

variable (m : (ℓ : Loc nD τ sig) → Buf (Elt Ideal) ℓ)

abbrev A0 (c : Dev nD) : S4x4096x14336.Idx → EReal := m ((c : Thread nD τ).loc main_arg0)
abbrev A1 (c : Dev nD) : S14336x4096.Idx → EReal := m ((c : Thread nD τ).loc main_arg1)
abbrev W1 (c : Dev nD) : S16384x14336.Idx → EReal := V m c main_v1
abbrev W2 (c : Dev nD) : S14336x4096.Idx → EReal := V m c main_v2

theorem W1_eq (c : Dev nD) : W1 m c = shapeCast S16384x14336 (A0 m c) shapeCasts_S4x4096x14336_S16384x14336 := by
  unfold W1 V
  after_results
  rfl

theorem W2_eq (c : Dev nD) : W2 m c = A1 m c := by
  unfold W2 V
  after_results
  rfl

theorem iblk0_apply (c : Dev nD) (t : Fin cfg0.N) (r : Fin 1024) (k : Fin 3584) (z : S16384x14336.Idx)
    (h0 : (z 0).val = 1024 * (t.val / 16) + r.val) (h1 : (z 1).val = 3584 * (t.val % 4) + k.val) :
    (iblk m c 0 t : S1024x3584.Idx → EReal) (ix2 r k) = W1 m c z := by
  unfold iblk
  rw [View.read_apply]
  show V m c main_v1 _ = V m c main_v1 _
  congr 1
  funext a
  apply Fin.ext
  match a with
  | ⟨0, _⟩ => show win0_0.index t 0 * 1024 + 1 * r.val = (z 0).val; rw [(index0 t).1]; omega
  | ⟨1, _⟩ => show win0_0.index t 1 * 3584 + 1 * k.val = (z 1).val; rw [(index0 t).2]; omega

theorem iblk1_apply (c : Dev nD) (t : Fin cfg0.N) (k : Fin 3584) (u : Fin 1024) (z : S14336x4096.Idx)
    (h0 : (z 0).val = 3584 * (t.val % 4) + k.val) (h1 : (z 1).val = 1024 * (t.val / 4 % 4) + u.val) :
    (iblk m c 1 t : S3584x1024.Idx → EReal) (ix2 k u) = W2 m c z := by
  unfold iblk
  rw [View.read_apply]
  show V m c main_v2 _ = V m c main_v2 _
  congr 1
  funext a
  apply Fin.ext
  match a with
  | ⟨0, _⟩ => show win0_1.index t 0 * 3584 + 1 * k.val = (z 0).val; rw [(index1 t).1]; omega
  | ⟨1, _⟩ => show win0_1.index t 1 * 1024 + 1 * u.val = (z 1).val; rw [(index1 t).2]; omega

/-- Term `k` of the product at row `R`, column `C`. -/
def term (c : Dev nD) (R C k : ℕ) : EReal := W1 m c (ix2 (at_ 16384 R) (at_ 14336 k)) * W2 m c (ix2 (at_ 14336 k) (at_ 4096 C))

/-- A point's partial product. -/
theorem point_part (c : Dev nD) (t : Fin cfg0.N) (r u : Fin 1024) :
    (k0_pay1 (iblk m c 0 t) (iblk m c 1 t) : S1024x1024.Idx → EReal) (ix2 r u)
      = ∑ k : Fin 3584, term m c (1024 * (t.val / 16) + r.val) (1024 * (t.val / 4 % 4) + u.val) (3584 * (t.val % 4) + k.val) := by
  have hN := t.isLt.trans_eq N_0
  rw [part_apply]
  refine Finset.sum_congr rfl fun k _ => ?_
  have hk := k.isLt; have hr := r.isLt; have hu := u.isLt
  have e1 : (3584 * (t.val % 4) + k.val) % 14336 = 3584 * (t.val % 4) + k.val := Nat.mod_eq_of_lt (by omega)
  exact congrArg₂ (· * ·) (iblk0_apply m c t r k _ (Nat.mod_eq_of_lt (by omega)) e1) (iblk1_apply m c t k u _ e1 (Nat.mod_eq_of_lt (by omega)))

/-- After a point, its block holds the partial products of the steps so far. -/
theorem outs_apply (c : Dev nD) (r u : Fin 1024) : ∀ (n : ℕ) (h : n < cfg0.N), (outsAt0 m c n h : S1024x1024.Idx → EReal) (ix2 r u)
    = ∑ q ∈ Finset.range (n % 4 + 1), ∑ k : Fin 3584, term m c (1024 * (n / 16) + r.val) (1024 * (n / 4 % 4) + u.val) (3584 * q + k.val) := by
  intro n
  induction n with
  | zero =>
    intro h
    rw [outsAt0_A m c ⟨0, h⟩ rfl (by show ¬1 ≤ 0 % 4; omega), first_eq, point_part]
    simp
  | succ n ih =>
    intro h
    by_cases h0 : (n + 1) % 4 = 0
    · rw [outsAt0_A m c ⟨n + 1, h⟩ h0 (by show ¬1 ≤ (n + 1) % 4; omega), first_eq, point_part]
      dsimp only
      rw [h0]
      simp
    · rw [outsAt0_B m c ⟨n + 1, h⟩ h0 (by show 1 ≤ (n + 1) % 4; omega), later_eq]
      refine (congrArg₂ (· + ·) (ih (Nat.lt_of_succ_lt h)) (point_part m c ⟨n + 1, h⟩ r u)).trans ?_
      dsimp only
      have e1 : (n + 1) % 4 = n % 4 + 1 := by omega
      have e2 : (n + 1) / 16 = n / 16 := by omega
      have e3 : (n + 1) / 4 % 4 = n / 4 % 4 := by omega
      rw [e1, e2, e3, Finset.sum_range_succ _ (n % 4 + 1)]

/-- The reference's result of the kernel's arguments. -/
abbrev refOf (c : Dev nD) : S16384x4096.Idx → EReal := val_main_v1 (F := Ideal) (A0 m c) (A1 m c)

theorem ref_apply (c : Dev nD) (z : S16384x4096.Idx) : refOf m c z = ∑ k ∈ Finset.range (4 * 3584), term m c (z 0).val (z 1).val k := by
  have h0 : (z 0).val < 16384 := (z 0).isLt
  have h1 : (z 1).val < 4096 := (z 1).isLt
  rw [Finset.sum_range]
  refine (val_main_v1_apply (F := Ideal) (A0 m c) (A1 m c) z).trans ((val_main_v0_apply (A0 m c) (A1 m c) _).trans ?_)
  refine Finset.sum_congr rfl fun k _ => ?_
  have hk : k.val < 14336 := k.isLt
  unfold term
  rw [W1_eq, W2_eq]
  refine congrArg₂ (· * ·) (Eq.symm (shapeCast_apply (A0 m c) _ _ _ ?_)) (congrArg (A1 m c) (funext fun a => Fin.ext ?_))
  · rw [Shape.rowMajor_val_three, Shape.rowMajor_val_two]
    show (((z 0).val * 4096 + (z 1).val) / 16777216 * 4096 + ((z 0).val * 4096 + (z 1).val) / 4096 % 4096) * 14336 + k.val
      = (z 0).val % 16384 * 14336 + k.val % 14336
    omega
  · match a with
    | ⟨0, _⟩ => exact (Nat.mod_eq_of_lt hk).symm
    | ⟨1, _⟩ => show ((z 0).val * 4096 + (z 1).val) % 4096 = (z 1).val % 4096; omega

theorem point_apply (c : Dev nD) (t : Fin cfg0.N) (ht : t.val % 4 = 3) (y : S1024x1024.Idx) (z : S16384x4096.Idx)
    (h0 : (z 0).val = 1024 * (t.val / 16) + (y 0).val) (h1 : (z 1).val = 1024 * (t.val / 4 % 4) + (y 1).val) :
    (outsAt0 m c t.val t.isLt : S1024x1024.Idx → EReal) y = refOf m c z := by
  obtain ⟨r, u, rfl⟩ : ∃ (r u : Fin 1024), y = (ix2 r u : S1024x1024.Idx) := ⟨y 0, y 1, eq_ix2 y⟩
  rw [outs_apply, ref_apply, sum_pieces, ht, h0, h1]

theorem flushed_eq (c : Dev nD) (t : Fin cfg0.N) (hf : (cfg0.win 2).flush t = true) :
    (dats m 0 c).flushed 2 t = ((cfg0.win 2).blk t).view.read (Elt Ideal) (refOf m c) := by
  rw [Value.flushed2]
  funext y
  rw [View.read_apply]
  refine point_apply m c t ((flush0_2 t).mp hf) _ _ ?_ ?_
  · show win0_2.index t 0 * 1024 + 1 * (y 0).val = _ + (y 0).val
    rw [(index2 t).1]; omega
  · show win0_2.index t 1 * 1024 + 1 * (y 1).val = _ + (y 1).val
    rw [(index2 t).2]; omega

/-- The point that writes row `R`, column `C`. -/
def pointOf (R C : ℕ) (hR : R < 16384) (hC : C < 4096) : Fin cfg0.N := ⟨16 * (R / 1024) + 4 * (C / 1024) + 3, lt_of_lt_of_eq (by omega) N_0.symm⟩

theorem final_o (c : Dev nD) : (dats m 0 c).arrAt 2 cfg0.N = refOf m c :=
  (dats m 0 c).arrAt_eq_of_cover 2 (refOf m c) (flushed_eq m c) fun i => by
    have hR : (i 0 : Nat) < 16384 := (i 0).isLt
    have hC : (i 1 : Nat) < 4096 := (i 1).isLt
    have ev : (pointOf (i 0 : Nat) (i 1 : Nat) hR hC).val = 16 * ((i 0 : Nat) / 1024) + 4 * ((i 1 : Nat) / 1024) + 3 := rfl
    refine ⟨pointOf (i 0 : Nat) (i 1 : Nat) hR hC, (flush0_2 _).mpr (by rw [ev]; omega), ?_⟩
    show i ∈ ((View.whole main_v3).slice (win0_2.rect (pointOf (i 0 : Nat) (i 1 : Nat) hR hC))).set
    rw [View.set_slice_whole, Rect.mem_set_unit]
    obtain ⟨e0, e1⟩ := index2 (pointOf (i 0 : Nat) (i 1 : Nat) hR hC)
    rw [ev] at e0 e1
    intro a
    match a with
    | ⟨0, _⟩ =>
      show win0_2.index (pointOf (i 0 : Nat) (i 1 : Nat) hR hC) 0 * 1024 ≤ (i 0 : Nat) ∧ (i 0 : Nat) < win0_2.index (pointOf (i 0 : Nat) (i 1 : Nat) hR hC) 0 * 1024 + 1024
      rw [e0]; omega
    | ⟨1, _⟩ =>
      show win0_2.index (pointOf (i 0 : Nat) (i 1 : Nat) hR hC) 1 * 1024 ≤ (i 1 : Nat) ∧ (i 1 : Nat) < win0_2.index (pointOf (i 0 : Nat) (i 1 : Nat) hR hC) 1 * 1024 + 1024
      rw [e1]; omega

end Cert.Kernel3Ideal.Hand

namespace Cert.Alg3

open Idealize.ShloMosaic

theorem quiescent_ref : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : algebraic_Kernel3Ideal_Reference3Ideal := by
  intro m g m' g' _ hagree
  refine ⟨fun c => Cert.Kernel3Ideal.Hand.refOf m c,
    (θ_run Cert.Kernel3Ideal.defs _ _).mono (fun _ h c => ⟨(h c).1.trans (Cert.Kernel3Ideal.Hand.final_o m c), (h c).2⟩) (Cert.Kernel3Ideal.Value.run_blocks m g), ?_⟩
  refine (θ_run Cert.Reference3Ideal.defs _ _).mono (fun _ h c => ⟨(h c).1.trans ?_, (h c).2⟩) (Cert.Reference3Ideal.Value.run (F := Ideal) m' g')
  obtain ⟨e0, e1⟩ := hagree c
  rw [Cert.Reference3Ideal.Read.val_main_v1_eq, e0, e1]

end Cert.Alg3

end
-- ==== Proof.Out1.lean ====
/- The second layer's output projection: every block of the kernel's result is the product of its rows and columns, slab by slab,
   over the extended reals, and the blocks cover the result. -/
module

public import proofs.«01_k».proof.Defs
public import proofs.«01_k».proof.Proof.Plain
public import proofs.«01_k».proof.Proof.Gen.Kernel4Ideal.Value
public import proofs.«01_k».proof.Proof.Gen.Reference4Ideal.Read

@[expose] public section

set_option maxRecDepth 16384

noncomputable section

namespace Cert.Kernel4Ideal.Hand

open Idealize.ShloMosaic Idealize.ShloMosaic.TcCoe Idealize.ShloMosaic.ValueIdx Idealize.ShloMosaic.Tactic Idealize.SL.Sem
open Cert.Kernel4Ideal Cert.Kernel4Ideal.Gen Cert.Plain
open Cert.Reference4Ideal.Read

/-- The eight slabs of a block are the slabs of one product. -/
theorem out_apply (x : Vec Ideal S1024x4096 .bf16) (w : Vec Ideal S4096x1024 .bf16) (r : Fin 1024) (c : Fin 1024) :
    (out0_2 x w : S1024x1024.Idx → EReal) (ix2 r c) = ∑ k : Fin 4096, (x (ix2 r k) : EReal) * w (ix2 k c) := by
  unfold out0_2
  refine (Value.canon2_eq _ _ (ix2 r c)).trans ?_
  refine (congrArg _ (eq_ix2 (Value.ix2_0 (ix2 r c)))).trans ?_
  unfold k0_pay1
  simp only [View.ld_unit_zero (S := S1024x4096) zeros, View.ld_unit_zero (S := S4096x1024) zeros, shapeCast_self]
  exact dot_apply x w r c

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel

variable (m : (ℓ : Loc nD τ sig) → Buf (Elt Ideal) ℓ)

abbrev A0 (c : Dev nD) : S4x4096x4096.Idx → EReal := m ((c : Thread nD τ).loc main_arg0)
abbrev A1 (c : Dev nD) : S4096x4096.Idx → EReal := m ((c : Thread nD τ).loc main_arg1)
abbrev W1 (c : Dev nD) : S16384x4096.Idx → EReal := V m c main_v1
abbrev W2 (c : Dev nD) : S4096x4096.Idx → EReal := V m c main_v2

theorem W1_eq (c : Dev nD) : W1 m c = shapeCast S16384x4096 (A0 m c) shapeCasts_S4x4096x4096_S16384x4096 := by
  unfold W1 V
  after_results
  rfl

theorem W2_eq (c : Dev nD) : W2 m c = A1 m c := by
  unfold W2 V
  after_results
  rfl

theorem iblk0_apply (c : Dev nD) (t : Fin cfg0.N) (r : Fin 1024) (k : Fin 4096) (z : S16384x4096.Idx)
    (h0 : (z 0).val = 1024 * (t.val / 4) + r.val) (h1 : (z 1).val = k.val) : (iblk m c 0 t : S1024x4096.Idx → EReal) (ix2 r k) = W1 m c z := by
  unfold iblk
  rw [View.read_apply]
  show V m c main_v1 _ = V m c main_v1 _
  congr 1
  funext a
  apply Fin.ext
  match a with
  | ⟨0, _⟩ => show win0_0.index t 0 * 1024 + 1 * r.val = (z 0).val; rw [(index0 t).1]; omega
  | ⟨1, _⟩ => show win0_0.index t 1 * 4096 + 1 * k.val = (z 1).val; rw [(index0 t).2]; omega

theorem iblk1_apply (c : Dev nD) (t : Fin cfg0.N) (k : Fin 4096) (r : Fin 1024) (z : S4096x4096.Idx)
    (h0 : (z 0).val = k.val) (h1 : (z 1).val = 1024 * (t.val % 4) + r.val) : (iblk m c 1 t : S4096x1024.Idx → EReal) (ix2 k r) = W2 m c z := by
  unfold iblk
  rw [View.read_apply]
  show V m c main_v2 _ = V m c main_v2 _
  congr 1
  funext a
  apply Fin.ext
  match a with
  | ⟨0, _⟩ => show win0_1.index t 0 * 4096 + 1 * k.val = (z 0).val; rw [(index1 t).1]; omega
  | ⟨1, _⟩ => show win0_1.index t 1 * 1024 + 1 * r.val = (z 1).val; rw [(index1 t).2]; omega

/-- The reference's result of the kernel's arguments. -/
abbrev refOf (c : Dev nD) : S16384x4096.Idx → EReal := val_main_v1 (F := Ideal) (A0 m c) (A1 m c)

theorem ref_apply (x : S4x4096x4096.Idx → EReal) (w : S4096x4096.Idx → EReal) (z : S16384x4096.Idx) :
    val_main_v1 (F := Ideal) x w z
      = ∑ k : Fin 4096, shapeCast S16384x4096 x shapeCasts_S4x4096x4096_S16384x4096 (ix2 (z 0) k) * w (ix2 k (z 1)) := by
  have h0 : (z 0).val < 16384 := (z 0).isLt
  have h1 : (z 1).val < 4096 := (z 1).isLt
  rw [val_main_v1_apply, val_main_v0_apply]
  refine Finset.sum_congr rfl fun k _ => congrArg₂ (· * ·) ?_ (congrArg w ?_)
  · refine (shapeCast_apply x _ _ _ ?_).symm
    rw [Shape.rowMajor_val_three, Shape.rowMajor_val_two]
    show (((z 0).val * 4096 + (z 1).val) / 16777216 * 4096 + ((z 0).val * 4096 + (z 1).val) / 4096 % 4096) * 4096 + k.val = (z 0).val * 4096 + k.val
    omega
  · refine funext fun a => Fin.ext ?_
    match a with
    | ⟨0, _⟩ => rfl
    | ⟨1, _⟩ => show ((z 0).val * 4096 + (z 1).val) % 4096 = (z 1).val; omega

/-- What the body leaves at a point is the reference's block there. -/
theorem point_apply (c : Dev nD) (t : Fin cfg0.N) (y : S1024x1024.Idx) (z : S16384x4096.Idx)
    (h0 : (z 0).val = 1024 * (t.val / 4) + (y 0).val) (h1 : (z 1).val = 1024 * (t.val % 4) + (y 1).val) :
    (out0_2 (iblk m c 0 t) (iblk m c 1 t) : S1024x1024.Idx → EReal) y = refOf m c z := by
  obtain ⟨r, u, rfl⟩ : ∃ (r : Fin 1024) (u : Fin 1024), y = (ix2 r u : S1024x1024.Idx) := ⟨y 0, y 1, eq_ix2 y⟩
  refine (out_apply _ _ r u).trans ?_
  refine Eq.trans ?_ (ref_apply (A0 m c) (A1 m c) z).symm
  rw [← W1_eq, ← W2_eq]
  exact Finset.sum_congr rfl fun k _ => congrArg₂ (· * ·) (iblk0_apply m c t r k _ h0 rfl) (iblk1_apply m c t k u _ rfl h1)

theorem flushed_eq (c : Dev nD) (t : Fin cfg0.N) (hf : (cfg0.win 2).flush t = true) :
    (dats m 0 c).flushed 2 t = ((cfg0.win 2).blk t).view.read (Elt Ideal) (refOf m c) := by
  rw [Value.flushed2]
  funext y
  rw [View.read_apply]
  refine point_apply m c t _ _ ?_ ?_
  · show win0_2.index t 0 * 1024 + 1 * (y 0).val = _ + (y 0).val
    rw [(index2 t).1]; omega
  · show win0_2.index t 1 * 1024 + 1 * (y 1).val = _ + (y 1).val
    rw [(index2 t).2]; omega

/-- The point that writes row `R`, column `C`. -/
def pointOf (R C : ℕ) (hR : R < 16384) (hC : C < 4096) : Fin cfg0.N := ⟨4 * (R / 1024) + C / 1024, lt_of_lt_of_eq (by omega) N_0.symm⟩

theorem final_o (c : Dev nD) : (dats m 0 c).arrAt 2 cfg0.N = refOf m c :=
  (dats m 0 c).arrAt_eq_of_cover 2 (refOf m c) (flushed_eq m c) fun i => by
    have hR : (i 0 : Nat) < 16384 := (i 0).isLt
    have hC : (i 1 : Nat) < 4096 := (i 1).isLt
    refine ⟨pointOf (i 0 : Nat) (i 1 : Nat) hR hC, flush0_2 _, ?_⟩
    show i ∈ ((View.whole main_v3).slice (win0_2.rect (pointOf (i 0 : Nat) (i 1 : Nat) hR hC))).set
    rw [View.set_slice_whole, Rect.mem_set_unit]
    obtain ⟨e0, e1⟩ := index2 (pointOf (i 0 : Nat) (i 1 : Nat) hR hC)
    have ev : (pointOf (i 0 : Nat) (i 1 : Nat) hR hC).val = 4 * ((i 0 : Nat) / 1024) + (i 1 : Nat) / 1024 := rfl
    rw [ev] at e0 e1
    intro a
    match a with
    | ⟨0, _⟩ =>
      show win0_2.index (pointOf (i 0 : Nat) (i 1 : Nat) hR hC) 0 * 1024 ≤ (i 0 : Nat) ∧ (i 0 : Nat) < win0_2.index (pointOf (i 0 : Nat) (i 1 : Nat) hR hC) 0 * 1024 + 1024
      rw [e0]; omega
    | ⟨1, _⟩ =>
      show win0_2.index (pointOf (i 0 : Nat) (i 1 : Nat) hR hC) 1 * 1024 ≤ (i 1 : Nat) ∧ (i 1 : Nat) < win0_2.index (pointOf (i 0 : Nat) (i 1 : Nat) hR hC) 1 * 1024 + 1024
      rw [e1]; omega

end Cert.Kernel4Ideal.Hand

namespace Cert.Alg4

open Idealize.ShloMosaic

theorem quiescent_ref : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : algebraic_Kernel4Ideal_Reference4Ideal := by
  intro m g m' g' _ hagree
  refine ⟨fun c => Cert.Kernel4Ideal.Hand.refOf m c,
    (θ_run Cert.Kernel4Ideal.defs _ _).mono (fun _ h c => ⟨(h c).1.trans (Cert.Kernel4Ideal.Hand.final_o m c), (h c).2⟩) (Cert.Kernel4Ideal.Value.run_blocks m g), ?_⟩
  refine (θ_run Cert.Reference4Ideal.defs _ _).mono (fun _ h c => ⟨(h c).1.trans ?_, (h c).2⟩) (Cert.Reference4Ideal.Value.run (F := Ideal) m' g')
  obtain ⟨e0, e1⟩ := hagree c
  rw [Cert.Reference4Ideal.Read.val_main_v1_eq, e0, e1]

end Cert.Alg4

end
-- ==== Proof.Out0.lean ====
/- The first layer's output projection: the kernel adds the products of the two head groups' outputs with their halves of the
   weight's rows; the reference takes one product of the outputs side by side. A row of either is one sum over the 4096 rows of
   the weight, cut at 2048. -/
module

public import proofs.«01_k».proof.Defs
public import proofs.«01_k».proof.Proof.Plain
public import proofs.«01_k».proof.Proof.Gen.Kernel5Ideal.Value
public import proofs.«01_k».proof.Proof.Gen.Reference5Ideal.Read

@[expose] public section

set_option maxRecDepth 16384

noncomputable section

namespace Cert.Kernel5Ideal.Hand

open Idealize.ShloMosaic Idealize.ShloMosaic.TcCoe Idealize.ShloMosaic.ValueIdx Idealize.ShloMosaic.Tactic Idealize.SL.Sem
open Cert.Kernel5Ideal Cert.Kernel5Ideal.Gen Cert.Plain
open Cert.Reference5Ideal.Read

theorem out_apply (x : Vec Ideal S1024x2048 .bf16) (w : Vec Ideal S2048x1024 .bf16) (x' : Vec Ideal S1024x2048 .bf16) (w' : Vec Ideal S2048x1024 .bf16)
    (r : Fin 1024) (c : Fin 1024) :
    (out0_4 x w x' w' : S1024x1024.Idx → EReal) (ix2 r c)
      = ∑ k : Fin 2048, (x (ix2 r k) : EReal) * w (ix2 k c) + ∑ k : Fin 2048, (x' (ix2 r k) : EReal) * w' (ix2 k c) := by
  unfold out0_4
  refine (Value.canon4_eq _ _ _ _ (ix2 r c)).trans ?_
  refine (congrArg _ (eq_ix2 (Value.ix4_0 (ix2 r c)))).trans ?_
  unfold k0_pay1
  simp only [View.ld_unit_zero (S := S1024x2048) zeros, View.ld_unit_zero (S := S2048x1024) zeros, shapeCast_self]
  rw [← dot_apply x w r c, ← dot_apply x' w' r c]
  rfl

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = 0 := by decide +kernel
theorem index3 : ∀ t : Fin grid0.N, win0_3.index t 0 = 0 ∧ win0_3.index t 1 = t.val % 4 := by decide +kernel
theorem index4 : ∀ t : Fin grid0.N, win0_4.index t 0 = t.val / 4 ∧ win0_4.index t 1 = t.val % 4 := by decide +kernel

variable (m : (ℓ : Loc nD τ sig) → Buf (Elt Ideal) ℓ)

abbrev A0 (c : Dev nD) : S4x4096x2048.Idx → EReal := m ((c : Thread nD τ).loc main_arg0)
abbrev A1 (c : Dev nD) : S4x4096x2048.Idx → EReal := m ((c : Thread nD τ).loc main_arg1)
abbrev A2 (c : Dev nD) : S4096x4096.Idx → EReal := m ((c : Thread nD τ).loc main_arg2)

/-- Row `R` of one group's outputs, all positions in one column. -/
def rowOf (x : S4x4096x2048.Idx → EReal) (R : Fin 16384) (k : Fin 2048) : EReal :=
  shapeCast S16384x2048 x shapeCasts_S4x4096x2048_S16384x2048 (ix2 R k)

theorem x_eq (c : Dev nD) (z : S16384x2048.Idx) : (V m c main_v2 : S16384x2048.Idx → EReal) z = rowOf (A0 m c) (z 0) (z 1) := by
  unfold rowOf V
  after_results
  exact congrArg _ (eq_ix2 z)

theorem x'_eq (c : Dev nD) (z : S16384x2048.Idx) : (V m c main_v5 : S16384x2048.Idx → EReal) z = rowOf (A1 m c) (z 0) (z 1) := by
  unfold rowOf V
  after_results
  exact congrArg _ (eq_ix2 z)

theorem w_eq (c : Dev nD) (z : S2048x4096.Idx) (k : Fin 4096) (hk : k.val = (z 0).val) :
    (V m c main_v3 : S2048x4096.Idx → EReal) z = A2 m c (ix2 k (z 1)) := by
  unfold V
  after_results
  refine extractStridedSlice_apply ![0, 0] (A2 m c) _ z _ (fun a => ?_)
  match a with
  | ⟨0, _⟩ => show k.val = 0 + (z 0).val; omega
  | ⟨1, _⟩ => show (z 1).val = 0 + (z 1).val; omega

theorem w'_eq (c : Dev nD) (z : S2048x4096.Idx) (k : Fin 4096) (hk : k.val = 2048 + (z 0).val) :
    (V m c main_v6 : S2048x4096.Idx → EReal) z = A2 m c (ix2 k (z 1)) := by
  unfold V
  after_results
  refine extractStridedSlice_apply ![2048, 0] (A2 m c) _ z _ (fun a => ?_)
  match a with
  | ⟨0, _⟩ => exact hk
  | ⟨1, _⟩ => show (z 1).val = 0 + (z 1).val; omega

theorem iblk0_apply (c : Dev nD) (t : Fin cfg0.N) (r : Fin 1024) (k : Fin 2048) (R : Fin 16384)
    (h : R.val = 1024 * (t.val / 4) + r.val) : (iblk m c 0 t : S1024x2048.Idx → EReal) (ix2 r k) = rowOf (A0 m c) R k := by
  unfold iblk
  rw [View.read_apply]
  refine (x_eq m c _).trans ?_
  refine congrArg₂ (rowOf (A0 m c)) (Fin.ext ?_) (Fin.ext ?_)
  · show win0_0.index t 0 * 1024 + 1 * r.val = R.val; rw [(index0 t).1]; omega
  · show win0_0.index t 1 * 2048 + 1 * k.val = k.val; rw [(index0 t).2]; omega

theorem iblk2_apply (c : Dev nD) (t : Fin cfg0.N) (r : Fin 1024) (k : Fin 2048) (R : Fin 16384)
    (h : R.val = 1024 * (t.val / 4) + r.val) : (iblk m c 2 t : S1024x2048.Idx → EReal) (ix2 r k) = rowOf (A1 m c) R k := by
  unfold iblk
  rw [View.read_apply]
  refine (x'_eq m c _).trans ?_
  refine congrArg₂ (rowOf (A1 m c)) (Fin.ext ?_) (Fin.ext ?_)
  · show win0_2.index t 0 * 1024 + 1 * r.val = R.val; rw [(index2 t).1]; omega
  · show win0_2.index t 1 * 2048 + 1 * k.val = k.val; rw [(index2 t).2]; omega

theorem iblk1_apply (c : Dev nD) (t : Fin cfg0.N) (k : Fin 2048) (r : Fin 1024) (C : Fin 4096)
    (h : C.val = 1024 * (t.val % 4) + r.val) : (iblk m c 1 t : S2048x1024.Idx → EReal) (ix2 k r) = A2 m c (ix2 (Fin.castAdd 2048 k) C) := by
  unfold iblk
  rw [View.read_apply]
  refine (w_eq m c _ (Fin.castAdd 2048 k) ?_).trans ?_
  · show k.val = win0_1.index t 0 * 2048 + 1 * k.val; rw [(index1 t).1]; omega
  · refine congrArg (fun C' : Fin 4096 => A2 m c (ix2 (Fin.castAdd 2048 k) C')) (Fin.ext ?_)
    show win0_1.index t 1 * 1024 + 1 * r.val = C.val; rw [(index1 t).2]; omega

theorem iblk3_apply (c : Dev nD) (t : Fin cfg0.N) (k : Fin 2048) (r : Fin 1024) (C : Fin 4096)
    (h : C.val = 1024 * (t.val % 4) + r.val) : (iblk m c 3 t : S2048x1024.Idx → EReal) (ix2 k r) = A2 m c (ix2 (Fin.natAdd 2048 k) C) := by
  unfold iblk
  rw [View.read_apply]
  refine (w'_eq m c _ (Fin.natAdd 2048 k) ?_).trans ?_
  · show 2048 + k.val = 2048 + (win0_3.index t 0 * 2048 + 1 * k.val); rw [(index3 t).1]; omega
  · refine congrArg (fun C' : Fin 4096 => A2 m c (ix2 (Fin.natAdd 2048 k) C')) (Fin.ext ?_)
    show win0_3.index t 1 * 1024 + 1 * r.val = C.val; rw [(index3 t).2]; omega

/-- The reference's result of the kernel's arguments. -/
abbrev refOf (c : Dev nD) : S16384x4096.Idx → EReal := val_main_v2 (F := Ideal) (A0 m c) (A1 m c) (A2 m c)

theorem side_left (x x' : S4x4096x2048.Idx → EReal) (j : Cert.Reference5Ideal.S4x4096x4096.Idx) (R : Fin 16384) (k : Fin 2048)
    (hR : R.val = (j 0).val * 4096 + (j 1).val) (hk : (j 2).val = k.val) : val_main_v0 (F := Ideal) x x' j = rowOf x R k := by
  unfold val_main_v0 rowOf
  refine (concatenate_pair_apply_left (t := Cert.Reference5Ideal.S4x4096x4096) (s₁ := S4x4096x2048) (s₂ := S4x4096x2048) 2 _ _ _ j rfl
    (ix3 (j 0) (j 1) k : S4x4096x2048.Idx) (fun a => ?_)).trans ?_
  · match a with
    | ⟨0, _⟩ => rfl
    | ⟨1, _⟩ => rfl
    | ⟨2, _⟩ => exact hk.symm
  · refine (shapeCast_apply x _ _ _ ?_).symm
    rw [Shape.rowMajor_val_three, Shape.rowMajor_val_two]
    show ((j 0).val * 4096 + (j 1).val) * 2048 + k.val = R.val * 2048 + k.val
    rw [hR]

theorem side_right (x x' : S4x4096x2048.Idx → EReal) (j : Cert.Reference5Ideal.S4x4096x4096.Idx) (R : Fin 16384) (k : Fin 2048)
    (hR : R.val = (j 0).val * 4096 + (j 1).val) (hk : (j 2).val = 2048 + k.val) : val_main_v0 (F := Ideal) x x' j = rowOf x' R k := by
  unfold val_main_v0 rowOf
  refine (concatenate_pair_apply_right (t := Cert.Reference5Ideal.S4x4096x4096) (s₁ := S4x4096x2048) (s₂ := S4x4096x2048) 2 _ _ _ j rfl rfl
    (ix3 (j 0) (j 1) k : S4x4096x2048.Idx) (fun a ha => ?_) ?_).trans ?_
  · match a with
    | ⟨0, _⟩ => rfl
    | ⟨1, _⟩ => rfl
    | ⟨2, _⟩ => exact absurd rfl ha
  · show k.val + 2048 = (j 2).val; omega
  · refine (shapeCast_apply x' _ _ _ ?_).symm
    rw [Shape.rowMajor_val_three, Shape.rowMajor_val_two]
    show ((j 0).val * 4096 + (j 1).val) * 2048 + k.val = R.val * 2048 + k.val
    rw [hR]

theorem ref_apply (x x' : S4x4096x2048.Idx → EReal) (w : S4096x4096.Idx → EReal) (z : S16384x4096.Idx) :
    val_main_v2 (F := Ideal) x x' w z
      = ∑ k : Fin 2048, rowOf x (z 0) k * w (ix2 (Fin.castAdd 2048 k) (z 1)) + ∑ k : Fin 2048, rowOf x' (z 0) k * w (ix2 (Fin.natAdd 2048 k) (z 1)) := by
  have h0 : (z 0).val < 16384 := (z 0).isLt
  have h1 : (z 1).val < 4096 := (z 1).isLt
  have er : ∀ k : Fin 4096, ridx_main_v1 (idx_main_v2 z) k = (ix2 k (z 1) : S4096x4096.Idx) := fun k => funext fun a => Fin.ext (by
    match a with
    | ⟨0, _⟩ => rfl
    | ⟨1, _⟩ => show ((z 0).val * 4096 + (z 1).val) % 4096 = (z 1).val; omega)
  have eR : (z 0).val = ((z 0).val * 4096 + (z 1).val) / 16777216 * 4096 + ((z 0).val * 4096 + (z 1).val) / 4096 % 4096 := by omega
  rw [val_main_v2_apply, val_main_v1_apply]
  simp only [er]
  refine (Fin.sum_univ_add (a := 2048) (b := 2048) fun k => val_main_v0 (F := Ideal) x x' (lidx_main_v1 (idx_main_v2 z) k) * w (ix2 k (z 1))).trans ?_
  refine congrArg₂ (· + ·) ?_ ?_
  · exact Finset.sum_congr rfl fun k _ => congrArg (· * w _) (side_left x x' _ (z 0) k eR rfl)
  · exact Finset.sum_congr rfl fun k _ => congrArg (· * w _) (side_right x x' _ (z 0) k eR rfl)

/-- What the body leaves at a point is the reference's block there. -/
theorem point_apply (c : Dev nD) (t : Fin cfg0.N) (y : S1024x1024.Idx) (z : S16384x4096.Idx)
    (h0 : (z 0).val = 1024 * (t.val / 4) + (y 0).val) (h1 : (z 1).val = 1024 * (t.val % 4) + (y 1).val) :
    (out0_4 (iblk m c 0 t) (iblk m c 1 t) (iblk m c 2 t) (iblk m c 3 t) : S1024x1024.Idx → EReal) y = refOf m c z := by
  obtain ⟨r, u, rfl⟩ : ∃ (r : Fin 1024) (u : Fin 1024), y = (ix2 r u : S1024x1024.Idx) := ⟨y 0, y 1, eq_ix2 y⟩
  refine (out_apply _ _ _ _ r u).trans ?_
  refine Eq.trans ?_ (ref_apply (A0 m c) (A1 m c) (A2 m c) z).symm
  refine congrArg₂ (· + ·) ?_ ?_
  · exact Finset.sum_congr rfl fun k _ => congrArg₂ (· * ·) (iblk0_apply m c t r k (z 0) h0) (iblk1_apply m c t k u (z 1) h1)
  · exact Finset.sum_congr rfl fun k _ => congrArg₂ (· * ·) (iblk2_apply m c t r k (z 0) h0) (iblk3_apply m c t k u (z 1) h1)

theorem flushed_eq (c : Dev nD) (t : Fin cfg0.N) (hf : (cfg0.win 4).flush t = true) :
    (dats m 0 c).flushed 4 t = ((cfg0.win 4).blk t).view.read (Elt Ideal) (refOf m c) := by
  rw [Value.flushed4]
  funext y
  rw [View.read_apply]
  refine point_apply m c t _ _ ?_ ?_
  · show win0_4.index t 0 * 1024 + 1 * (y 0).val = _ + (y 0).val
    rw [(index4 t).1]; omega
  · show win0_4.index t 1 * 1024 + 1 * (y 1).val = _ + (y 1).val
    rw [(index4 t).2]; omega

/-- The point that writes row `R`, column `C`. -/
def pointOf (R C : ℕ) (hR : R < 16384) (hC : C < 4096) : Fin cfg0.N := ⟨4 * (R / 1024) + C / 1024, lt_of_lt_of_eq (by omega) N_0.symm⟩

theorem final_o (c : Dev nD) : (dats m 0 c).arrAt 4 cfg0.N = refOf m c :=
  (dats m 0 c).arrAt_eq_of_cover 4 (refOf m c) (flushed_eq m c) fun i => by
    have hR : (i 0 : Nat) < 16384 := (i 0).isLt
    have hC : (i 1 : Nat) < 4096 := (i 1).isLt
    refine ⟨pointOf (i 0 : Nat) (i 1 : Nat) hR hC, flush0_4 _, ?_⟩
    show i ∈ ((View.whole main_v7).slice (win0_4.rect (pointOf (i 0 : Nat) (i 1 : Nat) hR hC))).set
    rw [View.set_slice_whole, Rect.mem_set_unit]
    obtain ⟨e0, e1⟩ := index4 (pointOf (i 0 : Nat) (i 1 : Nat) hR hC)
    have ev : (pointOf (i 0 : Nat) (i 1 : Nat) hR hC).val = 4 * ((i 0 : Nat) / 1024) + (i 1 : Nat) / 1024 := rfl
    rw [ev] at e0 e1
    intro a
    match a with
    | ⟨0, _⟩ =>
      show win0_4.index (pointOf (i 0 : Nat) (i 1 : Nat) hR hC) 0 * 1024 ≤ (i 0 : Nat) ∧ (i 0 : Nat) < win0_4.index (pointOf (i 0 : Nat) (i 1 : Nat) hR hC) 0 * 1024 + 1024
      rw [e0]; omega
    | ⟨1, _⟩ =>
      show win0_4.index (pointOf (i 0 : Nat) (i 1 : Nat) hR hC) 1 * 1024 ≤ (i 1 : Nat) ∧ (i 1 : Nat) < win0_4.index (pointOf (i 0 : Nat) (i 1 : Nat) hR hC) 1 * 1024 + 1024
      rw [e1]; omega

end Cert.Kernel5Ideal.Hand

namespace Cert.Alg5

open Idealize.ShloMosaic

theorem quiescent_ref : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic : algebraic_Kernel5Ideal_Reference5Ideal := by
  intro m g m' g' _ hagree
  refine ⟨fun c => Cert.Kernel5Ideal.Hand.refOf m c,
    (θ_run Cert.Kernel5Ideal.defs _ _).mono (fun _ h c => ⟨(h c).1.trans (Cert.Kernel5Ideal.Hand.final_o m c), (h c).2⟩) (Cert.Kernel5Ideal.Value.run_blocks m g), ?_⟩
  refine (θ_run Cert.Reference5Ideal.defs _ _).mono (fun _ h c => ⟨(h c).1.trans ?_, (h c).2⟩) (Cert.Reference5Ideal.Value.run (F := Ideal) m' g')
  obtain ⟨e0, e1, e2⟩ := hagree c
  rw [Cert.Reference5Ideal.Read.val_main_v2_eq, e0, e1, e2]

end Cert.Alg5

end
-- ==== Proof.Values.lean ====
/- The first layer's projection to values and gate: the kernel multiplies the input's rows with the transposed weight's rows it
   needs, laid one under the other; the reference multiplies with the whole weight and lays the columns side by side. Both read
   column `colOf C` of the weight for column `C` of the result. -/
module

public import proofs.«01_k».proof.Defs
public import proofs.«01_k».proof.Proof.Plain
public import proofs.«01_k».proof.Proof.Gen.Kernel6Ideal.Value
public import proofs.«01_k».proof.Proof.Gen.Reference6Ideal.Read

@[expose] public section

set_option maxRecDepth 16384

noncomputable section

namespace Cert.Kernel6Ideal.Hand

open Idealize.ShloMosaic Idealize.ShloMosaic.TcCoe Idealize.ShloMosaic.ValueIdx Idealize.ShloMosaic.Tactic Idealize.SL.Sem
open Cert.Kernel6Ideal Cert.Kernel6Ideal.Gen Cert.Plain
open Cert.Reference6Ideal.Read

theorem out_apply (x : Vec Ideal S1024x4096 .bf16) (w : Vec Ideal S768x4096 .bf16) (r : Fin 1024) (c : Fin 768) :
    (out0_2 x w : S1024x768.Idx → EReal) (ix2 r c) = ∑ k : Fin 4096, (x (ix2 r k) : EReal) * w (ix2 c k) := by
  unfold out0_2
  refine (Value.canon2_eq _ _ (ix2 r c)).trans ?_
  refine (congrArg (k0_pay1 _ _) (eq_ix2 (Value.ix2_0 (ix2 r c)))).trans ?_
  unfold k0_pay1
  simp only [View.ld_unit_zero (S := S1024x4096) zeros, View.ld_unit_zero (S := S768x4096) zeros, shapeCast_self]
  exact dot_rows_apply x w r c

theorem index0 : ∀ t : Fin grid0.N, win0_0.index t 0 = t.val / 6 ∧ win0_0.index t 1 = 0 := by decide +kernel
theorem index1 : ∀ t : Fin grid0.N, win0_1.index t 0 = t.val % 6 ∧ win0_1.index t 1 = 0 := by decide +kernel
theorem index2 : ∀ t : Fin grid0.N, win0_2.index t 0 = t.val / 6 ∧ win0_2.index t 1 = t.val % 6 := by decide +kernel

variable (m : (ℓ : Loc nD τ sig) → Buf (Elt Ideal) ℓ)

abbrev A0 (c : Dev nD) : S4x4096x4096.Idx → EReal := m ((c : Thread nD τ).loc main_arg0)
abbrev A1 (c : Dev nD) : S4096x12368.Idx → EReal := m ((c : Thread nD τ).loc main_arg1)
abbrev W1 (c : Dev nD) : S16384x4096.Idx → EReal := V m c main_v7
abbrev W2 (c : Dev nD) : S4608x4096.Idx → EReal := V m c main_v5

/-- The weight's column that column `C` of the result takes. -/
def colOf (C : ℕ) : ℕ := if C < 512 then 2560 + C else 7760 + C

theorem W1_eq (c : Dev nD) : W1 m c = shapeCast S16384x4096 (A0 m c) shapeCasts_S4x4096x4096_S16384x4096 := by
  unfold W1 V
  after_results
  rfl

/-- Rows of the transposed weight from `off` on are the weight's columns from `off` on. -/
theorem cut_apply {n : ℕ} (off : ℕ) (w : S4096x12368.Idx → EReal) (ht : S4096x12368.Transposes [1, 0] S12368x4096)
    (hs : S12368x4096.Slices ![off, 0] ⟨2, ![n, 4096]⟩) (i : Fin n) (k : Fin 4096) (C : Fin 12368) (hC : C.val = off + i.val) :
    extractStridedSlice ⟨2, ![n, 4096]⟩ ![off, 0] (transpose S12368x4096 [1, 0] w ht) hs (ix2 i k) = w (ix2 k C) := by
  refine (extractStridedSlice_apply ![off, 0] _ hs (ix2 i k) (ix2 C k) (fun a => ?_)).trans (transpose_apply [1, 0] w ht (ix2 C k) (ix2 k C) (fun b => ?_))
  · match a with
    | ⟨0, _⟩ => exact hC
    | ⟨1, _⟩ => show k.val = 0 + k.val; omega
  · match b with
    | ⟨0, _⟩ => rfl
    | ⟨1, _⟩ => rfl

/-- Rows `off` on of the transposed weight. -/
abbrev rowsOf (c : Dev nD) (n off : ℕ) (h : S12368x4096.Slices ![off, 0] ⟨2, ![n, 4096]⟩) : (⟨2, ![n, 4096]⟩ : Shape).Idx → EReal :=
  extractStridedSlice ⟨2, ![n, 4096]⟩ ![off, 0] (transpose S12368x4096 [1, 0] (A1 m c) transposes_S4096x12368_S12368x4096_1_0) h

theorem W2_eq (c : Dev nD) : W2 m c = concatenate S4608x4096 0
    [⟨S512x4096, rowsOf m c 512 2560 slices_S12368x4096_S512x4096_2560_0⟩, ⟨S2048x4096, rowsOf m c 2048 8272 slices_S12368x4096_S2048x4096_8272_0⟩,
      ⟨S2048x4096, rowsOf m c 2048 10320 slices_S12368x4096_S2048x4096_10320_0⟩] concatenates_S512x4096_S2048x4096_S2048x4096_S4608x4096_d0 := by
  unfold W2 V
  after_results
  rfl

theorem W2_apply (c : Dev nD) (z : S4608x4096.Idx) (C : Fin 12368) (hC : C.val = colOf (z 0).val) : W2 m c z = A1 m c (ix2 (z 1) C) := by
  have hz : (z 0).val < 4608 := (z 0).isLt
  rw [W2_eq]
  unfold colOf at hC
  by_cases h1 : (z 0).val < 512
  · rw [if_pos h1] at hC
    refine (concatenate_apply_piece (t := S4608x4096) 0 _ _ z 0 (by show 0 < 3; decide) S512x4096 _ rfl rfl 0 rfl (ix2 (⟨(z 0).val, h1⟩ : Fin 512) (z 1)) ?_ ?_).trans
      (cut_apply 2560 (A1 m c) _ _ _ _ C hC)
    · intro b hb
      match b with
      | ⟨0, _⟩ => exact absurd rfl hb
      | ⟨1, _⟩ => rfl
    · show 0 + (z 0).val = (z 0).val; omega
  rw [if_neg h1] at hC
  by_cases h2 : (z 0).val < 2560
  · refine (concatenate_apply_piece (t := S4608x4096) 0 _ _ z 1 (by show 1 < 3; decide) S2048x4096 _ rfl rfl 512 rfl (ix2 (⟨(z 0).val - 512, by omega⟩ : Fin 2048) (z 1)) ?_ ?_).trans
      (cut_apply 8272 (A1 m c) _ _ _ _ C (by show C.val = 8272 + ((z 0).val - 512); omega))
    · intro b hb
      match b with
      | ⟨0, _⟩ => exact absurd rfl hb
      | ⟨1, _⟩ => rfl
    · show 512 + ((z 0).val - 512) = (z 0).val; omega
  · refine (concatenate_apply_piece (t := S4608x4096) 0 _ _ z 2 (by show 2 < 3; decide) S2048x4096 _ rfl rfl 2560 rfl (ix2 (⟨(z 0).val - 2560, by omega⟩ : Fin 2048) (z 1)) ?_ ?_).trans
      (cut_apply 10320 (A1 m c) _ _ _ _ C (by show C.val = 10320 + ((z 0).val - 2560); omega))
    · intro b hb
      match b with
      | ⟨0, _⟩ => exact absurd rfl hb
      | ⟨1, _⟩ => rfl
    · show 2560 + ((z 0).val - 2560) = (z 0).val; omega

theorem iblk0_apply (c : Dev nD) (t : Fin cfg0.N) (r : Fin 1024) (k : Fin 4096) (z : S16384x4096.Idx)
    (h0 : (z 0).val = 1024 * (t.val / 6) + r.val) (h1 : (z 1).val = k.val) : (iblk m c 0 t : S1024x4096.Idx → EReal) (ix2 r k) = W1 m c z := by
  unfold iblk
  rw [View.read_apply]
  show V m c main_v7 _ = V m c main_v7 _
  congr 1
  funext a
  apply Fin.ext
  match a with
  | ⟨0, _⟩ => show win0_0.index t 0 * 1024 + 1 * r.val = (z 0).val; rw [(index0 t).1]; omega
  | ⟨1, _⟩ => show win0_0.index t 1 * 4096 + 1 * k.val = (z 1).val; rw [(index0 t).2]; omega

theorem iblk1_apply (c : Dev nD) (t : Fin cfg0.N) (r : Fin 768) (k : Fin 4096) (C : Fin 12368)
    (h : C.val = colOf (768 * (t.val % 6) + r.val)) : (iblk m c 1 t : S768x4096.Idx → EReal) (ix2 r k) = A1 m c (ix2 k C) := by
  unfold iblk
  rw [View.read_apply]
  refine (W2_apply m c _ C (h.trans (congrArg colOf ?_))).trans (congrArg (fun k' : Fin 4096 => A1 m c (ix2 k' C)) (Fin.ext ?_))
  · show _ = win0_1.index t 0 * 768 + 1 * r.val; rw [(index1 t).1]; omega
  · show win0_1.index t 1 * 4096 + 1 * k.val = k.val; rw [(index1 t).2]; omega

/-- The reference's result of the kernel's arguments. -/
abbrev refOf (c : Dev nD) : S16384x4608.Idx → EReal := val_main_v6 (F := Ideal) (A0 m c) (A1 m c)

/-- The columns side by side, one at an index: a column of the whole product. -/
theorem side_apply (x : S4x4096x4096.Idx → EReal) (w : S4096x12368.Idx → EReal) (j : Cert.Reference6Ideal.S4x4096x4608.Idx) (C : Fin 12368)
    (hC : C.val = colOf (j 2).val) : val_main_v4 (F := Ideal) x w j = val_main_v0 (F := Ideal) x w (ix3 (j 0) (j 1) C) := by
  have hj : (j 2).val < 4608 := (j 2).isLt
  unfold val_main_v4
  unfold colOf at hC
  by_cases h1 : (j 2).val < 512
  · rw [if_pos h1] at hC
    refine (concatenate_apply_piece (t := Cert.Reference6Ideal.S4x4096x4608) 2 _ _ j 0 (by show 0 < 3; decide) Cert.Reference6Ideal.S4x4096x512 _ rfl rfl 0 rfl (ix3 (j 0) (j 1) (⟨(j 2).val, h1⟩ : Fin 512)) ?_ ?_).trans ?_
    · intro b hb
      match b with
      | ⟨0, _⟩ => rfl
      | ⟨1, _⟩ => rfl
      | ⟨2, _⟩ => exact absurd rfl hb
    · show 0 + (j 2).val = (j 2).val; omega
    · refine (val_main_v1_apply (F := Ideal) x w _).trans (congrArg _ (funext fun a => Fin.ext ?_))
      match a with
      | ⟨0, _⟩ => rfl
      | ⟨1, _⟩ => rfl
      | ⟨2, _⟩ => exact hC.symm
  rw [if_neg h1] at hC
  by_cases h2 : (j 2).val < 2560
  · refine (concatenate_apply_piece (t := Cert.Reference6Ideal.S4x4096x4608) 2 _ _ j 1 (by show 1 < 3; decide) Cert.Reference6Ideal.S4x4096x2048 _ rfl rfl 512 rfl (ix3 (j 0) (j 1) (⟨(j 2).val - 512, by omega⟩ : Fin 2048)) ?_ ?_).trans ?_
    · intro b hb
      match b with
      | ⟨0, _⟩ => rfl
      | ⟨1, _⟩ => rfl
      | ⟨2, _⟩ => exact absurd rfl hb
    · show 512 + ((j 2).val - 512) = (j 2).val; omega
    · refine (val_main_v2_apply (F := Ideal) x w _).trans (congrArg _ (funext fun a => Fin.ext ?_))
      match a with
      | ⟨0, _⟩ => rfl
      | ⟨1, _⟩ => rfl
      | ⟨2, _⟩ => show 8272 + ((j 2).val - 512) = C.val; omega
  · refine (concatenate_apply_piece (t := Cert.Reference6Ideal.S4x4096x4608) 2 _ _ j 2 (by show 2 < 3; decide) Cert.Reference6Ideal.S4x4096x2048 _ rfl rfl 2560 rfl (ix3 (j 0) (j 1) (⟨(j 2).val - 2560, by omega⟩ : Fin 2048)) ?_ ?_).trans ?_
    · intro b hb
      match b with
      | ⟨0, _⟩ => rfl
      | ⟨1, _⟩ => rfl
      | ⟨2, _⟩ => exact absurd rfl hb
    · show 2560 + ((j 2).val - 2560) = (j 2).val; omega
    · refine (val_main_v3_apply (F := Ideal) x w _).trans (congrArg _ (funext fun a => Fin.ext ?_))
      match a with
      | ⟨0, _⟩ => rfl
      | ⟨1, _⟩ => rfl
      | ⟨2, _⟩ => show 10320 + ((j 2).val - 2560) = C.val; omega

theorem ref_apply (x : S4x4096x4096.Idx → EReal) (w : S4096x12368.Idx → EReal) (z : S16384x4608.Idx) (C : Fin 12368) (hC : C.val = colOf (z 1).val) :
    val_main_v6 (F := Ideal) x w z
      = ∑ k : Fin 4096, shapeCast S16384x4096 x shapeCasts_S4x4096x4096_S16384x4096 (ix2 (z 0) k) * w (ix2 k C) := by
  have h0 : (z 0).val < 16384 := (z 0).isLt
  have h1 : (z 1).val < 4608 := (z 1).isLt
  refine (val_main_v5_apply (F := Ideal) x w z).trans ?_
  refine (side_apply x w _ C (hC.trans (congrArg colOf ?_))).trans ?_
  · show (z 1).val = ((z 0).val * 4608 + (z 1).val) % 4608; omega
  rw [val_main_v0_apply]
  refine Finset.sum_congr rfl fun k _ => congrArg₂ (· * ·) ?_ (congrArg w ?_)
  · refine (shapeCast_apply x _ _ _ ?_).symm
    rw [Shape.rowMajor_val_three, Shape.rowMajor_val_two]
    show (((z 0).val * 4608 + (z 1).val) / 18874368 * 4096 + ((z 0).val * 4608 + (z 1).val) / 4608 % 4096) * 4096 + k.val = (z 0).val * 4096 + k.val
    omega
  · refine funext fun a => Fin.ext ?_
    match a with
    | ⟨0, _⟩ => rfl
    | ⟨1, _⟩ => rfl

/-- What the body leaves at a point is the reference's block there. -/
theorem point_apply (c : Dev nD) (t : Fin cfg0.N) (y : S1024x768.Idx) (z : S16384x4608.Idx)
    (h0 : (z 0).val = 1024 * (t.val / 6) + (y 0).val) (h1 : (z 1).val = 768 * (t.val % 6) + (y 1).val) :
    (out0_2 (iblk m c 0 t) (iblk m c 1 t) : S1024x768.Idx → EReal) y = refOf m c z := by
  obtain ⟨r, u, rfl⟩ : ∃ (r : Fin 1024) (u : Fin 768), y = (ix2 r u : S1024x768.Idx) := ⟨y 0, y 1, eq_ix2 y⟩
  have hz : (z 1).val < 4608 := (z 1).isLt
  have hlt : colOf (z 1).val < 12368 := by unfold colOf; split <;> omega
  refine (out_apply _ _ r u).trans ?_
  refine Eq.trans ?_ (ref_apply (A0 m c) (A1 m c) z ⟨colOf (z 1).val, hlt⟩ rfl).symm
  rw [← W1_eq]
  exact Finset.sum_congr rfl fun k _ => congrArg₂ (· * ·) (iblk0_apply m c t r k _ h0 rfl) (iblk1_apply m c t u k _ (congrArg colOf h1))

theorem flushed_eq (c : Dev nD) (t : Fin cfg0.N) (hf : (cfg0.win 2).flush t = true) :
    (dats m 0 c).flushed 2 t = ((cfg0.win 2).blk t).view.read (Elt Ideal) (refOf m c) := by
  rw [Value.flushed2]
  funext y
  rw [View.read_apply]
  refine point_apply m c t _ _ ?_ ?_
  · show win0_2.index t 0 * 1024 + 1 * (y 0).val = _ + (y 0).val
    rw [(index2 t).1]; omega
  · show win0_2.index t 1 * 768 + 1 * (y 1).val = _ + (y 1).val
    rw [(index2 t).2]; omega

/-- The point that writes row `R`, column `C`. -/
def pointOf (R C : ℕ) (hR : R < 16384) (hC : C < 4608) : Fin cfg0.N := ⟨6 * (R / 1024) + C / 768, lt_of_lt_of_eq (by omega) N_0.symm⟩

theorem final_o (c : Dev nD) : (dats m 0 c).arrAt 2 cfg0.N = refOf m c :=
  (dats m 0 c).arrAt_eq_of_cover 2 (refOf m c) (flushed_eq m c) fun i => by
    have hR : (i 0 : Nat) < 16384 := (i 0).isLt
    have hC : (i 1 : Nat) < 4608 := (i 1).isLt
    refine ⟨pointOf (i 0 : Nat) (i 1 : Nat) hR hC, flush0_2 _, ?_⟩
    show i ∈ ((View.whole main_v8).slice (win0_2.rect (pointOf (i 0 : Nat) (i 1 : Nat) hR hC))).set
    rw [View.set_slice_whole, Rect.mem_set_unit]
    obtain ⟨e0, e1⟩ := index2 (pointOf (i 0 : Nat) (i 1 : Nat) hR hC)
    have ev : (pointOf (i 0 : Nat) (i 1 : Nat) hR hC).val = 6 * ((i 0 : Nat) / 1024) + (i 1 : Nat) / 768 := rfl
    rw [ev] at e0 e1
    intro a
    match a with
    | ⟨0, _⟩ =>
      show win0_2.index (pointOf (i 0 : Nat) (i 1 : Nat) hR hC) 0 * 1024 ≤ (i 0 : Nat) ∧ (i 0 : Nat) < win0_2.index (pointOf (i 0 : Nat) (i 1 : Nat) hR hC) 0 * 1024 + 1024
      rw [e0]; omega
    | ⟨1, _⟩ =>
      show win0_2.index (pointOf (i 0 : Nat) (i 1 : Nat) hR hC) 1 * 768 ≤ (i 1 : Nat) ∧ (i 1 : Nat) < win0_2.index (pointOf (i 0 : Nat) (i 1 : Nat) hR hC) 1 * 768 + 768
      rw [e1]; omega

end Cert.Kernel6Ideal.Hand

namespace Cert.Alg6

open Idealize.ShloMosaic

theorem quiescent_ref : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : algebraic_Kernel6Ideal_Reference6Ideal := by
  intro m g m' g' _ hagree
  refine ⟨fun c => Cert.Kernel6Ideal.Hand.refOf m c,
    (θ_run Cert.Kernel6Ideal.defs _ _).mono (fun _ h c => ⟨(h c).1.trans (Cert.Kernel6Ideal.Hand.final_o m c), (h c).2⟩) (Cert.Kernel6Ideal.Value.run_blocks m g), ?_⟩
  refine (θ_run Cert.Reference6Ideal.defs _ _).mono (fun _ h c => ⟨(h c).1.trans ?_, (h c).2⟩) (Cert.Reference6Ideal.Value.run (F := Ideal) m' g')
  obtain ⟨e0, e1⟩ := hagree c
  rw [Cert.Reference6Ideal.Read.val_main_v6_eq, e0, e1]

end Cert.Alg6

end
-- ==== Proof.RetQk.lean ====
/- The retention's projection to queries and keys, turned by position: a block's slabs are taken in pairs, each slab times the
   cosines plus its pair's other slab times the signed sines. The reference turns the halves of each head's columns, and multiplies the
   keys by 1/16 afterwards, where the kernel's host code multiplies the weight. -/
module

public import proofs.«01_k».proof.Defs
public import proofs.«01_k».proof.Proof.Plain
public import proofs.«01_k».proof.Proof.Gen.Kernel7Ideal.Value
public import proofs.«01_k».proof.Proof.Gen.Reference7Ideal.Read

@[expose] public section

set_option maxRecDepth 16384

noncomputable section

namespace Cert.Kernel7Ideal.Hand

open Idealize.ShloMosaic Idealize.ShloMosaic.TcCoe Idealize.ShloMosaic.ValueIdx Idealize.ShloMosaic.Tactic Idealize.SL.Sem
open Cert.Kernel7Ideal Cert.Kernel7Ideal.Gen Cert.Plain
open Cert.Reference7Ideal.Read
open Idealize.ShloMosaic.StableHlo (TRef)

/-- The product of a block's rows with a block of the weight's rows. -/
abbrev prod (x : Vec Ideal S1024x4096 .bf16) (w : Vec Ideal S1024x4096 .bf16) : S1024x1024.Idx → EReal :=
  fun y => ∑ k : Fin 4096, (x (ix2 (y 0) k) : EReal) * w (ix2 (y 1) k)

theorem pay3_eq (x : Vec Ideal S1024x4096 .bf16) (w : Vec Ideal S1024x4096 .bf16) : k0_pay3 (View.ld x r0_0) (View.ld w r0_0) = prod x w := by
  funext y
  obtain ⟨r, u, rfl⟩ : ∃ (r : Fin 1024) (u : Fin 1024), y = (ix2 r u : S1024x1024.Idx) := ⟨y 0, y 1, eq_ix2 y⟩
  unfold k0_pay3
  simp only [View.ld_unit_zero (S := S1024x4096) zeros, shapeCast_self]
  exact dot_rows_apply x w r u

/-- The column that a column is turned with: the same place of the other slab of the pair. -/
def mate (C : ℕ) : ℕ := if C % 256 < 128 then C + 128 else C - 128

theorem mate_lt {n : ℕ} (C : Fin (256 * n)) : mate C.val < 256 * n := by
  have := C.isLt
  unfold mate
  split <;> omega

/-- A block turned. -/
abbrev turned (D : S1024x1024.Idx → EReal) (tc ts : S1024x256.Idx → EReal) : S1024x1024.Idx → EReal := fun y =>
  D y * tc (ix2 (y 0) (at_ 256 (y 1).val)) + D (ix2 (y 0) (⟨mate (y 1).val, mate_lt (n := 4) (y 1)⟩ : Fin 1024)) * ts (ix2 (y 0) (at_ 256 (y 1).val))

/-- A slab of it, from two slabs of the product and one of each table. -/
theorem slab (D : S1024x1024.Idx → EReal) (tc ts : Vec Ideal S1024x256 .f32) (o q p : ℕ)
    (ho : ∀ a, (![0, o] : Fin 2 → ℕ) a + S1024x128.size a ≤ S1024x1024.size a) (hp : ∀ a, (![0, p] : Fin 2 → ℕ) a + S1024x128.size a ≤ S1024x256.size a)
    (h1 : S1024x1024.Slices ![0, o] S1024x128) (h2 : S1024x1024.Slices ![0, q] S1024x128)
    (hop : o % 256 = p) (hq : p = 0 ∧ q = o + 128 ∨ p = 128 ∧ o = q + 128) (x : S1024x128.Idx) :
    extractStridedSlice S1024x128 ![0, o] D h1 x * View.ld tc (Rect.unit (s := S1024x256) ![0, p] S1024x128.size hp) x
      + extractStridedSlice S1024x128 ![0, q] D h2 x * View.ld ts (Rect.unit (s := S1024x256) ![0, p] S1024x128.size hp) x
      = turned D tc ts ((Rect.unit (s := S1024x1024) ![0, o] S1024x128.size ho).emb x) := by
  have hx : (x 1).val < 128 := (x 1).isLt
  have e1 : (((Rect.unit (s := S1024x1024) ![0, o] S1024x128.size ho).emb x) 1).val = o + 1 * (x 1).val := rfl
  have e0 : (((Rect.unit (s := S1024x1024) ![0, o] S1024x128.size ho).emb x) 0).val = 0 + 1 * (x 0).val := rfl
  have ht : ∀ t : Vec Ideal S1024x256 .f32, View.ld t (Rect.unit (s := S1024x256) ![0, p] S1024x128.size hp) x
      = t (ix2 (((Rect.unit (s := S1024x1024) ![0, o] S1024x128.size ho).emb x) 0) (at_ 256 (((Rect.unit (s := S1024x1024) ![0, o] S1024x128.size ho).emb x) 1).val)) := by
    intro t
    refine congrArg t (funext fun a => Fin.ext ?_)
    match a with
    | ⟨0, _⟩ => rfl
    | ⟨1, _⟩ => show p + 1 * (x 1).val = (o + 1 * (x 1).val) % 256; omega
  refine congrArg₂ (· + ·) (congrArg₂ (· * ·) ?_ (ht tc)) (congrArg₂ (· * ·) ?_ (ht ts))
  · refine extractStridedSlice_apply ![0, o] D h1 x _ (fun a => ?_)
    match a with
    | ⟨0, _⟩ => show 0 + 1 * (x 0).val = 0 + (x 0).val; omega
    | ⟨1, _⟩ => show o + 1 * (x 1).val = o + (x 1).val; omega
  · refine extractStridedSlice_apply ![0, q] D h2 x _ (fun a => ?_)
    match a with
    | ⟨0, _⟩ => show 0 + 1 * (x 0).val = 0 + (x 0).val; omega
    | ⟨1, _⟩ =>
      show mate (o + 1 * (x 1).val) = q + (x 1).val
      unfold mate
      split <;> omega

theorem out_apply (x : Vec Ideal S1024x4096 .bf16) (w : Vec Ideal S1024x4096 .bf16) (tc ts tz : Vec Ideal S1024x256 .f32) (y : S1024x1024.Idx) :
    (out0_5 x w tc ts tz : S1024x1024.Idx → EReal) y = turned (prod x w) tc ts y := by
  unfold_out out0_5
  refine View.canon_apply_of_pieces (Val := Elt Ideal) (e := .bf16) (turned (prod x w) tc ts) _ ?_ y (cover0_5 _ _ _ _ _ _ _ _ y)
  intro p hp z
  simp only [List.mem_cons, List.not_mem_nil, or_false] at hp
  rcases hp with rfl | rfl | rfl | rfl | rfl | rfl | rfl | rfl
  · unfold k0_pay2; simp only [shapeCast_self, pay3_eq]; exact slab (prod x w) tc ts 896 768 128 _ _ _ _ rfl (by decide) z
  · unfold k0_pay1; simp only [shapeCast_self, pay3_eq]; exact slab (prod x w) tc ts 768 896 0 _ _ _ _ rfl (by decide) z
  · unfold k0_pay11; simp only [shapeCast_self, pay3_eq]; exact slab (prod x w) tc ts 640 512 128 _ _ _ _ rfl (by decide) z
  · unfold k0_pay10; simp only [shapeCast_self, pay3_eq]; exact slab (prod x w) tc ts 512 640 0 _ _ _ _ rfl (by decide) z
  · unfold k0_pay9; simp only [shapeCast_self, pay3_eq]; exact slab (prod x w) tc ts 384 256 128 _ _ _ _ rfl (by decide) z
  · unfold k0_pay8 k0_pay6 k0_pay7; simp only [shapeCast_self, pay3_eq]; exact slab (prod x w) tc ts 256 384 0 _ _ _ _ rfl (by decide) z
  · unfold k0_pay5; simp only [shapeCast_self, pay3_eq]; exact slab (prod x w) tc ts 128 0 128 _ _ _ _ rfl (by decide) z
  · unfold k0_pay4; simp only [shapeCast_self, pay3_eq]; exact slab (prod x w) tc ts 0 128 0 _ _ _ _ rfl (by decide) z

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 := by decide +kernel
theorem index2 : ∀ t : Fin grid0.N, win0_2.index t 0 = t.val / 4 % 4 ∧ win0_2.index t 1 = 0 := by decide +kernel
theorem index3 : ∀ t : Fin grid0.N, win0_3.index t 0 = t.val / 4 % 4 ∧ win0_3.index t 1 = 0 := by decide +kernel
theorem index5 : ∀ t : Fin grid0.N, win0_5.index t 0 = t.val / 4 ∧ win0_5.index t 1 = t.val % 4 := by decide +kernel

variable (m : (ℓ : Loc nD τ sig) → Buf (Elt Ideal) ℓ)

abbrev A0 (c : Dev nD) : S4x4096x4096.Idx → EReal := m ((c : Thread nD τ).loc main_arg0)
abbrev A1 (c : Dev nD) : S4096x12368.Idx → EReal := m ((c : Thread nD τ).loc main_arg1)
abbrev W1 (c : Dev nD) : S16384x4096.Idx → EReal := V m c main_v24
abbrev W2 (c : Dev nD) : S4096x4096.Idx → EReal := V m c main_v22
abbrev W3 (c : Dev nD) : S4096x256.Idx → EReal := V m c main_v18
abbrev W4 (c : Dev nD) : S4096x256.Idx → EReal := V m c main_v17

/-- The factor of the keys. -/
abbrev sc : EReal := Ideal.ofBits .f32 0x3D800000#32

theorem sc_real : ∃ s : ℝ, 0 ≤ s ∧ sc = s := by
  refine ⟨1 / 16, by norm_num, ?_⟩
  simp [sc, Ideal.ofBits, Ideal.ieee, -EReal.coe_mul]; norm_num

/-- The factor of column `C`. -/
def fac (C : ℕ) : EReal := if C < 2048 then 1 else sc

theorem fac_real (C : ℕ) : ∃ s : ℝ, 0 ≤ s ∧ fac C = s := by
  unfold fac
  split
  · exact ⟨1, by norm_num, by simp⟩
  · exact sc_real

theorem W1_eq (c : Dev nD) : W1 m c = shapeCast S16384x4096 (A0 m c) shapeCasts_S4x4096x4096_S16384x4096 := by
  unfold W1 V
  simp only [hostOps0, hostOps0_1, hostOps0_2, List.flatten_cons, List.flatten_nil, List.append_nil, List.cons_append, List.nil_append,
    TRef.binary, TRef.nullary, TRef.reshape, TRef.unary, TRef.toBuf, TRef.ofBuf, cast_eq]
  after_results
  rfl

theorem W3_eq (c : Dev nD) : W3 m c = concatenate S4096x256 1
    [⟨S4096x128, val_main_v11 (F := Ideal)⟩, ⟨S4096x128, val_main_v11 (F := Ideal)⟩] concatenates_S4096x128_S4096x128_S4096x256_d1 := by
  unfold W3 V
  simp only [hostOps0, hostOps0_1, hostOps0_2, List.flatten_cons, List.flatten_nil, List.append_nil, List.cons_append, List.nil_append,
    TRef.binary, TRef.nullary, TRef.reshape, TRef.unary, TRef.toBuf, TRef.ofBuf, cast_eq]
  after_results
  rfl

theorem W4_eq (c : Dev nD) : W4 m c = concatenate S4096x256 1
    [⟨S4096x128, Host.negf (F := Ideal) (φ := .f32) (val_main_v12 (F := Ideal))⟩, ⟨S4096x128, val_main_v12 (F := Ideal)⟩] concatenates_S4096x128_S4096x128_S4096x256_d1 := by
  unfold W4 V
  simp only [hostOps0, hostOps0_1, hostOps0_2, List.flatten_cons, List.flatten_nil, List.append_nil, List.cons_append, List.nil_append,
    TRef.binary, TRef.nullary, TRef.reshape, TRef.unary, TRef.toBuf, TRef.ofBuf, cast_eq]
  after_results
  rfl

/-- Cosine and sine of position `t`, frequency `j`. -/
abbrev cosAt (t : Fin 4096) (j : ℕ) : EReal := val_main_v11 (F := Ideal) (ix2 t (at_ 128 j))
abbrev sinAt (t : Fin 4096) (j : ℕ) : EReal := val_main_v12 (F := Ideal) (ix2 t (at_ 128 j))

theorem two_apply (a b : S4096x128.Idx → EReal) (h : Shape.Concatenates [S4096x128, S4096x128] S4096x256 1) (t : Fin 4096) (j : Fin 256) :
    concatenate S4096x256 1 [⟨S4096x128, a⟩, ⟨S4096x128, b⟩] h (ix2 t j)
      = if j.val < 128 then a (ix2 t (at_ 128 j.val)) else b (ix2 t (at_ 128 j.val)) := by
  have hj := j.isLt
  split
  · next hl =>
    refine concatenate_apply_piece (t := S4096x256) 1 _ _ (ix2 t j) 0 (by show 0 < 2; decide) S4096x128 _ rfl rfl 0 rfl (ix2 t (at_ 128 j.val)) ?_ ?_
    · intro b hb
      match b with
      | ⟨0, _⟩ => rfl
      | ⟨1, _⟩ => exact absurd rfl hb
    · show 0 + j.val % 128 = j.val; omega
  · next hl =>
    refine concatenate_apply_piece (t := S4096x256) 1 _ _ (ix2 t j) 1 (by show 1 < 2; decide) S4096x128 _ rfl rfl 128 rfl (ix2 t (at_ 128 j.val)) ?_ ?_
    · intro b hb
      match b with
      | ⟨0, _⟩ => rfl
      | ⟨1, _⟩ => exact absurd rfl hb
    · show 128 + j.val % 128 = j.val; omega

theorem W3_apply (c : Dev nD) (t : Fin 4096) (j : Fin 256) : W3 m c (ix2 t j) = cosAt t j.val := by
  rw [W3_eq, two_apply, ite_self]

theorem W4_apply (c : Dev nD) (t : Fin 4096) (j : Fin 256) : W4 m c (ix2 t j) = if j.val < 128 then -sinAt t j.val else sinAt t j.val := by
  rw [W4_eq, two_apply]
  rfl

/-- Rows of the transposed weight from `off` on are the weight's columns from `off` on. -/
theorem cut_apply {n : ℕ} (off : ℕ) (w : S4096x12368.Idx → EReal) (ht : S4096x12368.Transposes [1, 0] S12368x4096)
    (hs : S12368x4096.Slices ![off, 0] ⟨2, ![n, 4096]⟩) (i : Fin n) (k : Fin 4096) (C : Fin 12368) (hC : C.val = off + i.val) :
    extractStridedSlice ⟨2, ![n, 4096]⟩ ![off, 0] (transpose S12368x4096 [1, 0] w ht) hs (ix2 i k) = w (ix2 k C) := by
  refine (extractStridedSlice_apply ![off, 0] _ hs (ix2 i k) (ix2 C k) (fun a => ?_)).trans (transpose_apply [1, 0] w ht (ix2 C k) (ix2 k C) (fun b => ?_))
  · match a with
    | ⟨0, _⟩ => exact hC
    | ⟨1, _⟩ => show k.val = 0 + k.val; omega
  · match b with
    | ⟨0, _⟩ => rfl
    | ⟨1, _⟩ => rfl

/-- Rows `off` on of the transposed weight. -/
abbrev rowsOf (c : Dev nD) (off : ℕ) (h : S12368x4096.Slices ![off, 0] S2048x4096) : S2048x4096.Idx → EReal :=
  extractStridedSlice S2048x4096 ![off, 0] (transpose S12368x4096 [1, 0] (A1 m c) transposes_S4096x12368_S12368x4096_1_0) h

theorem W2_eq (c : Dev nD) : W2 m c = concatenate S4096x4096 0
    [⟨S2048x4096, rowsOf m c 4176 slices_S12368x4096_S2048x4096_4176_0⟩,
      ⟨S2048x4096, fun i => rowsOf m c 6224 slices_S12368x4096_S2048x4096_6224_0 i * sc⟩] concatenates_S2048x4096_S2048x4096_S4096x4096_d0 := by
  unfold W2 V
  simp only [hostOps0, hostOps0_1, hostOps0_2, List.flatten_cons, List.flatten_nil, List.append_nil, List.cons_append, List.nil_append,
    TRef.binary, TRef.nullary, TRef.reshape, TRef.unary, TRef.toBuf, TRef.ofBuf, cast_eq]
  after_results
  rfl

theorem W2_apply (c : Dev nD) (z : S4096x4096.Idx) : W2 m c z = A1 m c (ix2 (z 1) (at_ 12368 (4176 + (z 0).val))) * fac (z 0).val := by
  have hz : (z 0).val < 4096 := (z 0).isLt
  rw [W2_eq]
  unfold fac
  by_cases h1 : (z 0).val < 2048
  · rw [if_pos h1, mul_one]
    refine (concatenate_apply_piece (t := S4096x4096) 0 _ _ z 0 (by show 0 < 2; decide) S2048x4096 _ rfl rfl 0 rfl (ix2 (⟨(z 0).val, h1⟩ : Fin 2048) (z 1)) ?_ ?_).trans
      (cut_apply 4176 (A1 m c) _ _ _ _ _ (by show (4176 + (z 0).val) % 12368 = 4176 + (z 0).val; omega))
    · intro b hb
      match b with
      | ⟨0, _⟩ => exact absurd rfl hb
      | ⟨1, _⟩ => rfl
    · show 0 + (z 0).val = (z 0).val; omega
  · rw [if_neg h1]
    refine (concatenate_apply_piece (t := S4096x4096) 0 _ _ z 1 (by show 1 < 2; decide) S2048x4096 _ rfl rfl 2048 rfl (ix2 (⟨(z 0).val - 2048, by omega⟩ : Fin 2048) (z 1)) ?_ ?_).trans
      (congrArg (· * sc) (cut_apply 6224 (A1 m c) _ _ _ _ _ (by show (4176 + (z 0).val) % 12368 = 6224 + ((z 0).val - 2048); omega)))
    · intro b hb
      match b with
      | ⟨0, _⟩ => exact absurd rfl hb
      | ⟨1, _⟩ => rfl
    · show 2048 + ((z 0).val - 2048) = (z 0).val; omega

theorem iblk0_apply (c : Dev nD) (t : Fin cfg0.N) (r : Fin 1024) (k : Fin 4096) (z : S16384x4096.Idx)
    (h0 : (z 0).val = 1024 * (t.val / 4) + r.val) (h1 : (z 1).val = k.val) : (iblk m c 0 t : S1024x4096.Idx → EReal) (ix2 r k) = W1 m c z := by
  unfold iblk
  rw [View.read_apply]
  show V m c main_v24 _ = V m c main_v24 _
  congr 1
  funext a
  apply Fin.ext
  match a with
  | ⟨0, _⟩ => show win0_0.index t 0 * 1024 + 1 * r.val = (z 0).val; rw [(index0 t).1]; omega
  | ⟨1, _⟩ => show win0_0.index t 1 * 4096 + 1 * k.val = (z 1).val; rw [(index0 t).2]; omega

theorem iblk1_apply (c : Dev nD) (t : Fin cfg0.N) (r : Fin 1024) (k : Fin 4096) (C : ℕ)
    (h : C = 1024 * (t.val % 4) + r.val) : (iblk m c 1 t : S1024x4096.Idx → EReal) (ix2 r k) = A1 m c (ix2 k (at_ 12368 (4176 + C))) * fac C := by
  unfold iblk
  rw [View.read_apply]
  subst h
  refine (W2_apply m c _).trans ?_
  have e : (((((cfg0.win 1).blk t).view.emb (ix2 r k) : S4096x4096.Idx) 0).val) = 1024 * (t.val % 4) + r.val := by
    show win0_1.index t 0 * 1024 + 1 * r.val = _; rw [(index1 t).1]; omega
  rw [e]
  refine congrArg (fun k' : Fin 4096 => A1 m c (ix2 k' (at_ 12368 (4176 + (1024 * (t.val % 4) + r.val)))) * fac (1024 * (t.val % 4) + r.val)) (Fin.ext ?_)
  show win0_1.index t 1 * 4096 + 1 * k.val = k.val; rw [(index1 t).2]; omega

theorem iblk2_apply (c : Dev nD) (t : Fin cfg0.N) (r : Fin 1024) (j : Fin 256) (T : Fin 4096)
    (h : T.val = 1024 * (t.val / 4 % 4) + r.val) : (iblk m c 2 t : S1024x256.Idx → EReal) (ix2 r j) = W3 m c (ix2 T j) := by
  unfold iblk
  rw [View.read_apply]
  show V m c main_v18 _ = V m c main_v18 _
  congr 1
  funext a
  apply Fin.ext
  match a with
  | ⟨0, _⟩ => show win0_2.index t 0 * 1024 + 1 * r.val = T.val; rw [(index2 t).1]; omega
  | ⟨1, _⟩ => show win0_2.index t 1 * 256 + 1 * j.val = j.val; rw [(index2 t).2]; omega

theorem iblk3_apply (c : Dev nD) (t : Fin cfg0.N) (r : Fin 1024) (j : Fin 256) (T : Fin 4096)
    (h : T.val = 1024 * (t.val / 4 % 4) + r.val) : (iblk m c 3 t : S1024x256.Idx → EReal) (ix2 r j) = W4 m c (ix2 T j) := by
  unfold iblk
  rw [View.read_apply]
  show V m c main_v17 _ = V m c main_v17 _
  congr 1
  funext a
  apply Fin.ext
  match a with
  | ⟨0, _⟩ => show win0_3.index t 0 * 1024 + 1 * r.val = T.val; rw [(index3 t).1]; omega
  | ⟨1, _⟩ => show win0_3.index t 1 * 256 + 1 * j.val = j.val; rw [(index3 t).2]; omega

/-- The reference's result of the kernel's arguments. -/
abbrev refOf (c : Dev nD) : S16384x4096.Idx → EReal := val_main_v51 (F := Ideal) (A0 m c) (A1 m c)

/-- Row `R` of the input times the weight's column of the queries' and keys' column `C`. -/
def qk (x : S4x4096x4096.Idx → EReal) (w : S4096x12368.Idx → EReal) (R : Fin 16384) (C : ℕ) : EReal :=
  ∑ k : Fin 4096, shapeCast S16384x4096 x shapeCasts_S4x4096x4096_S16384x4096 (ix2 R k) * w (ix2 k (at_ 12368 (4176 + C)))

theorem whole_apply (x : S4x4096x4096.Idx → EReal) (w : S4096x12368.Idx → EReal) (j : Cert.Reference7Ideal.S4x4096x12368.Idx) (R : Fin 16384) (C : ℕ)
    (hR : R.val = 4096 * (j 0).val + (j 1).val) (hC : (j 2).val = 4176 + C) : val_main_v15 (F := Ideal) x w j = qk x w R C := by
  have h2 : (j 2).val < 12368 := (j 2).isLt
  rw [val_main_v15_apply]
  refine Finset.sum_congr rfl fun k _ => congrArg₂ (· * ·) ?_ (congrArg w ?_)
  · refine (shapeCast_apply x _ _ _ ?_).symm
    rw [Shape.rowMajor_val_three, Shape.rowMajor_val_two]
    show ((j 0).val * 4096 + (j 1).val) * 4096 + k.val = R.val * 4096 + k.val
    omega
  · refine funext fun a => Fin.ext ?_
    match a with
    | ⟨0, _⟩ => rfl
    | ⟨1, _⟩ => show (j 2).val = (4176 + C) % 12368; omega

theorem queries_apply (x : S4x4096x4096.Idx → EReal) (w : S4096x12368.Idx → EReal) (j : Cert.Reference7Ideal.S4x4096x8x256.Idx) (R : Fin 16384)
    (hR : R.val = 4096 * (j 0).val + (j 1).val) : val_main_v17 (F := Ideal) x w j = qk x w R (256 * (j 2).val + (j 3).val) := by
  have h0 : (j 0).val < 4 := (j 0).isLt
  have h1 : (j 1).val < 4096 := (j 1).isLt
  have h2 : (j 2).val < 8 := (j 2).isLt
  have h3 : (j 3).val < 256 := (j 3).isLt
  refine (val_main_v17_apply (F := Ideal) x w j).trans ((val_main_v16_apply (F := Ideal) x w _).trans (whole_apply x w _ R _ ?_ ?_))
  · show R.val = 4096 * (((((j 0).val * 4096 + (j 1).val) * 8 + (j 2).val) * 256 + (j 3).val) / 8388608)
      + ((((j 0).val * 4096 + (j 1).val) * 8 + (j 2).val) * 256 + (j 3).val) / 2048 % 4096
    omega
  · show 4176 + ((((j 0).val * 4096 + (j 1).val) * 8 + (j 2).val) * 256 + (j 3).val) % 2048 = _
    omega

theorem keys_apply (x : S4x4096x4096.Idx → EReal) (w : S4096x12368.Idx → EReal) (j : Cert.Reference7Ideal.S4x4096x8x256.Idx) (R : Fin 16384)
    (hR : R.val = 4096 * (j 0).val + (j 1).val) : val_main_v19 (F := Ideal) x w j = qk x w R (2048 + (256 * (j 2).val + (j 3).val)) := by
  have h0 : (j 0).val < 4 := (j 0).isLt
  have h1 : (j 1).val < 4096 := (j 1).isLt
  have h2 : (j 2).val < 8 := (j 2).isLt
  have h3 : (j 3).val < 256 := (j 3).isLt
  refine (val_main_v19_apply (F := Ideal) x w j).trans ((val_main_v18_apply (F := Ideal) x w _).trans (whole_apply x w _ R _ ?_ ?_))
  · show R.val = 4096 * (((((j 0).val * 4096 + (j 1).val) * 8 + (j 2).val) * 256 + (j 3).val) / 8388608)
      + ((((j 0).val * 4096 + (j 1).val) * 8 + (j 2).val) * 256 + (j 3).val) / 2048 % 4096
    omega
  · show 6224 + ((((j 0).val * 4096 + (j 1).val) * 8 + (j 2).val) * 256 + (j 3).val) % 2048 = _
    omega

/-- The reference's turn of an array of heads. -/
def turn (a : Cert.Reference7Ideal.S4x4096x8x256.Idx → EReal) : Cert.Reference7Ideal.S4x4096x8x256.Idx → EReal :=
  concatenate Cert.Reference7Ideal.S4x4096x8x256 3
    [⟨Cert.Reference7Ideal.S4x4096x8x128, fun i => extractStridedSlice Cert.Reference7Ideal.S4x4096x8x128 ![0, 0, 0, 0] a Cert.Reference7Ideal.Gen.slices_S4x4096x8x256_S4x4096x8x128_0_0_0_0 i * val_main_v22 (F := Ideal) i
        - extractStridedSlice Cert.Reference7Ideal.S4x4096x8x128 ![0, 0, 0, 128] a Cert.Reference7Ideal.Gen.slices_S4x4096x8x256_S4x4096x8x128_0_0_0_128 i * val_main_v24 (F := Ideal) i⟩,
      ⟨Cert.Reference7Ideal.S4x4096x8x128, fun i => extractStridedSlice Cert.Reference7Ideal.S4x4096x8x128 ![0, 0, 0, 128] a Cert.Reference7Ideal.Gen.slices_S4x4096x8x256_S4x4096x8x128_0_0_0_128 i * val_main_v22 (F := Ideal) i
        + extractStridedSlice Cert.Reference7Ideal.S4x4096x8x128 ![0, 0, 0, 0] a Cert.Reference7Ideal.Gen.slices_S4x4096x8x256_S4x4096x8x128_0_0_0_0 i * val_main_v24 (F := Ideal) i⟩]
    Cert.Reference7Ideal.Gen.concatenates_S4x4096x8x128_S4x4096x8x128_S4x4096x8x256_d3

/-- A column turned. -/
def turnAt (f : ℕ → EReal) (t : Fin 4096) (C : ℕ) : EReal :=
  if C % 256 < 128 then f C * cosAt t C - f (C + 128) * sinAt t C else f C * cosAt t C + f (C - 128) * sinAt t C

theorem cos_apply (i : Cert.Reference7Ideal.S4x4096x8x128.Idx) (t : Fin 4096) (C : ℕ) (ht : t.val = (i 1).val) (hC : C % 128 = (i 3).val) :
    val_main_v22 (F := Ideal) i = cosAt t C := by
  refine (val_main_v22_apply (F := Ideal) i).trans ((val_main_v13_apply (F := Ideal) _).trans (congrArg (val_main_v11 (F := Ideal)) (funext fun a => Fin.ext ?_)))
  match a with
  | ⟨0, _⟩ => exact ht.symm
  | ⟨1, _⟩ => exact hC.symm

theorem sin_apply (i : Cert.Reference7Ideal.S4x4096x8x128.Idx) (t : Fin 4096) (C : ℕ) (ht : t.val = (i 1).val) (hC : C % 128 = (i 3).val) :
    val_main_v24 (F := Ideal) i = sinAt t C := by
  refine (val_main_v24_apply (F := Ideal) i).trans ((val_main_v14_apply (F := Ideal) _).trans (congrArg (val_main_v12 (F := Ideal)) (funext fun a => Fin.ext ?_)))
  match a with
  | ⟨0, _⟩ => exact ht.symm
  | ⟨1, _⟩ => exact hC.symm

theorem half_apply (a : Cert.Reference7Ideal.S4x4096x8x256.Idx → EReal) (o : ℕ) (h : Cert.Reference7Ideal.S4x4096x8x256.Slices ![0, 0, 0, o] Cert.Reference7Ideal.S4x4096x8x128)
    (f : ℕ → EReal) (i : Cert.Reference7Ideal.S4x4096x8x128.Idx) (ho : o + 128 ≤ 256)
    (ha : ∀ j : Fin 256, a (ix4 (i 0) (i 1) (i 2) j) = f (256 * (i 2).val + j.val)) :
    extractStridedSlice Cert.Reference7Ideal.S4x4096x8x128 ![0, 0, 0, o] a h i = f (256 * (i 2).val + (o + (i 3).val)) := by
  have h3 : (i 3).val < 128 := (i 3).isLt
  refine (extractStridedSlice_apply ![0, 0, 0, o] a h i (ix4 (i 0) (i 1) (i 2) (⟨o + (i 3).val, by omega⟩ : Fin 256)) (fun b => ?_)).trans (ha _)
  match b with
  | ⟨0, _⟩ => show (i 0).val = 0 + (i 0).val; omega
  | ⟨1, _⟩ => show (i 1).val = 0 + (i 1).val; omega
  | ⟨2, _⟩ => show (i 2).val = 0 + (i 2).val; omega
  | ⟨3, _⟩ => rfl

theorem turn_apply (a : Cert.Reference7Ideal.S4x4096x8x256.Idx → EReal) (j : Cert.Reference7Ideal.S4x4096x8x256.Idx) (f : ℕ → EReal)
    (ha : ∀ l : Fin 256, a (ix4 (j 0) (j 1) (j 2) l) = f (256 * (j 2).val + l.val)) : turn a j = turnAt f (j 1) (256 * (j 2).val + (j 3).val) := by
  have h3 : (j 3).val < 256 := (j 3).isLt
  unfold turn turnAt
  by_cases h : (j 3).val < 128
  · rw [if_pos (by omega)]
    refine (concatenate_apply_piece (t := Cert.Reference7Ideal.S4x4096x8x256) 3 _ _ j 0 (by show 0 < 2; decide) Cert.Reference7Ideal.S4x4096x8x128 _ rfl rfl 0 rfl (ix4 (j 0) (j 1) (j 2) (⟨(j 3).val, h⟩ : Fin 128)) ?_ ?_).trans ?_
    · intro b hb
      match b with
      | ⟨0, _⟩ => rfl
      | ⟨1, _⟩ => rfl
      | ⟨2, _⟩ => rfl
      | ⟨3, _⟩ => exact absurd rfl hb
    · show 0 + (j 3).val = (j 3).val; omega
    · refine congrArg₂ (· - ·) (congrArg₂ (· * ·) ((half_apply a 0 _ f _ (by decide) ha).trans (congrArg f ?_)) (cos_apply _ _ _ rfl ?_))
        (congrArg₂ (· * ·) ((half_apply a 128 _ f _ (by decide) ha).trans (congrArg f ?_)) (sin_apply _ _ _ rfl ?_))
      · show 256 * (j 2).val + (0 + (j 3).val) = _; omega
      · show (256 * (j 2).val + (j 3).val) % 128 = (j 3).val; omega
      · show 256 * (j 2).val + (128 + (j 3).val) = _; omega
      · show (256 * (j 2).val + (j 3).val) % 128 = (j 3).val; omega
  · rw [if_neg (by omega)]
    refine (concatenate_apply_piece (t := Cert.Reference7Ideal.S4x4096x8x256) 3 _ _ j 1 (by show 1 < 2; decide) Cert.Reference7Ideal.S4x4096x8x128 _ rfl rfl 128 rfl (ix4 (j 0) (j 1) (j 2) (⟨(j 3).val - 128, by omega⟩ : Fin 128)) ?_ ?_).trans ?_
    · intro b hb
      match b with
      | ⟨0, _⟩ => rfl
      | ⟨1, _⟩ => rfl
      | ⟨2, _⟩ => rfl
      | ⟨3, _⟩ => exact absurd rfl hb
    · show 128 + ((j 3).val - 128) = (j 3).val; omega
    · refine congrArg₂ (· + ·) (congrArg₂ (· * ·) ((half_apply a 128 _ f _ (by decide) ha).trans (congrArg f ?_)) (cos_apply _ _ _ rfl ?_))
        (congrArg₂ (· * ·) ((half_apply a 0 _ f _ (by decide) ha).trans (congrArg f ?_)) (sin_apply _ _ _ rfl ?_))
      · show 256 * (j 2).val + (128 + ((j 3).val - 128)) = _; omega
      · show (256 * (j 2).val + (j 3).val) % 128 = (j 3).val - 128; omega
      · show 256 * (j 2).val + (0 + ((j 3).val - 128)) = _; omega
      · show (256 * (j 2).val + (j 3).val) % 128 = (j 3).val - 128; omega

theorem turnAt_shift (f : ℕ → EReal) (t : Fin 4096) (n C : ℕ) : turnAt (fun D => f (256 * n + D)) t C = turnAt f t (256 * n + C) := by
  have hm : at_ 128 (256 * n + C) = at_ 128 C := Fin.ext (by show (256 * n + C) % 128 = C % 128; omega)
  unfold turnAt cosAt sinAt
  rw [hm]
  by_cases h : C % 256 < 128
  · rw [if_pos h, if_pos (by omega), Nat.add_assoc]
  · have e : 256 * n + (C - 128) = 256 * n + C - 128 := by omega
    rw [if_neg h, if_neg (by omega), ← e]

/-- The reference at an index: a column of the product turned, the keys' times 1/16. -/
theorem ref_apply (x : S4x4096x4096.Idx → EReal) (w : S4096x12368.Idx → EReal) (z : S16384x4096.Idx) :
    val_main_v51 (F := Ideal) x w z = turnAt (qk x w (z 0)) (at_ 4096 (z 0).val) (z 1).val * fac (z 1).val := by
  have h0 : (z 0).val < 16384 := (z 0).isLt
  have h1 : (z 1).val < 4096 := (z 1).isLt
  refine (show val_main_v51 (F := Ideal) x w z = val_main_v50 (F := Ideal) x w z from rfl).trans ?_
  unfold val_main_v50 fac
  by_cases h : (z 1).val < 2048
  · rw [if_pos h, mul_one]
    refine (concatenate_apply_piece (t := S16384x4096) 1 _ _ z 0 (by show 0 < 2; decide) Cert.Reference7Ideal.S16384x2048 _ rfl rfl 0 rfl (ix2 (z 0) (⟨(z 1).val, h⟩ : Fin 2048)) ?_ ?_).trans ?_
    · intro b hb
      match b with
      | ⟨0, _⟩ => rfl
      | ⟨1, _⟩ => exact absurd rfl hb
    · show 0 + (z 1).val = (z 1).val; omega
    · refine (val_main_v48_apply (F := Ideal) x w _).trans ((show _ = turn (val_main_v17 (F := Ideal) x w) _ from rfl).trans
        ((turn_apply _ _ (qk x w (z 0)) (fun l => queries_apply x w _ (z 0) ?_)).trans (congrArg₂ (turnAt _) (Fin.ext ?_) ?_)))
      · show (z 0).val = 4096 * (((z 0).val * 2048 + (z 1).val) / 8388608) + ((z 0).val * 2048 + (z 1).val) / 2048 % 4096; omega
      · show ((z 0).val * 2048 + (z 1).val) / 2048 % 4096 = (z 0).val % 4096; omega
      · show 256 * (((z 0).val * 2048 + (z 1).val) / 256 % 8) + ((z 0).val * 2048 + (z 1).val) % 256 = (z 1).val; omega
  · rw [if_neg h]
    refine (concatenate_apply_piece (t := S16384x4096) 1 _ _ z 1 (by show 1 < 2; decide) Cert.Reference7Ideal.S16384x2048 _ rfl rfl 2048 rfl (ix2 (z 0) (⟨(z 1).val - 2048, by omega⟩ : Fin 2048)) ?_ ?_).trans ?_
    · intro b hb
      match b with
      | ⟨0, _⟩ => rfl
      | ⟨1, _⟩ => exact absurd rfl hb
    · show 2048 + ((z 1).val - 2048) = (z 1).val; omega
    · refine (val_main_v49_apply (F := Ideal) x w _).trans ((show _ = turn (val_main_v19 (F := Ideal) x w) _ * sc from rfl).trans (congrArg (· * sc)
        ((turn_apply _ _ (fun D => qk x w (z 0) (256 * 8 + D)) (fun l => keys_apply x w _ (z 0) ?_)).trans ((turnAt_shift _ _ 8 _).trans (congrArg₂ (turnAt _) (Fin.ext ?_) ?_)))))
      · show (z 0).val = 4096 * (((z 0).val * 2048 + ((z 1).val - 2048)) / 8388608) + ((z 0).val * 2048 + ((z 1).val - 2048)) / 2048 % 4096; omega
      · show ((z 0).val * 2048 + ((z 1).val - 2048)) / 2048 % 4096 = (z 0).val % 4096; omega
      · show 256 * 8 + (256 * (((z 0).val * 2048 + ((z 1).val - 2048)) / 256 % 8) + ((z 0).val * 2048 + ((z 1).val - 2048)) % 256) = (z 1).val; omega

/-- A factor of the weight is one of the product. -/
theorem sum_fac {n : ℕ} (f g : Fin n → EReal) (s : ℝ) (hs : 0 ≤ s) : ∑ k, f k * (g k * (s : EReal)) = (∑ k, f k * g k) * (s : EReal) := by
  have hd : ∀ a b : EReal, (a + b) * (s : EReal) = a * s + b * s := fun a b =>
    EReal.right_distrib_of_nonneg_of_ne_top (by exact_mod_cast hs) (EReal.coe_ne_top s) a b
  induction n with
  | zero => simp
  | succ n ih => rw [Fin.sum_univ_succ, Fin.sum_univ_succ, ih, hd, mul_assoc]

theorem fac_mate (C : ℕ) : fac (mate C) = fac C := by
  unfold fac mate
  by_cases h : C < 2048
  · rw [if_pos h, if_pos (by split <;> omega)]
  · rw [if_neg h, if_neg (by split <;> omega)]

theorem turn_fac (f : ℕ → EReal) (t : Fin 4096) (C : ℕ) (s : ℝ) (hs : 0 ≤ s) :
    f C * (s : EReal) * cosAt t C + f (mate C) * (s : EReal) * (if C % 256 < 128 then -sinAt t C else sinAt t C) = turnAt f t C * (s : EReal) := by
  have hd : ∀ a b : EReal, (a + b) * (s : EReal) = a * s + b * s := fun a b =>
    EReal.right_distrib_of_nonneg_of_ne_top (by exact_mod_cast hs) (EReal.coe_ne_top s) a b
  unfold turnAt mate
  by_cases h : C % 256 < 128
  · rw [if_pos h, if_pos h, if_pos h, sub_eq_add_neg, hd, mul_neg, EReal.neg_mul, mul_right_comm, mul_right_comm (f (C + 128))]
  · rw [if_neg h, if_neg h, if_neg h, hd, mul_right_comm, mul_right_comm (f (C - 128))]

/-- What the body leaves at a point is the reference's block there. -/
theorem point_apply (c : Dev nD) (t : Fin cfg0.N) (y : S1024x1024.Idx) (z : S16384x4096.Idx)
    (h0 : (z 0).val = 1024 * (t.val / 4) + (y 0).val) (h1 : (z 1).val = 1024 * (t.val % 4) + (y 1).val) :
    (out0_5 (iblk m c 0 t) (iblk m c 1 t) (iblk m c 2 t) (iblk m c 3 t) (iblk m c 4 t) : S1024x1024.Idx → EReal) y = refOf m c z := by
  have hy0 : (y 0).val < 1024 := (y 0).isLt
  have hy1 : (y 1).val < 1024 := (y 1).isLt
  obtain ⟨s, hs, es⟩ := fac_real (z 1).val
  have hprod : ∀ (u : Fin 1024) (C : ℕ), C = 1024 * (t.val % 4) + u.val → fac C = s →
      prod (iblk m c 0 t) (iblk m c 1 t) (ix2 (y 0) u) = qk (A0 m c) (A1 m c) (z 0) C * (s : EReal) := by
    intro u C hC hf
    refine Eq.trans (Finset.sum_congr rfl fun k _ => congrArg₂ (· * ·) (iblk0_apply m c t (y 0) k (ix2 (z 0) k) h0 rfl) (iblk1_apply m c t u k C hC)) ?_
    rw [hf]
    refine (sum_fac _ _ s hs).trans ?_
    unfold qk
    rw [W1_eq]
  refine (out_apply _ _ _ _ _ y).trans ((Eq.trans ?_ (turn_fac (qk (A0 m c) (A1 m c) (z 0)) (at_ 4096 (z 0).val) (z 1).val s hs)).trans ?_)
  · have hT : (at_ 4096 (z 0).val : Fin 4096).val = 1024 * (t.val / 4 % 4) + (y 0).val := by show (z 0).val % 4096 = _; omega
    have hm : at_ 128 (at_ 256 (y 1).val : Fin 256).val = at_ 128 (z 1).val := Fin.ext (by show (y 1).val % 256 % 128 = (z 1).val % 128; omega)
    refine congrArg₂ (· + ·) (congrArg₂ (· * ·) ?_ ?_) (congrArg₂ (· * ·) (hprod _ _ ?_ ((fac_mate _).trans es)) ?_)
    · rw [eq_ix2 y]; exact hprod _ _ h1 es
    · rw [iblk2_apply m c t (y 0) _ _ hT, W3_apply]
      exact congrArg (fun j => val_main_v11 (F := Ideal) (ix2 (at_ 4096 (z 0).val) j)) hm
    · show mate (z 1).val = 1024 * (t.val % 4) + mate (y 1).val
      unfold mate
      split <;> split <;> omega
    · rw [iblk3_apply m c t (y 0) _ _ hT, W4_apply]
      unfold sinAt
      rw [hm]
      by_cases h : (y 1).val % 256 < 128
      · rw [if_pos (show (at_ 256 (y 1).val : Fin 256).val < 128 from h), if_pos (by omega)]
      · rw [if_neg (show ¬ (at_ 256 (y 1).val : Fin 256).val < 128 from h), if_neg (by omega)]
  · rw [← es]
    exact (ref_apply (A0 m c) (A1 m c) z).symm

theorem flushed_eq (c : Dev nD) (t : Fin cfg0.N) (hf : (cfg0.win 5).flush t = true) :
    (dats m 0 c).flushed 5 t = ((cfg0.win 5).blk t).view.read (Elt Ideal) (refOf m c) := by
  rw [Value.flushed5]
  funext y
  rw [View.read_apply]
  refine point_apply m c t _ _ ?_ ?_
  · show win0_5.index t 0 * 1024 + 1 * (y 0).val = _ + (y 0).val
    rw [(index5 t).1]; omega
  · show win0_5.index t 1 * 1024 + 1 * (y 1).val = _ + (y 1).val
    rw [(index5 t).2]; omega

/-- The point that writes row `R`, column `C`. -/
def pointOf (R C : ℕ) (hR : R < 16384) (hC : C < 4096) : Fin cfg0.N := ⟨4 * (R / 1024) + C / 1024, lt_of_lt_of_eq (by omega) N_0.symm⟩

theorem final_o (c : Dev nD) : (dats m 0 c).arrAt 5 cfg0.N = refOf m c :=
  (dats m 0 c).arrAt_eq_of_cover 5 (refOf m c) (flushed_eq m c) fun i => by
    have hR : (i 0 : Nat) < 16384 := (i 0).isLt
    have hC : (i 1 : Nat) < 4096 := (i 1).isLt
    refine ⟨pointOf (i 0 : Nat) (i 1 : Nat) hR hC, flush0_5 _, ?_⟩
    show i ∈ ((View.whole main_v25).slice (win0_5.rect (pointOf (i 0 : Nat) (i 1 : Nat) hR hC))).set
    rw [View.set_slice_whole, Rect.mem_set_unit]
    obtain ⟨e0, e1⟩ := index5 (pointOf (i 0 : Nat) (i 1 : Nat) hR hC)
    have ev : (pointOf (i 0 : Nat) (i 1 : Nat) hR hC).val = 4 * ((i 0 : Nat) / 1024) + (i 1 : Nat) / 1024 := rfl
    rw [ev] at e0 e1
    intro a
    match a with
    | ⟨0, _⟩ =>
      show win0_5.index (pointOf (i 0 : Nat) (i 1 : Nat) hR hC) 0 * 1024 ≤ (i 0 : Nat) ∧ (i 0 : Nat) < win0_5.index (pointOf (i 0 : Nat) (i 1 : Nat) hR hC) 0 * 1024 + 1024
      rw [e0]; omega
    | ⟨1, _⟩ =>
      show win0_5.index (pointOf (i 0 : Nat) (i 1 : Nat) hR hC) 1 * 1024 ≤ (i 1 : Nat) ∧ (i 1 : Nat) < win0_5.index (pointOf (i 0 : Nat) (i 1 : Nat) hR hC) 1 * 1024 + 1024
      rw [e1]; omega

end Cert.Kernel7Ideal.Hand

namespace Cert.Alg7

open Idealize.ShloMosaic

theorem quiescent_ref : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : algebraic_Kernel7Ideal_Reference7Ideal := by
  intro m g m' g' _ hagree
  refine ⟨fun c => Cert.Kernel7Ideal.Hand.refOf m c,
    (θ_run Cert.Kernel7Ideal.defs _ _).mono (fun _ h c => ⟨(h c).1.trans (Cert.Kernel7Ideal.Hand.final_o m c), (h c).2⟩) (Cert.Kernel7Ideal.Value.run_blocks m g), ?_⟩
  refine (θ_run Cert.Reference7Ideal.defs _ _).mono (fun _ h c => ⟨(h c).1.trans ?_, (h c).2⟩) (Cert.Reference7Ideal.Value.run (F := Ideal) m' g')
  obtain ⟨e0, e1⟩ := hagree c
  rw [Cert.Reference7Ideal.Read.val_main_v51_eq, e0, e1]

end Cert.Alg7

end
-- ==== Proof.Kv.lean ====
/- The second layer's projection to keys and values: the kernel multiplies with the weight's columns laid keys first, then values; the
   reference multiplies with the whole weight and lays the result's columns so. Both read column `colOf C` of the weight for column
   `C` of the result. -/
module

public import proofs.«01_k».proof.Defs
public import proofs.«01_k».proof.Proof.Plain
public import proofs.«01_k».proof.Proof.Gen.Kernel8Ideal.Value
public import proofs.«01_k».proof.Proof.Gen.Reference8Ideal.Read

@[expose] public section

set_option maxRecDepth 16384

noncomputable section

namespace Cert.Kernel8Ideal.Hand

open Idealize.ShloMosaic Idealize.ShloMosaic.TcCoe Idealize.ShloMosaic.ValueIdx Idealize.ShloMosaic.Tactic Idealize.SL.Sem
open Cert.Kernel8Ideal Cert.Kernel8Ideal.Gen Cert.Plain
open Cert.Reference8Ideal.Read

/-- The slabs of a block are the slabs of one product. -/
theorem out_apply (x : Vec Ideal S1024x512 .bf16) (w : Vec Ideal S512x2048 .bf16) (r : Fin 1024) (c : Fin 2048) :
    (out0_2 x w : S1024x2048.Idx → EReal) (ix2 r c) = ∑ k : Fin 512, (x (ix2 r k) : EReal) * w (ix2 k c) := by
  unfold out0_2
  refine (Value.canon2_eq _ _ (ix2 r c)).trans ?_
  refine (congrArg (k0_pay9 _ _) (eq_ix2 (Value.ix2_0 (ix2 r c)))).trans ?_
  unfold k0_pay9
  simp only [View.ld_unit_zero (S := S1024x512) zeros, View.ld_unit_zero (S := S512x2048) zeros, shapeCast_self]
  exact dot_apply x w r c

theorem index0 : ∀ t : Fin grid0.N, win0_0.index t 0 = t.val / 4 ∧ win0_0.index t 1 = 0 := by decide +kernel
theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel

variable (m : (ℓ : Loc nD τ sig) → Buf (Elt Ideal) ℓ)

abbrev A0 (c : Dev nD) : S4x4096x512.Idx → EReal := m ((c : Thread nD τ).loc main_arg0)
abbrev A1 (c : Dev nD) : S512x8192.Idx → EReal := m ((c : Thread nD τ).loc main_arg1)
abbrev W1 (c : Dev nD) : S16384x512.Idx → EReal := V m c main_v8
abbrev W2 (c : Dev nD) : S512x8192.Idx → EReal := V m c main_v6

/-- The weight's column that column `C` of the result takes. -/
def colOf (C : ℕ) : ℕ := if C < 4096 then 256 * (C / 128) + C % 128 else 256 * ((C - 4096) / 128) + 128 + C % 128

theorem W1_eq (c : Dev nD) : W1 m c = shapeCast S16384x512 (A0 m c) shapeCasts_S4x4096x512_S16384x512 := by
  unfold W1 V
  after_results
  rfl

/-- Half of each head's columns, the heads side by side: a column of the weight. -/
theorem cut_apply (off : ℕ) (w : S512x8192.Idx → EReal) (h1 : S512x8192.ShapeCasts S512x32x256) (h2 : S512x32x256.Slices ![0, 0, off] S512x32x128)
    (h3 : S512x32x128.ShapeCasts S512x4096) (k : Fin 512) (i : Fin 4096) (C : Fin 8192) (ho : off + 128 ≤ 256) (hC : C.val = 256 * (i.val / 128) + off + i.val % 128) :
    shapeCast S512x4096 (extractStridedSlice S512x32x128 ![0, 0, off] (shapeCast S512x32x256 w h1) h2) h3 (ix2 k i) = w (ix2 k C) := by
  have hi : i.val < 4096 := i.isLt
  refine (shapeCast_apply _ h3 (ix2 k i) (ix3 k (⟨i.val / 128, by omega⟩ : Fin 32) (⟨i.val % 128, by omega⟩ : Fin 128)) ?_).trans ?_
  · rw [Shape.rowMajor_val_three, Shape.rowMajor_val_two]
    show (k.val * 32 + i.val / 128) * 128 + i.val % 128 = k.val * 4096 + i.val
    omega
  refine (extractStridedSlice_apply ![0, 0, off] _ h2 _ (ix3 k (⟨i.val / 128, by omega⟩ : Fin 32) (⟨off + i.val % 128, by omega⟩ : Fin 256)) (fun a => ?_)).trans ?_
  · match a with
    | ⟨0, _⟩ => show k.val = 0 + k.val; omega
    | ⟨1, _⟩ => show i.val / 128 = 0 + i.val / 128; omega
    | ⟨2, _⟩ => rfl
  refine shapeCast_apply w h1 _ (ix2 k C) ?_
  rw [Shape.rowMajor_val_three, Shape.rowMajor_val_two]
  show k.val * 8192 + C.val = (k.val * 32 + i.val / 128) * 256 + (off + i.val % 128)
  omega

theorem W2_eq (c : Dev nD) : W2 m c = concatenate S512x8192 1
    [⟨S512x4096, shapeCast S512x4096 (extractStridedSlice S512x32x128 ![0, 0, 0] (shapeCast S512x32x256 (A1 m c) shapeCasts_S512x8192_S512x32x256) slices_S512x32x256_S512x32x128_0_0_0) shapeCasts_S512x32x128_S512x4096⟩,
      ⟨S512x4096, shapeCast S512x4096 (extractStridedSlice S512x32x128 ![0, 0, 128] (shapeCast S512x32x256 (A1 m c) shapeCasts_S512x8192_S512x32x256) slices_S512x32x256_S512x32x128_0_0_128) shapeCasts_S512x32x128_S512x4096⟩]
    concatenates_S512x4096_S512x4096_S512x8192_d1 := by
  unfold W2 V
  after_results
  rfl

theorem W2_apply (c : Dev nD) (z : S512x8192.Idx) (C : Fin 8192) (hC : C.val = colOf (z 1).val) : W2 m c z = A1 m c (ix2 (z 0) C) := by
  have hz : (z 1).val < 8192 := (z 1).isLt
  rw [W2_eq]
  unfold colOf at hC
  by_cases h1 : (z 1).val < 4096
  · rw [if_pos h1] at hC
    refine (concatenate_apply_piece (t := S512x8192) 1 _ _ z 0 (by show 0 < 2; decide) S512x4096 _ rfl rfl 0 rfl (ix2 (z 0) (⟨(z 1).val, h1⟩ : Fin 4096)) ?_ ?_).trans
      (cut_apply 0 (A1 m c) _ _ _ _ _ C (by decide) (by show C.val = 256 * ((z 1).val / 128) + 0 + (z 1).val % 128; omega))
    · intro b hb
      match b with
      | ⟨0, _⟩ => rfl
      | ⟨1, _⟩ => exact absurd rfl hb
    · show 0 + (z 1).val = (z 1).val; omega
  · rw [if_neg h1] at hC
    refine (concatenate_apply_piece (t := S512x8192) 1 _ _ z 1 (by show 1 < 2; decide) S512x4096 _ rfl rfl 4096 rfl (ix2 (z 0) (⟨(z 1).val - 4096, by omega⟩ : Fin 4096)) ?_ ?_).trans
      (cut_apply 128 (A1 m c) _ _ _ _ _ C (by decide) (by show C.val = 256 * (((z 1).val - 4096) / 128) + 128 + ((z 1).val - 4096) % 128; omega))
    · intro b hb
      match b with
      | ⟨0, _⟩ => rfl
      | ⟨1, _⟩ => exact absurd rfl hb
    · show 4096 + ((z 1).val - 4096) = (z 1).val; omega

theorem iblk0_apply (c : Dev nD) (t : Fin cfg0.N) (r : Fin 1024) (k : Fin 512) (z : S16384x512.Idx)
    (h0 : (z 0).val = 1024 * (t.val / 4) + r.val) (h1 : (z 1).val = k.val) : (iblk m c 0 t : S1024x512.Idx → EReal) (ix2 r k) = W1 m c z := by
  unfold iblk
  rw [View.read_apply]
  show V m c main_v8 _ = V m c main_v8 _
  congr 1
  funext a
  apply Fin.ext
  match a with
  | ⟨0, _⟩ => show win0_0.index t 0 * 1024 + 1 * r.val = (z 0).val; rw [(index0 t).1]; omega
  | ⟨1, _⟩ => show win0_0.index t 1 * 512 + 1 * k.val = (z 1).val; rw [(index0 t).2]; omega

theorem iblk1_apply (c : Dev nD) (t : Fin cfg0.N) (k : Fin 512) (r : Fin 2048) (C : Fin 8192)
    (h : C.val = colOf (2048 * (t.val % 4) + r.val)) : (iblk m c 1 t : S512x2048.Idx → EReal) (ix2 k r) = A1 m c (ix2 k C) := by
  unfold iblk
  rw [View.read_apply]
  refine (W2_apply m c _ C (h.trans (congrArg colOf ?_))).trans (congrArg (fun k' : Fin 512 => A1 m c (ix2 k' C)) (Fin.ext ?_))
  · show _ = win0_1.index t 1 * 2048 + 1 * r.val; rw [(index1 t).2]; omega
  · show win0_1.index t 0 * 512 + 1 * k.val = k.val; rw [(index1 t).1]; omega

/-- The reference's result of the kernel's arguments. -/
abbrev refOf (c : Dev nD) : S16384x8192.Idx → EReal := val_main_v7 (F := Ideal) (A0 m c) (A1 m c)

/-- The whole product, its columns cut into heads, at an index. -/
theorem heads_apply (x : S4x4096x512.Idx → EReal) (w : S512x8192.Idx → EReal) (j : Cert.Reference8Ideal.S4x4096x32x256.Idx) (R : Fin 16384) (C : Fin 8192)
    (hR : R.val = 4096 * (j 0).val + (j 1).val) (hC : C.val = 256 * (j 2).val + (j 3).val) :
    val_main_v1 (F := Ideal) x w j = ∑ k : Fin 512, shapeCast S16384x512 x shapeCasts_S4x4096x512_S16384x512 (ix2 R k) * w (ix2 k C) := by
  have h0 : (j 0).val < 4 := (j 0).isLt
  have h1 : (j 1).val < 4096 := (j 1).isLt
  have h2 : (j 2).val < 32 := (j 2).isLt
  have h3 : (j 3).val < 256 := (j 3).isLt
  rw [val_main_v1_apply, val_main_v0_apply]
  refine Finset.sum_congr rfl fun k _ => congrArg₂ (· * ·) ?_ (congrArg w ?_)
  · refine (shapeCast_apply x _ _ _ ?_).symm
    rw [Shape.rowMajor_val_three, Shape.rowMajor_val_two]
    show (((((j 0).val * 4096 + (j 1).val) * 32 + (j 2).val) * 256 + (j 3).val) / 33554432 * 4096
        + ((((j 0).val * 4096 + (j 1).val) * 32 + (j 2).val) * 256 + (j 3).val) / 8192 % 4096) * 512 + k.val = R.val * 512 + k.val
    omega
  · refine funext fun a => Fin.ext ?_
    match a with
    | ⟨0, _⟩ => rfl
    | ⟨1, _⟩ =>
      show ((((j 0).val * 4096 + (j 1).val) * 32 + (j 2).val) * 256 + (j 3).val) % 8192 = C.val
      omega

theorem ref_apply (x : S4x4096x512.Idx → EReal) (w : S512x8192.Idx → EReal) (z : S16384x8192.Idx) (C : Fin 8192) (hC : C.val = colOf (z 1).val) :
    val_main_v7 (F := Ideal) x w z
      = ∑ k : Fin 512, shapeCast S16384x512 x shapeCasts_S4x4096x512_S16384x512 (ix2 (z 0) k) * w (ix2 k C) := by
  have h0 : (z 0).val < 16384 := (z 0).isLt
  have h1 : (z 1).val < 8192 := (z 1).isLt
  refine (show val_main_v7 (F := Ideal) x w z = val_main_v6 (F := Ideal) x w z from rfl).trans ?_
  unfold val_main_v6
  unfold colOf at hC
  by_cases h : (z 1).val < 4096
  · rw [if_pos h] at hC
    refine (concatenate_apply_piece (t := S16384x8192) 1 _ _ z 0 (by show 0 < 2; decide) Cert.Reference8Ideal.S16384x4096 _ rfl rfl 0 rfl (ix2 (z 0) (⟨(z 1).val, h⟩ : Fin 4096)) ?_ ?_).trans ?_
    · intro b hb
      match b with
      | ⟨0, _⟩ => rfl
      | ⟨1, _⟩ => exact absurd rfl hb
    · show 0 + (z 1).val = (z 1).val; omega
    · refine (val_main_v4_apply (F := Ideal) x w _).trans ((val_main_v2_apply (F := Ideal) x w _).trans (heads_apply x w _ (z 0) C ?_ ?_))
      · show (z 0).val = 4096 * (((z 0).val * 4096 + (z 1).val) / 16777216) + ((z 0).val * 4096 + (z 1).val) / 4096 % 4096; omega
      · show C.val = 256 * (((z 0).val * 4096 + (z 1).val) / 128 % 32) + ((z 0).val * 4096 + (z 1).val) % 128; omega
  · rw [if_neg h] at hC
    refine (concatenate_apply_piece (t := S16384x8192) 1 _ _ z 1 (by show 1 < 2; decide) Cert.Reference8Ideal.S16384x4096 _ rfl rfl 4096 rfl (ix2 (z 0) (⟨(z 1).val - 4096, by omega⟩ : Fin 4096)) ?_ ?_).trans ?_
    · intro b hb
      match b with
      | ⟨0, _⟩ => rfl
      | ⟨1, _⟩ => exact absurd rfl hb
    · show 4096 + ((z 1).val - 4096) = (z 1).val; omega
    · refine (val_main_v5_apply (F := Ideal) x w _).trans ((val_main_v3_apply (F := Ideal) x w _).trans (heads_apply x w _ (z 0) C ?_ ?_))
      · show (z 0).val = 4096 * (((z 0).val * 4096 + ((z 1).val - 4096)) / 16777216) + ((z 0).val * 4096 + ((z 1).val - 4096)) / 4096 % 4096; omega
      · show C.val = 256 * (((z 0).val * 4096 + ((z 1).val - 4096)) / 128 % 32) + (128 + ((z 0).val * 4096 + ((z 1).val - 4096)) % 128); omega

/-- What the body leaves at a point is the reference's block there. -/
theorem point_apply (c : Dev nD) (t : Fin cfg0.N) (y : S1024x2048.Idx) (z : S16384x8192.Idx)
    (h0 : (z 0).val = 1024 * (t.val / 4) + (y 0).val) (h1 : (z 1).val = 2048 * (t.val % 4) + (y 1).val) :
    (out0_2 (iblk m c 0 t) (iblk m c 1 t) : S1024x2048.Idx → EReal) y = refOf m c z := by
  obtain ⟨r, u, rfl⟩ : ∃ (r : Fin 1024) (u : Fin 2048), y = (ix2 r u : S1024x2048.Idx) := ⟨y 0, y 1, eq_ix2 y⟩
  have hz : (z 1).val < 8192 := (z 1).isLt
  have hlt : colOf (z 1).val < 8192 := by unfold colOf; split <;> omega
  refine (out_apply _ _ r u).trans ?_
  refine Eq.trans ?_ (ref_apply (A0 m c) (A1 m c) z ⟨colOf (z 1).val, hlt⟩ rfl).symm
  rw [← W1_eq]
  exact Finset.sum_congr rfl fun k _ => congrArg₂ (· * ·) (iblk0_apply m c t r k _ h0 rfl) (iblk1_apply m c t k u _ (congrArg colOf h1))

theorem flushed_eq (c : Dev nD) (t : Fin cfg0.N) (hf : (cfg0.win 2).flush t = true) :
    (dats m 0 c).flushed 2 t = ((cfg0.win 2).blk t).view.read (Elt Ideal) (refOf m c) := by
  rw [Value.flushed2]
  funext y
  rw [View.read_apply]
  refine point_apply m c t _ _ ?_ ?_
  · show win0_2.index t 0 * 1024 + 1 * (y 0).val = _ + (y 0).val
    rw [(index2 t).1]; omega
  · show win0_2.index t 1 * 2048 + 1 * (y 1).val = _ + (y 1).val
    rw [(index2 t).2]; omega

/-- The point that writes row `R`, column `C`. -/
def pointOf (R C : ℕ) (hR : R < 16384) (hC : C < 8192) : Fin cfg0.N := ⟨4 * (R / 1024) + C / 2048, lt_of_lt_of_eq (by omega) N_0.symm⟩

theorem final_o (c : Dev nD) : (dats m 0 c).arrAt 2 cfg0.N = refOf m c :=
  (dats m 0 c).arrAt_eq_of_cover 2 (refOf m c) (flushed_eq m c) fun i => by
    have hR : (i 0 : Nat) < 16384 := (i 0).isLt
    have hC : (i 1 : Nat) < 8192 := (i 1).isLt
    refine ⟨pointOf (i 0 : Nat) (i 1 : Nat) hR hC, flush0_2 _, ?_⟩
    show i ∈ ((View.whole main_v9).slice (win0_2.rect (pointOf (i 0 : Nat) (i 1 : Nat) hR hC))).set
    rw [View.set_slice_whole, Rect.mem_set_unit]
    obtain ⟨e0, e1⟩ := index2 (pointOf (i 0 : Nat) (i 1 : Nat) hR hC)
    have ev : (pointOf (i 0 : Nat) (i 1 : Nat) hR hC).val = 4 * ((i 0 : Nat) / 1024) + (i 1 : Nat) / 2048 := rfl
    rw [ev] at e0 e1
    intro a
    match a with
    | ⟨0, _⟩ =>
      show win0_2.index (pointOf (i 0 : Nat) (i 1 : Nat) hR hC) 0 * 1024 ≤ (i 0 : Nat) ∧ (i 0 : Nat) < win0_2.index (pointOf (i 0 : Nat) (i 1 : Nat) hR hC) 0 * 1024 + 1024
      rw [e0]; omega
    | ⟨1, _⟩ =>
      show win0_2.index (pointOf (i 0 : Nat) (i 1 : Nat) hR hC) 1 * 2048 ≤ (i 1 : Nat) ∧ (i 1 : Nat) < win0_2.index (pointOf (i 0 : Nat) (i 1 : Nat) hR hC) 1 * 2048 + 2048
      rw [e1]; omega

end Cert.Kernel8Ideal.Hand

namespace Cert.Alg8

open Idealize.ShloMosaic

theorem quiescent_ref : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : algebraic_Kernel8Ideal_Reference8Ideal := by
  intro m g m' g' _ hagree
  refine ⟨fun c => Cert.Kernel8Ideal.Hand.refOf m c,
    (θ_run Cert.Kernel8Ideal.defs _ _).mono (fun _ h c => ⟨(h c).1.trans (Cert.Kernel8Ideal.Hand.final_o m c), (h c).2⟩) (Cert.Kernel8Ideal.Value.run_blocks m g), ?_⟩
  refine (θ_run Cert.Reference8Ideal.defs _ _).mono (fun _ h c => ⟨(h c).1.trans ?_, (h c).2⟩) (Cert.Reference8Ideal.Value.run (F := Ideal) m' g')
  obtain ⟨e0, e1⟩ := hagree c
  rw [Cert.Reference8Ideal.Read.val_main_v7_eq, e0, e1]

end Cert.Alg8

end
-- ==== Proof.Moe.Body.lean ====
/- The grouped call's body, run once per case of its conditions: a live tile that casts its expert's weights into the
   scratch buffers, a live tile that keeps what the tile before it cast, and a tile past the last row of any group. -/
module

public import proofs.«01_k».proof.Proof.Gen.Kernel9Ideal.Launch
public import proofs.«01_k».proof.Proof.Gen.Kernel9Ideal.Skeleton
public import Idealize.ShloMosaic.Lib.Pipeline.FrameBody
public import Idealize.ShloMosaic.Lib.Pipeline.Frame
public import Idealize.ShloMosaic.Lib.VecWindow
public import Idealize.ShloMosaic.Lib.WholeRead
public import Idealize.ShloMosaic.Lib.Tactic

@[expose] public section

set_option maxRecDepth 65536

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- The word of the experts' table at tile `r`, and the number of live tiles. -/
abbrev teW (T : Vec F S72 .i32) (off : Fin 1 → Nat) (h : ∀ a, off a + S1.size a ≤ S72.size a) : BitVec 32 :=
  T ((Rect.unit (s := S72) off S1.size h).emb (Shape.Idx.first (numel1_S1.symm ▸ Nat.one_pos)))
abbrev nvW (N : Vec F S1 .i32) : BitVec 32 :=
  N ((Rect.unit (s := S1) ![0] S1.size inb_S1_S1_0).emb (Shape.Idx.first (numel1_S1.symm ▸ Nat.one_pos)))

/-- The tile loads its expert's weights: the first tile, or one of another expert than the tile before. -/
def fresh (i : grid0.Coords) (T : Vec F S72 .i32) : BitVec 1 :=
  Scalar.cmpi .ne (Scalar.extui (Scalar.ori (Scalar.cmpi .eq (BitVec.ofNat 32 (i 1).val) 0#32)
    (Scalar.cmpi .ne (teW T (k0_off2 i) (k0_off2_inb i)) (teW T (k0_off3 i) (k0_off3_inb i)))) : BitVec 32) 0#32

/-- The weights' scratch buffer after the body, and the output's. -/
def keep (i : grid0.Coords) (T : Vec F S72 .i32) (N : Vec F S1 .i32) (d w : Vec F S4096x512 .bf16) : Vec F S4096x512 .bf16 :=
  if k0_cond1 i (nvW N) = 1#1 then if fresh i T = 1#1 then w else d else d
def outv (i : grid0.Coords) (N : Vec F S1 .i32) (d y : Vec F S512x512 .bf16) : Vec F S512x512 .bf16 :=
  if k0_cond3 i (nvW N) = 1#1 then k0_pay4 else if k0_cond1 i (nvW N) = 1#1 then y else d

set_option maxHeartbeats 4000000 in
theorem run (c : Dev nD) (i : grid0.Coords) (arg4 : Memref sig .tc .vmem S512x4096 .bf16) (harg4 : arg4.IsWhole) (arg5 : Memref sig .tc .vmem S1x4096x512 .f32) (harg5 : arg5.IsWhole) (arg6 : Memref sig .tc .vmem S1x4096x512 .f32) (harg6 : arg6.IsWhole) (arg7 : Memref sig .tc .vmem S512x512 .bf16) (harg7 : arg7.IsWhole)
    (arg2 : Memref sig .tc .smem S72 .i32) (harg2 : arg2.IsWhole) (arg3 : Memref sig .tc .smem S1 .i32) (harg3 : arg3.IsWhole)
    (arg8 : Memref sig .tc .vmem S4096x512 .bf16) (harg8 : arg8.IsWhole) (arg9 : Memref sig .tc .vmem S4096x512 .bf16) (harg9 : arg9.IsWhole)
    (T : Vec F S72 .i32) (N : Vec F S1 .i32)
    (x4 : Vec F S512x4096 .bf16) (x5 x6 : Vec F S1x4096x512 .f32) (d7 : Vec F S512x512 .bf16) (d8 d9 : Vec F S4096x512 .bf16)
    (W : Waits sig Unit) (K : PUnit → sProp 𝕄) :
    iprop(owns (c : Thread nD τ) arg2 fullShare.right T ∗ owns (c : Thread nD τ) arg3 fullShare.right N
        ∗ owns (c : Thread nD τ) arg4 fullShare x4 ∗ owns (c : Thread nD τ) arg5 fullShare x5 ∗ owns (c : Thread nD τ) arg6 fullShare x6
        ∗ owns (c : Thread nD τ) arg7 fullShare d7 ∗ owns (c : Thread nD τ) arg8 fullShare d8 ∗ owns (c : Thread nD τ) arg9 fullShare d9
        ∗ owes (c : Thread nD τ) 0 W
        ∗ (iprop(owns (c : Thread nD τ) arg2 fullShare.right T ∗ owns (c : Thread nD τ) arg3 fullShare.right N
          ∗ owns (c : Thread nD τ) arg4 fullShare x4 ∗ owns (c : Thread nD τ) arg5 fullShare x5 ∗ owns (c : Thread nD τ) arg6 fullShare x6
          ∗ owns (c : Thread nD τ) arg7 fullShare (outv i N d7 (k0_pay3 x4 (keep i T N d8 (k0_pay1 x5)) (keep i T N d9 (k0_pay2 x6))))
          ∗ owns (c : Thread nD τ) arg8 fullShare (keep i T N d8 (k0_pay1 x5)) ∗ owns (c : Thread nD τ) arg9 fullShare (keep i T N d9 (k0_pay2 x6))
          ∗ (∃ W', owes (c : Thread nD τ) 0 W')) -∗ K ⟨⟩))
      ⊢ wp frame (wpE (defs₀ (F := F)) Variants.none c none) Set.univ
          (cc0_moe_up i arg2 harg2 arg3 harg3 arg4 harg4 arg5 harg5 arg6 harg6 arg7 harg7 arg8 harg8 arg9 harg9) K := by
    simp only [cc0_moe_up_eq_skeleton]; unfold cc0_moe_up_skel
    unfold owns
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, HW, Hk⟩
    obtain rfl := harg2.eq_unread e2; obtain rfl := harg3.eq_unread e3
    obtain rfl := harg4.eq_unread e4; obtain rfl := harg5.eq_unread e5; obtain rfl := harg6.eq_unread e6
    obtain rfl := harg7.eq_unread e7; obtain rfl := harg8.eq_unread e8; obtain rfl := harg9.eq_unread e9
    sl_exec
    sl_step
    have er : run.sl.r c arg3 harg3 N = nvW N := by
      unfold run.sl.r; exact harg3.readAt_unread _ _ _
    have e18 : run.sl.v18 c i arg2 harg2 T = fresh i T := by
      unfold run.sl.v18 fresh run.sl.v17 run.sl.v16 run.sl.v15
      have a1 : run.sl.r_1 c i arg2 harg2 T = teW T (k0_off2 i) (k0_off2_inb i) := by
        unfold run.sl.r_1; exact harg2.readAt_unread _ _ _
      have a2 : run.sl.r_2 c i arg2 harg2 T = teW T (k0_off3 i) (k0_off3_inb i) := by
        unfold run.sl.r_2; exact harg2.readAt_unread _ _ _
      rw [a1, a2]; rfl
    have k8 : arg8.view.read (Elt F) (if hc : k0_cond1 i (run.sl.r c arg3 harg3 N) = 1#1 then if hc : run.sl.v18 c i arg2 harg2 T = 1#1 then
          arg8.view.writes (Elt F) (harg8.unread d8) [⟨Rect.unit (s := S4096x512) ![0, 0] S4096x512.size inb_S4096x512_S4096x512_0_0, k0_pay1 (View.readAt (Elt F) arg5.view
              (Rect.unit (s := S1x4096x512) ![0, 0, 0] S1x4096x512.size inb_S1x4096x512_S1x4096x512_0_0_0).toLoadRect (harg5.unread x5))⟩]
        else harg8.unread d8 else harg8.unread d8) = keep i T N d8 (k0_pay1 x5) := by
      unfold keep; rw [er, e18, View.readAt_full, e5]
      split_ifs
      · exact View.read_writes_full ..
      · exact e8
      · exact e8
    have k9 : arg9.view.read (Elt F) (if hc : k0_cond1 i (run.sl.r c arg3 harg3 N) = 1#1 then if hc : run.sl.v18 c i arg2 harg2 T = 1#1 then
          arg9.view.writes (Elt F) (harg9.unread d9) [⟨Rect.unit (s := S4096x512) ![0, 0] S4096x512.size inb_S4096x512_S4096x512_0_0, k0_pay2 (View.readAt (Elt F) arg6.view
              (Rect.unit (s := S1x4096x512) ![0, 0, 0] S1x4096x512.size inb_S1x4096x512_S1x4096x512_0_0_0).toLoadRect (harg6.unread x6))⟩]
        else harg9.unread d9 else harg9.unread d9) = keep i T N d9 (k0_pay2 x6) := by
      unfold keep; rw [er, e18, View.readAt_full, e6]
      split_ifs
      · exact View.read_writes_full ..
      · exact e9
      · exact e9
    iapply Hk
    isplitl [H2]
    · iexists _; isplitr; · ipureintro; exact e2
      iexact H2
    isplitl [H3]
    · iexists _; isplitr; · ipureintro; exact e3
      iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr
      swap; · iexact H7
      ipureintro
      have ev1 : k0_cond1 i (nvW N) = 1#1 → run.sl.v21 c i arg5 harg5 arg2 harg2 arg8 harg8 T x5 d8 = keep i T N d8 (k0_pay1 x5) := fun h => by
        rw [← k8, er, dif_pos h]; unfold run.sl.v21; exact View.readAt_full ..
      have ev3 : k0_cond1 i (nvW N) = 1#1 → run.sl.v23 c i arg6 harg6 arg2 harg2 arg9 harg9 T x6 d9 = keep i T N d9 (k0_pay2 x6) := fun h => by
        rw [← k9, er, dif_pos h]; unfold run.sl.v23; exact View.readAt_full ..
      rw [er, View.readAt_full, e4]; unfold outv
      by_cases h3 : k0_cond3 i (nvW N) = 1#1
      · rw [dif_pos h3, if_pos h3]; exact View.read_writes_full ..
      · rw [dif_neg h3, if_neg h3]
        by_cases h1 : k0_cond1 i (nvW N) = 1#1
        · rw [dif_pos h1, if_pos h1, ev1 h1, ev3 h1]; exact View.read_writes_full ..
        · rw [dif_neg h1, if_neg h1]; exact e7
    isplitl [H8]
    · iexists _; isplitr
      swap; · iexact H8
      ipureintro; exact k8
    isplitl [H9]
    · iexists _; isplitr
      swap; · iexact H9
      ipureintro; exact k9
    iexists _; iexact HW

end Cert.Kernel9Ideal.Hand

end
-- ==== Proof.Moe.Run.lean ====
/- The grouped call's launch: the tables its host code computes, the proof data (each tile's weights carried from one
   point to the next in the scratch buffers), the body obligation and the frame — at any float values, under the
   hypothesis that the tables admit the windows' blocks. -/
module

public import proofs.«01_k».proof.Proof.Moe.Body
public import Idealize.ShloMosaic.Lib.WordCmp

@[expose] public section

set_option maxRecDepth 65536

noncomputable section

namespace Cert.Kernel9Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor

set_option maxHeartbeats 1600000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨fresh0, fresh1, fresh2, fresh3, fresh4, fresh5⟩) main_chain

/-- No host operation writes an argument. -/
theorem V_kept (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    rcases hb with rfl | rfl | rfl | rfl
    all_goals
      simp only [hostOps0, hostOps0_1, hostOps0_2, hostOps0_3, hostOps0_4, hostOps0_5, List.flatten_cons, List.flatten_nil, List.append_nil,
        List.cons_append, List.nil_append, List.Forall, StableHlo.nullary_writes, StableHlo.unary_writes, StableHlo.binary_writes,
        StableHlo.ternary_writes, StableHlo.reshape_writes, StableHlo.unaryIndexed_writes, Finset.mem_singleton]
      repeat' apply And.intro
      all_goals exact StableHlo.devRef_ne_of_ne (by decide)))

/-! ## The tables -/

/-- The experts' table and the number of live tiles, among the tables' contents `pf`. -/
abbrev T (pf : pre0.Contents (Elt F)) : Vec F S72 .i32 := pf 0
abbrev N (pf : pre0.Contents (Elt F)) : Vec F S1 .i32 := pf 1

variable (a : (pcfg0 (F := F)).Adm)

abbrev cA : Cfg sig Λ₀ := cfg0 a

/-- Window `w`'s block at point `t`. -/
def iblk (c : Dev nD) (w : Fin (cA a).W) (t : Fin (cA a).N) :
    (((cA a).win w).xblock ((cA a).grid.coords t)).Idx → Elt F ((cA a).win w).elt :=
  (((cA a).win w).blk t).view.read (Elt F) (V m c (Pipeline.arrRef spec0 w))

theorem before0 {c : Dev nD} (dat : Dat τ (Elt F) Unit ℕ (UR sig nD τ) ℕ (cA a) c) (hA : dat.A 0 = V m c (Pipeline.arrRef spec0 0))
    (hafter : ∀ t, dat.after 0 t = iblk m a c 0 t) (t : Fin (cA a).N) (d) : dat.before 0 t d = iblk m a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1 {c : Dev nD} (dat : Dat τ (Elt F) Unit ℕ (UR sig nD τ) ℕ (cA a) c) (hA : dat.A 1 = V m c (Pipeline.arrRef spec0 1))
    (hafter : ∀ t, dat.after 1 t = iblk m a c 1 t) (t : Fin (cA a).N) (d) : dat.before 1 t d = iblk m a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2 {c : Dev nD} (dat : Dat τ (Elt F) Unit ℕ (UR sig nD τ) ℕ (cA a) c) (hA : dat.A 2 = V m c (Pipeline.arrRef spec0 2))
    (hafter : ∀ t, dat.after 2 t = iblk m a c 2 t) (t : Fin (cA a).N) (d) : dat.before 2 t d = iblk m a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The output's block after point `t`: the tile's product, or zeros past the last group's rows. -/
def outAt (c : Dev nD) (t : Fin (cA a).N) : Vec F S512x512 .bf16 :=
  outv (grid0.coords t) (N a.1) k0_pay4 (k0_pay3 (iblk m a c 0 t) (k0_pay1 (iblk m a c 1 t)) (k0_pay2 (iblk m a c 2 t)))

/-- What the scratch buffers hold before point `k`: after a live tile, its weights. -/
def Held (c : Dev nD) (k : ℕ) (d8 d9 : Vec F S4096x512 .bf16) : Prop :=
  ∀ t : Fin (cA a).N, t.val + 1 = k → k0_cond1 (grid0.coords t) (nvW (N a.1)) = 1#1 →
    d8 = k0_pay1 (iblk m a c 1 t) ∧ d9 = k0_pay2 (iblk m a c 2 t)

def dats (_ : Fin 1) (c : Dev nD) : Dat τ (Elt F) Unit ℕ (UR sig nD τ) ℕ (cA a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => outAt m a c t
  Φ k := iprop((∃ r, prngReg c r)
    ∗ owns (c : Thread nD τ) (Memref.whole main_v29) fullShare.right (T a.1) ∗ owns (c : Thread nD τ) (Memref.whole main_v4) fullShare.right (N a.1)
    ∗ (∃ d8 d9, ⌜Held m a c k.val d8 d9⌝ ∗ owns (c : Thread nD τ) (Memref.whole cc0_scratch0) fullShare d8
        ∗ owns (c : Thread nD τ) (Memref.whole cc0_scratch1) fullShare d9))
  q _ := fullShare
  owed _ := 0

theorem A_eq (c : Dev nD) (w : Fin (cA a).W) : (dats m a 0 c).A w = V m c (Pipeline.arrRef spec0 w) := by
  dsimp only [dats]
theorem after0 (c : Dev nD) (t : Fin (cA a).N) : (dats m a 0 c).after 0 t = iblk m a c 0 t := rfl
theorem after1 (c : Dev nD) (t : Fin (cA a).N) : (dats m a 0 c).after 1 t = iblk m a c 1 t := rfl
theorem after2 (c : Dev nD) (t : Fin (cA a).N) : (dats m a 0 c).after 2 t = iblk m a c 2 t := rfl
theorem after3 (c : Dev nD) (t : Fin (cA a).N) : (dats m a 0 c).after 3 t = outAt m a c t := rfl

/-! ## A kept tile's weights are its own -/

theorem coord0 : ∀ t : Fin grid0.N, (grid0.coords t 0).val = t.val / 72 := by decide +kernel
theorem coord1 : ∀ t : Fin grid0.N, (grid0.coords t 1).val = t.val % 72 := by decide +kernel

/-! Blocks of one index are one block. -/

theorem index1 (t : Fin (cA a).N) :
    ((cA a).win 1).index t = cc0_transform_1 k0_off1_inb numel1_S1 a.1 (grid0.coords t) := id rfl
theorem clip1 : ∀ i i' : grid0.Coords, ((cA a).win 1).clip i = ((cA a).win 1).clip i' := fun _ _ => rfl
theorem fetched1 (c : Dev nD) (t : Fin (cA a).N) (d) : (dats m a 0 c).fetched 1 t d = iblk m a c 1 t := by
  unfold Dat.fetched Dat.blockOf iblk; rw [A_eq]; try rfl
theorem iblk1_congr (c : Dev nD) (t t' : Fin (cA a).N)
    (h : cc0_transform_1 k0_off1_inb numel1_S1 a.1 (grid0.coords t) = cc0_transform_1 k0_off1_inb numel1_S1 a.1 (grid0.coords t')) :
    (iblk m a c 1 t : Vec F S1x4096x512 .f32) = iblk m a c 1 t' := by
  have d := (dats m a 0 c).after 1 t
  rw [← fetched1 m a c t d, ← fetched1 m a c t' d]
  exact (dats m a 0 c).fetched_congr 1 ((index1 a t).trans (h.trans (index1 a t').symm)) (clip1 a _ _) d
theorem index2 (t : Fin (cA a).N) :
    ((cA a).win 2).index t = cc0_transform_2 k0_off1_inb numel1_S1 a.1 (grid0.coords t) := id rfl
theorem clip2 : ∀ i i' : grid0.Coords, ((cA a).win 2).clip i = ((cA a).win 2).clip i' := fun _ _ => rfl
theorem fetched2 (c : Dev nD) (t : Fin (cA a).N) (d) : (dats m a 0 c).fetched 2 t d = iblk m a c 2 t := by
  unfold Dat.fetched Dat.blockOf iblk; rw [A_eq]; try rfl
theorem iblk2_congr (c : Dev nD) (t t' : Fin (cA a).N)
    (h : cc0_transform_2 k0_off1_inb numel1_S1 a.1 (grid0.coords t) = cc0_transform_2 k0_off1_inb numel1_S1 a.1 (grid0.coords t')) :
    (iblk m a c 2 t : Vec F S1x4096x512 .f32) = iblk m a c 2 t' := by
  have d := (dats m a 0 c).after 2 t
  rw [← fetched2 m a c t d, ← fetched2 m a c t' d]
  exact (dats m a 0 c).fetched_congr 2 ((index2 a t).trans (h.trans (index2 a t').symm)) (clip2 a _ _) d

theorem bit_one (b : BitVec 1) : b ≠ 1#1 → b = 0#1 := by revert b; decide

/-- A tile that keeps the scratch is not the first and has the expert of the tile before. -/
theorem not_fresh {i : grid0.Coords} {T : Vec F S72 .i32} (h : ¬ fresh i T = 1#1) :
    (i 1).val ≠ 0 ∧ teW T (k0_off2 i) (k0_off2_inb i) = teW T (k0_off3 i) (k0_off3_inb i) := by
  unfold fresh at h
  constructor
  · intro h0
    apply h
    rw [h0]
    generalize Scalar.cmpi .ne (teW T (k0_off2 i) (k0_off2_inb i)) (teW T (k0_off3 i) (k0_off3_inb i)) = b
    revert b; decide
  · by_contra hne
    apply h
    have e : Scalar.cmpi .ne (teW T (k0_off2 i) (k0_off2_inb i)) (teW T (k0_off3 i) (k0_off3_inb i)) = 1#1 := by
      show BitVec.ofBool (_ != _) = 1#1
      rw [bne_iff_ne.mpr hne]; rfl
    rw [e]
    generalize Scalar.cmpi .eq (BitVec.ofNat 32 (i 1).val) 0#32 = b
    revert b; decide

theorem off3_eq : ∀ i : grid0.Coords, (i 1).val ≠ 0 → k0_off3 i = ![(i 1).val - 1] := by
  have h : ∀ r : Fin 72, r.val ≠ 0 → (Scalar.maxsi (Scalar.subi (BitVec.ofNat 32 r.val) 1#32) 0#32).toNat = r.val - 1 := by decide +kernel
  intro i hi
  have := h (i 1) hi
  unfold k0_off3
  funext a
  fin_cases a
  exact this

theorem ne_zero_ext (b : Bool) : Scalar.cmpi .ne (Scalar.extui (BitVec.ofBool b) : BitVec 32) 0#32 = BitVec.ofBool b := by
  revert b; decide

/-- A tile is live when it lies before the number of live tiles. -/
theorem cond1_iff (i : grid0.Coords) (n : BitVec 32) : k0_cond1 i n = 1#1 ↔ ((i 1).val : ℤ) < n.toInt := by
  have hi : (i 1).val < 2 ^ (32 - 1) := lt_trans (i 1).isLt (by decide)
  show Scalar.cmpi .ne (Scalar.extui (BitVec.ofBool (decide ((BitVec.ofNat 32 (i 1).val).toInt < n.toInt))) : BitVec 32) 0#32 = 1#1 ↔ _
  rw [ne_zero_ext, WordCmp.toInt_ofNat_of_lt hi]
  by_cases h : ((i 1).val : ℤ) < n.toInt <;> simp [h]
theorem cond3_iff (i : grid0.Coords) (n : BitVec 32) : k0_cond3 i n = 1#1 ↔ n.toInt ≤ ((i 1).val : ℤ) := by
  have hi : (i 1).val < 2 ^ (32 - 1) := lt_trans (i 1).isLt (by decide)
  show Scalar.cmpi .ne (Scalar.extui (BitVec.ofBool (decide (n.toInt ≤ (BitVec.ofNat 32 (i 1).val).toInt))) : BitVec 32) 0#32 = 1#1 ↔ _
  rw [ne_zero_ext, WordCmp.toInt_ofNat_of_lt hi]
  by_cases h : n.toInt ≤ ((i 1).val : ℤ) <;> simp [h]

theorem live_pred (n : BitVec 32) {i i' : grid0.Coords} (hi : (i' 1).val = (i 1).val - 1)
    (h : k0_cond1 i n = 1#1) : k0_cond1 i' n = 1#1 := by
  rw [cond1_iff] at h ⊢; omega

theorem idx1_eq (pf : pre0.Contents (Elt F)) {t t' : Fin grid0.N} (h0 : (grid0.coords t 0).val = (grid0.coords t' 0).val)
    (h1 : teW (T pf) (k0_off1 (grid0.coords t)) (k0_off1_inb _) = teW (T pf) (k0_off1 (grid0.coords t')) (k0_off1_inb _)) :
    cc0_transform_1 k0_off1_inb numel1_S1 pf (grid0.coords t) = cc0_transform_1 k0_off1_inb numel1_S1 pf (grid0.coords t') := by
  show ![(teW (T pf) (k0_off1 (grid0.coords t)) (k0_off1_inb _)).toNat, 0, (BitVec.ofNat 32 (grid0.coords t 0).val).toNat]
    = ![(teW (T pf) (k0_off1 (grid0.coords t')) (k0_off1_inb _)).toNat, 0, (BitVec.ofNat 32 (grid0.coords t' 0).val).toNat]
  rw [h0, h1]

theorem teW_congr {T : Vec F S72 .i32} {o o' : Fin 1 → ℕ} {h h'} (e : o = o') : teW T o h = teW T o' h' := by subst e; rfl

/-- The scratch buffers after a live tile hold its weights. -/
theorem kept (c : Dev nD) (t : Fin (cA a).N) {d8 d9 : Vec F S4096x512 .bf16} (hH : Held m a c t.val d8 d9)
    (hl : k0_cond1 (grid0.coords t) (nvW (N a.1)) = 1#1) :
    keep (grid0.coords t) (T a.1) (N a.1) d8 (k0_pay1 (iblk m a c 1 t)) = k0_pay1 (iblk m a c 1 t)
    ∧ keep (grid0.coords t) (T a.1) (N a.1) d9 (k0_pay2 (iblk m a c 2 t)) = k0_pay2 (iblk m a c 2 t) := by
  unfold keep
  rw [if_pos hl, if_pos hl]
  by_cases hf : fresh (grid0.coords t) (T a.1) = 1#1
  · rw [if_pos hf, if_pos hf]; exact ⟨rfl, rfl⟩
  · rw [if_neg hf, if_neg hf]
    obtain ⟨h0, he⟩ := not_fresh hf
    have hN : grid0.N = 720 := N_0
    have ht : t.val < grid0.N := t.isLt
    have hr := coord1 t
    have hq := coord0 t
    let t' : Fin (cA a).N := ⟨t.val - 1, lt_of_le_of_lt (Nat.sub_le _ _) ht⟩
    have hr' : (grid0.coords t' 1).val = (t.val - 1) % 72 := coord1 t'
    have hq' : (grid0.coords t' 0).val = (t.val - 1) / 72 := coord0 t'
    have hrr : (grid0.coords t' 1).val = (grid0.coords t 1).val - 1 := by omega
    have hqq : (grid0.coords t 0).val = (grid0.coords t' 0).val := by omega
    have hl' := live_pred (nvW (N a.1)) hrr hl
    have hpos : 1 ≤ t.val := by
      rcases Nat.eq_zero_or_pos t.val with e | e
      · exact absurd (by rw [hr, e]) h0
      · exact e
    obtain ⟨e8, e9⟩ := hH t' (Nat.sub_add_cancel hpos) hl'
    have hoff : teW (T a.1) (k0_off1 (grid0.coords t)) (k0_off1_inb _) = teW (T a.1) (k0_off1 (grid0.coords t')) (k0_off1_inb _) := by
      refine (teW_congr rfl).trans (he.trans (teW_congr ?_))
      rw [off3_eq _ h0, k0_off1_eq, hrr]
    have hidx := idx1_eq a.1 (t := t) (t' := t') hqq hoff
    exact ⟨e8.trans (congrArg k0_pay1 (iblk1_congr m a c t t' hidx).symm), e9.trans (congrArg k0_pay2 (iblk2_congr m a c t t' hidx).symm)⟩

/-! ## The body obligation -/

abbrev st0 (t : Fin (cA a).N) := spec0_0.stage ((cA a).slots t 0)
abbrev st1 (t : Fin (cA a).N) := spec0_1.stage ((cA a).slots t 1)
abbrev st2 (t : Fin (cA a).N) := spec0_2.stage ((cA a).slots t 2)
abbrev st3 (t : Fin (cA a).N) := spec0_3.stage ((cA a).slots t 3)

def bodyAt (t : Fin (cA a).N) : Prog (TpuEff nD τ sig (Elt F) Λ₀ .tc) PUnit :=
  cc0_moe_up (grid0.coords t) (Memref.whole main_v29) (Memref.isWhole_whole _) (Memref.whole main_v4) (Memref.isWhole_whole _)
    (st0 a t) (hstage0_0 (((cA a).slots t 0).cast nbuf0_0)) (st1 a t) (hstage0_1 (((cA a).slots t 1).cast nbuf0_1))
    (st2 a t) (hstage0_2 (((cA a).slots t 2).cast nbuf0_2)) (st3 a t) (hstage0_3 (((cA a).slots t 3).cast nbuf0_3))
    (Memref.whole cc0_scratch0) (Memref.isWhole_whole _) (Memref.whole cc0_scratch1) (Memref.isWhole_whole _)

/-- Every tile is stored: it is live or it is not. -/
theorem idle3 (i : grid0.Coords) : (cA a).idle 3 i = false := by
  show (!(k0_cond1 i (nvW (N a.1)) == 1#1) && !(k0_cond3 i (nvW (N a.1)) == 1#1)) = false
  rcases lt_or_ge ((i 1).val : ℤ) (nvW (N a.1)).toInt with h | h
  · rw [(cond1_iff i _).mpr h]; rfl
  · rw [(cond3_iff i _).mpr h]; exact Bool.and_false _

/-- What the last window's buffer is left at. -/
def left3 (c : Dev nD) (t : Fin (cA a).N) : sProp 𝕄 :=
  match (cA a).idle 3 ((cA a).grid.coords t) with
  | true =>
    match ((cA a).win 3).flush t with
    | false => iprop(∃ d, owns (c : Thread nD τ) (((cA a).win 3).stage ((cA a).slots t 3)) fullShare ((dats m a 0 c).before 3 t d))
    | true => owns (c : Thread nD τ) (((cA a).win 3).stage ((cA a).slots t 3)) fullShare ((dats m a 0 c).after 3 t)
  | false => owns (c : Thread nD τ) (((cA a).win 3).stage ((cA a).slots t 3)) fullShare ((dats m a 0 c).after 3 t)

theorem left3_eq (c : Dev nD) (t : Fin (cA a).N) :
    left3 m a c t = owns (c : Thread nD τ) (st3 a t) fullShare (outAt m a c t) := by
  unfold left3; rw [idle3 a]; rfl

/-- What the body leaves in the output's buffer is its tile, live or not. -/
theorem out_eq (c : Dev nD) (t : Fin (cA a).N) (d7 : Vec F S512x512 .bf16) {d8 d9 : Vec F S4096x512 .bf16} (hH : Held m a c t.val d8 d9) :
    outv (grid0.coords t) (N a.1) d7 (k0_pay3 (iblk m a c 0 t) (keep (grid0.coords t) (T a.1) (N a.1) d8 (k0_pay1 (iblk m a c 1 t)))
      (keep (grid0.coords t) (T a.1) (N a.1) d9 (k0_pay2 (iblk m a c 2 t)))) = outAt m a c t := by
  unfold outAt outv
  by_cases h3 : k0_cond3 (grid0.coords t) (nvW (N a.1)) = 1#1
  · rw [if_pos h3, if_pos h3]
  · have h1 : k0_cond1 (grid0.coords t) (nvW (N a.1)) = 1#1 := by
      rw [cond3_iff, not_le] at h3; exact (cond1_iff _ _).mpr h3
    obtain ⟨e8, e9⟩ := kept m a c t hH h1
    rw [if_neg h3, if_neg h3, if_pos h1, if_pos h1, e8, e9]

theorem held_succ (c : Dev nD) (t : Fin (cA a).N) {d8 d9 : Vec F S4096x512 .bf16} (hH : Held m a c t.val d8 d9) :
    Held m a c (t.val + 1) (keep (grid0.coords t) (T a.1) (N a.1) d8 (k0_pay1 (iblk m a c 1 t)))
      (keep (grid0.coords t) (T a.1) (N a.1) d9 (k0_pay2 (iblk m a c 2 t))) := fun t' ht' hl => by
  obtain rfl : t' = t := Fin.ext (Nat.succ_injective ht')
  exact kept m a c t' hH hl

def bodyPre (c : Dev nD) (t : Fin (cA a).N) : sProp 𝕄 :=
  iprop((dats m a 0 c).Φ t.castSucc ∗ (dats m a 0 c).owesAt () t.castSucc
    ∗ (∃ d, owns (c : Thread nD τ) (st0 a t) fullShare ((dats m a 0 c).before 0 t d))
    ∗ (∃ d, owns (c : Thread nD τ) (st1 a t) fullShare ((dats m a 0 c).before 1 t d))
    ∗ (∃ d, owns (c : Thread nD τ) (st2 a t) fullShare ((dats m a 0 c).before 2 t d))
    ∗ (∃ d, owns (c : Thread nD τ) (st3 a t) fullShare ((dats m a 0 c).before 3 t d)))
def bodyPost (c : Dev nD) (t : Fin (cA a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ left3 m a c t)

/-- The invariant before point `k`. -/
theorem Φ_eq (c : Dev nD) (k : Fin ((cA a).N + 1)) : (dats m a 0 c).Φ k = iprop((∃ r, prngReg c r)
    ∗ owns (c : Thread nD τ) (Memref.whole main_v29) fullShare.right (T a.1) ∗ owns (c : Thread nD τ) (Memref.whole main_v4) fullShare.right (N a.1)
    ∗ (∃ d8 d9, ⌜Held m a c k.val d8 d9⌝ ∗ owns (c : Thread nD τ) (Memref.whole cc0_scratch0) fullShare d8
        ∗ owns (c : Thread nD τ) (Memref.whole cc0_scratch1) fullShare d9)) := rfl

theorem sound_body (c : Dev nD) (t : Fin (cA a).N) :
    bodyPre m a c t ⊢ wp frame (wpE (defs₀ (F := F)) Variants.none c none) Set.univ (bodyAt a t) (fun _ => bodyPost m a c t) := by
  unfold bodyPre bodyPost bodyAt
  simp only [before0 m a (dats m a 0 c) (A_eq m a c 0) (after0 m a c) t, before1 m a (dats m a 0 c) (A_eq m a c 1) (after1 m a c) t,
    before2 m a (dats m a 0 c) (A_eq m a c 2) (after2 m a c) t]
  rw [after0, after1, after2, left3_eq, Φ_eq, Φ_eq]
  unfold Dat.owesAt Pipeline.owesWithin
  rw [show (dats m a 0 c).owed t.castSucc = 0 from rfl, show (dats m a 0 c).owed t.succ = 0 from rfl]
  iintro ⟨⟨HP, HT, HN, ⟨%d8, %d9, %hH, H8, H9⟩⟩, ⟨%W, -, HW⟩, ⟨%d0, H0⟩, ⟨%d1, H1⟩, ⟨%d2, H2⟩, ⟨%d3, H3⟩⟩
  rw [Fin.val_castSucc] at hH
  generalize (dats m a 0 c).before 3 t d3 = X3
  iapply (run c (grid0.coords t) (st0 a t) (hstage0_0 (((cA a).slots t 0).cast nbuf0_0)) (st1 a t) (hstage0_1 (((cA a).slots t 1).cast nbuf0_1))
    (st2 a t) (hstage0_2 (((cA a).slots t 2).cast nbuf0_2)) (st3 a t) (hstage0_3 (((cA a).slots t 3).cast nbuf0_3))
    (Memref.whole main_v29) (Memref.isWhole_whole _) (Memref.whole main_v4) (Memref.isWhole_whole _)
    (Memref.whole cc0_scratch0) (Memref.isWhole_whole _) (Memref.whole cc0_scratch1) (Memref.isWhole_whole _) (T a.1) (N a.1)
    (iblk m a c 0 t) (iblk m a c 1 t) (iblk m a c 2 t) X3 d8 d9 W _)
  isplitl [HT]; · iexact HT
  isplitl [HN]; · iexact HN
  isplitl [H0]; · iexact H0
  isplitl [H1]; · iexact H1
  isplitl [H2]; · iexact H2
  isplitl [H3]; · iexact H3
  isplitl [H8]; · iexact H8
  isplitl [H9]; · iexact H9
  isplitl [HW]; · iexact HW
  rw [out_eq m a c t X3 hH]
  iintro ⟨HT, HN, H0, H1, H2, H3, H8, H9, ⟨%W', HW'⟩⟩
  isplitl [HP HT HN H8 H9]
  · isplitl [HP]; · iexact HP
    isplitl [HT]; · iexact HT
    isplitl [HN]; · iexact HN
    iexists _; iexists _
    isplitr; · ipureintro; exact held_succ m a c t hH
    isplitl [H8]; · iexact H8
    iexact H9
  isplitl [HW']
  · iexists W'; isplitr; · ipureintro; exact fun _ _ => Or.inl trivial
    iexact HW'
  isplitl [H0]; · iexact H0
  isplitl [H1]; · iexact H1
  isplitl [H2]; · iexact H2
  iexact H3

theorem defs₀_row (t : Fin (cA a).N) :
    defs₀ (F := F) .tc (cA a).body ((cA a).bodyArgs t ((cA a).slots t)) = bodyAt a t := by
  unfold defs₀; rw [Defs.onTc_tc]; rfl

theorem body_obligation (c : Dev nD) : BodyObligation (dats (F := F) m a 0 c) (defs₀ (F := F)) Variants.none () Set.univ := fun t => by
  rw [bigSep_W0, bigSep_W0, defs₀_row]
  exact triple_restated (sound_body m a c t) rfl .rfl fun _ => .rfl

/-! ## The run -/

theorem two_tables {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem enter (c : Dev nD) :
    iprop(Pipeline.ΦA spec0 c ∗ Pipeline.ΦT pre0 a.1 c) ⊢ (dats (F := F) m a 0 c).Φ 0 := by
  rw [Φ_eq]
  unfold Pipeline.ΦA Pipeline.ΦT Pipeline.prefHeld
  rw [scopedRest0_eq, two_tables]
  simp only [owns_whole]
  iintro ⟨⟨⟨⟨%f8, H8⟩, ⟨%f9, H9⟩⟩, HP⟩, HT, HN⟩
  isplitl [HP]; · iexact HP
  isplitl [HT]; · iexact HT
  isplitl [HN]; · iexact HN
  iexists f8; iexists f9
  isplitr; · ipureintro; exact fun t ht => absurd ht (Nat.succ_ne_zero _)
  isplitl [H8]; · iexact H8
  iexact H9

theorem leave (c : Dev nD) : (dats (F := F) m a 0 c).Φ (Fin.last (cA a).N) ⊢ Pipeline.ΦA spec0 c := by
  rw [Φ_eq]
  unfold Pipeline.ΦA
  rw [scopedRest0_eq]
  simp only [owns_whole]
  iintro ⟨HP, -, -, ⟨%d8, %d9, -, H8, H9⟩⟩
  isplitr [HP]
  · isplitl [H8]; · iexists d8; iexact H8
    iexists d9; iexact H9
  iexact HP

theorem share_eq (c : Dev nD) (w : Fin (cA a).W) : (dats (F := F) m a 0 c).share w = fullShare := by
  unfold Dat.share; split <;> rfl

set_option backward.isDefEq.respectTransparency.types false in
theorem run_main (hpf : ∀ c k, V m c (pre0.ref k) = a.1 k) : θ_run defs (onTc (τ := τ) (main (F := F))) (s₀ m ρ)
    (fun r => Pipeline.FramePost (Pipeline.pin pcfgs fun _ => a) (dats m a) 0 (V m) r ∧ r.2.sem = fun _ => 0) :=
  Pipeline.θ_run_frameP_track (Q' := _) pcfgs (fun _ => a) (dats m a) (0 : Fin 1) launch0 defs₀ Variants.none m ρ main
    (hbody := fun c => (body_obligation m a c).loose) (hshare := share_eq m a)
    (howed := fun _ _ => rfl) (V := V m) (hmain := hmain m Variants.none) (hA := A_eq m a)
    (hpf := hpf) (hin := enter m a) (hout := leave m a)

theorem arr_ne0 : ∀ w : Fin 4, (spec0 w).arr.view.ref ≠ main_arg0 := by decide
theorem arr_ne1 : ∀ w : Fin 4, (spec0 w).arr.view.ref ≠ main_arg1 := by decide

/-- The frame, with every semaphore at zero. -/
theorem frame (hpf : ∀ c k, V m c (pre0.ref k) = a.1 k) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
     ⟨((h.1 c).2 main_arg0 (Pipeline.mem_restRefs_of main_arg0 (by decide) arr_ne0)).trans (V_kept m c _ (.inl rfl)),
      ((h.1 c).2 main_arg1 (Pipeline.mem_restRefs_of main_arg1 (by decide) arr_ne1)).trans (V_kept m c _ (.inr (.inl rfl))),
      ((h.1 c).1 1).trans (((dats m a 0 c).arrAt_in 1 rfl _).trans (V_kept m c _ (.inr (.inr (.inl rfl))))),
      ((h.1 c).1 2).trans (((dats m a 0 c).arrAt_in 2 rfl _).trans (V_kept m c _ (.inr (.inr (.inr rfl)))))⟩, h.2⟩) (run_main m ρ a hpf)

end Cert.Kernel9Ideal.Hand

end
-- ==== Proof.Moe.Tables.lean ====
/- The grouped call's tables as numbers: from group sizes that fit, the number of live tiles and each tile's group. -/
module

public import proofs.«01_k».proof.Proof.Gen.Kernel9Ideal
public import Idealize.ShloMosaic.Lib.Routing.OpsSearch
public import Idealize.ShloMosaic.Lib.PlanTiles.Rows
public import Idealize.ShloMosaic.Lib.WordCmp

@[expose] public section

set_option maxRecDepth 16384

noncomputable section

namespace Cert.Moe

open Idealize.ShloMosaic Idealize.ShloMosaic.ValueIdx
open Idealize.ShloMosaic.Routing (cumsum1 reduce_count pyDiv0 pyDiv0_ap)
open Cert.Kernel9Ideal (S_ S1 S8 S72 S72x1 S1x8 S72x8)
open Cert.Kernel9Ideal.Gen

/-! ## Group ends -/

/-- The end of group `j`'s rows. -/
def en (f : ℕ → ℕ) (j : ℕ) : ℕ := ((List.range (j + 1)).map f).sum

theorem en_zero (f : ℕ → ℕ) : en f 0 = f 0 := by simp [en]
theorem en_succ (f : ℕ → ℕ) (j : ℕ) : en f (j + 1) = en f j + f (j + 1) := by
  unfold en
  rw [List.range_succ (n := j + 1), List.map_append, List.sum_append]
  simp

/-- Group sizes the call takes: counts of whole tiles, not all zero. -/
structure Fit (s : IVec S8 32) (f : ℕ → ℕ) : Prop where
  word : ∀ i : Fin 8, s (ix1 i) = BitVec.ofNat 32 (f i.val)
  le : ∀ i, f i ≤ 36864
  dvd : ∀ i, 512 ∣ f i
  pos : 0 < en f 7

/-- The number of live tiles, and tile `r`'s group: the number of groups ended by its first row. -/
def live (f : ℕ → ℕ) : ℕ := en f 7 / 512
def group (f : ℕ → ℕ) (r : ℕ) : ℕ := Nat.count (fun e => en f e ≤ 512 * r) 8

theorem count_spec {P : ℕ → Prop} [DecidablePred P] (hP : ∀ e, P (e + 1) → P e) : ∀ n e, e < n → (P e ↔ e < Nat.count P n)
  | 0, e, h => absurd h (Nat.not_lt_zero e)
  | n + 1, e, h => by
    have ih := count_spec hP n
    have hle := Nat.count_le P (n := n)
    rw [Nat.count_succ]
    by_cases hn : P n
    · have down : ∀ k, P k → ∀ e, e ≤ k → P e := fun k => by
        induction k with
        | zero => intro h0 e he; rwa [Nat.le_zero.mp he]
        | succ k ihk =>
          intro hk e he
          rcases Nat.lt_or_ge e (k + 1) with hlt | hge
          · exact ihk (hP k hk) e (Nat.lt_succ_iff.mp hlt)
          · rwa [show e = k + 1 by omega]
      have hc : Nat.count P n = n := by
        rcases Nat.lt_or_ge (Nat.count P n) n with hlt | hge
        · exact absurd ((ih _ hlt).mp (down n hn _ hlt.le)) (Nat.lt_irrefl _)
        · omega
      rw [if_pos hn, hc]
      exact ⟨fun _ => h, fun _ => down n hn e (Nat.lt_succ_iff.mp h)⟩
    · rw [if_neg hn, Nat.add_zero]
      rcases Nat.lt_or_ge e n with hlt | hge
      · exact ih e hlt
      · have : e = n := by omega
        subst this
        exact ⟨fun h => absurd h hn, fun h => absurd h (by omega)⟩

section
variable {s : IVec S8 32} {f : ℕ → ℕ} (H : Fit s f)
include H

theorem en_dvd (j : ℕ) : 512 ∣ en f j := by
  induction j with
  | zero => rw [en_zero]; exact H.dvd 0
  | succ j ih => rw [en_succ]; exact Nat.dvd_add ih (H.dvd _)

theorem en_le (j : ℕ) : en f j ≤ (j + 1) * 36864 := by
  induction j with
  | zero => rw [en_zero]; have := H.le 0; omega
  | succ j ih => rw [en_succ]; have := H.le (j + 1); omega

theorem live_pos : 0 < live f := by
  unfold live
  obtain ⟨k, hk⟩ := en_dvd H 7
  have := H.pos
  omega

theorem live_le : live f ≤ 576 := by
  unfold live
  have := en_le H 7
  omega

theorem group_le (r : ℕ) : group f r ≤ 8 := Nat.count_le _

theorem group_iff {r e : ℕ} (he : e < 8) : en f e ≤ 512 * r ↔ e < group f r :=
  count_spec (P := fun e => en f e ≤ 512 * r) (fun e h => by rw [en_succ] at h; omega) 8 e he

theorem group_lt {r : ℕ} : group f r < 8 ↔ r < live f := by
  have h7 := group_iff H (r := r) (e := 7) (by omega)
  have hg := group_le H r
  obtain ⟨k, hk⟩ := en_dvd H 7
  unfold live
  omega

/-- Row `p` is group `e`'s exactly if its tile is live and `e` is the tile's group. -/
theorem mem_group {p e : ℕ} (he : e < 8) : (en f e - f e ≤ p ∧ p < en f e) ↔ (p / 512 < live f ∧ e = group f (p / 512)) := by
  have hl := group_lt H (r := p / 512)
  have hi := group_iff H (r := p / 512) he
  obtain ⟨k, hk⟩ := en_dvd H e
  rw [← hl]
  rcases e with _ | e
  · rw [en_zero] at *
    omega
  · have hj := group_iff H (r := p / 512) (e := e) (by omega)
    obtain ⟨k', hk'⟩ := en_dvd H e
    rw [en_succ] at *
    omega

end

/-! ## The tables' words -/

/-- The group ends, the number of live tiles, each tile's count of ended groups, and the tiles' groups. -/
def sums (s : IVec S8 32) : IVec S8 32 :=
  Host.reduceWindow IntOp.addi ![8] ![1] ![7] ![0] s (broadcastInDim S_ ![] bcast_S_S_ (constantI S_ 32 0#32)) reduceWindows_S8_S8_w8s1p7_0 h_S_
def nvX (s : IVec S8 32) : IVec S1 32 :=
  shapeCast S1 (pyDiv0 (shapeCast S_ (extractStridedSlice S1 ![7] (sums s) slices_S8_S1_7) shapeCasts_S1_S_) (constantI S_ 32 512#32)) shapeCasts_S_S1
def endsX (s : IVec S8 32) : IVec S72x8 1 :=
  cmpi .sge
    (broadcastInDim S72x8 ![0, 1] bcast_S72x1_S72x8_0_1 (broadcastInDim S72x1 ![0] bcast_S72_S72x1_0
      (muli (iotaInDim S72 32 0) (broadcastInDim S72 ![] bcast_S_S72 (constantI S_ 32 512#32)))))
    (broadcastInDim S72x8 ![0, 1] bcast_S1x8_S72x8_0_1 (broadcastInDim S1x8 ![1] bcast_S8_S1x8_1 (sums s)))
def rawX (s : IVec S8 32) : IVec S72 32 :=
  Host.reduce IntOp.addi (extui 32 (endsX s) natLt_1_32) (constantI S_ 32 0#32) reducesTo_S72x8_S72_d1 h_S_
def cntX (s : IVec S8 32) : IVec S72 32 := minsi (rawX s) (broadcastInDim S72 ![] bcast_S_S72 (constantI S_ 32 7#32))
/-- The tiles past the last live one take the entry at `start`, a position the slice brings inside. -/
def pickX (start : Fin S72.rank → Int) (nv : IVec S1 32) (cnt : IVec S72 32) : IVec S72 32 :=
  select (cmpi .slt (iotaInDim S72 32 0) (broadcastInDim S72 ![] bcast_S_S72 (shapeCast S_ nv shapeCasts_S1_S_))) cnt
    (broadcastInDim S72 ![] bcast_S_S72 (shapeCast S_ (Host.dynamicSlice S1 cnt start sliceFits_S72_S1) shapeCasts_S1_S_))
def teX (start : Fin S72.rank → Int) (s : IVec S8 32) : IVec S72 32 := pickX start (nvX s) (cntX s)

section
variable {s : IVec S8 32} {f : ℕ → ℕ} (H : Fit s f)
include H

theorem sums_word (j : Fin 8) : sums s (ix1 j) = BitVec.ofNat 32 (en f j.val) :=
  cumsum1 (N := 8) (Nm1 := 7) rfl s f H.word _ rfl _ _ j

theorem nvX_word (i : S1.Idx) : nvX s i = BitVec.ofNat 32 (live f) := by
  have hi : i = ix1 (0 : Fin 1) := (eq_ix1 i).trans (congrArg ix1 (Subsingleton.elim (α := Fin 1) _ _))
  subst hi
  unfold nvX
  rw [shapeCast_apply _ _ (ix1 (0 : Fin 1)) ValueIdx.ix0 rfl]
  refine pyDiv0_ap _ _ (a := en f 7) (b := 512) ?_ rfl (by have := en_le H 7; omega) (by omega) (by omega)
  rw [shapeCast_apply _ _ ValueIdx.ix0 (ix1 (0 : Fin 1)) rfl]
  exact (congrArg (sums s) (funext fun a => by match a with | ⟨0, _⟩ => rfl)).trans (sums_word H 7)

theorem endsX_iff (r : Fin 72) (q : Fin 8) : endsX s (ix2 r q) = 1#1 ↔ en f q.val ≤ 512 * r.val := by
  have hr := r.isLt
  have hq := q.isLt
  have := en_le H q.val
  have e : endsX s (ix2 r q) = IntOp.cmpi .sge (BitVec.ofNat 32 r.val * BitVec.ofNat 32 512) (sums s (ix1 q)) := by
    unfold endsX
    generalize sums s = v
    refine congrArg₂ (IntOp.cmpi .sge) rfl (congrArg v (funext fun a => by match a with | ⟨0, _⟩ => rfl))
  rw [e, sums_word H, ← BitVec.ofNat_mul, WordCmp.cmpi_sge_ofNat_eq_one_iff (by omega) (by omega)]
  omega

theorem rawX_word (r : Fin 72) : rawX s (ix1 r) = BitVec.ofNat 32 (group f r.val) :=
  reduce_count (n := 72) (m := 8) (by omega) (endsX s) natLt_1_32 reducesTo_S72x8_S72_d1 h_S_ r (fun e => en f e ≤ 512 * r.val) (endsX_iff H r)

theorem cntX_word (r : Fin 72) : cntX s (ix1 r) = BitVec.ofNat 32 (min 7 (group f r.val)) := by
  have hg := group_le H r.val
  have e : cntX s (ix1 r) = IntOp.minsi (rawX s (ix1 r)) (BitVec.ofNat 32 7) := rfl
  rw [e, rawX_word H]
  exact PlanTiles.minsi_word (by omega) (by omega)

/-- A tile's table entry is a group, and a live tile's its own. -/
theorem teX_word (start : Fin S72.rank → Int) (r : Fin 72) : ∃ n, n ≤ 7 ∧ teX start s (ix1 r) = BitVec.ofNat 32 n ∧ (r.val < live f → n = group f r.val) := by
  have hr := r.isLt
  have hl := live_le H
  have hlt := group_lt H (r := r.val)
  obtain ⟨r', e⟩ : ∃ r' : Fin 72, teX start s (ix1 r)
      = Scalar.select (IntOp.cmpi .slt (BitVec.ofNat 32 r.val) (nvX s (ix1 (0 : Fin 1)))) (cntX s (ix1 r)) (cntX s (ix1 r')) := by
    unfold teX pickX
    refine ⟨⟨(min (max (start 0) 0) (71 : Int)).toNat, by omega⟩, ?_⟩
    refine congr (congr (congrArg Scalar.select (congrArg (IntOp.cmpi .slt _) ?_)) rfl) ?_
    · exact shapeCast_apply _ _ ValueIdx.ix0 (ix1 (0 : Fin 1)) rfl
    · refine (shapeCast_apply _ _ ValueIdx.ix0 (ix1 (0 : Fin 1)) rfl).trans ?_
      exact congrArg (cntX s) (funext fun a => by match a with | ⟨0, _⟩ => rfl)
  rw [e, nvX_word H, cntX_word H, cntX_word H]
  by_cases h : r.val < live f
  · refine ⟨group f r.val, by omega, ?_, fun _ => rfl⟩
    rw [WordCmp.select_of_eq_one ((WordCmp.cmpi_slt_ofNat_eq_one_iff (by omega) (by omega)).mpr h), Nat.min_eq_right (by omega)]
  · refine ⟨min 7 (group f r'.val), by omega, ?_, fun h' => absurd h' h⟩
    rw [WordCmp.select_of_eq_zero ((WordCmp.cmpi_slt_ofNat_eq_zero_iff (by omega) (by omega)).mpr (by omega))]

end

end Cert.Moe

end
-- ==== Proof.Moe.Host.lean ====
/- The grouped call's prepared arrays as terms of the arguments, the precondition read as group sizes that fit, and the blocks the
   windows take at the tables it admits: both frames. -/
module

public import proofs.«01_k».proof.Defs
public import proofs.«01_k».proof.Proof.Moe.Run
public import proofs.«01_k».proof.Proof.Moe.Tables
public import proofs.«01_k».proof.Proof.Gen.Pre_groups_fit
public import Idealize.ShloMosaic.Lib.Affine

@[expose] public section

set_option maxRecDepth 65536

noncomputable section

/-! ## The precondition -/

namespace Cert.Moe

open Idealize.ShloMosaic Idealize.ShloMosaic.ValueIdx
open Cert.Kernel9Ideal (S_ S1 S8 S72 S72x1 S1x8 S72x8)

theorem and_one {a b : BitVec 1} (h : IntOp.andi a b = 1#1) : a = 1#1 ∧ b = 1#1 := by
  revert a b; decide

/-- A word from 0 to `b` divisible by 512. -/
theorem word_fits (x : BitVec 32) (h0 : IntOp.cmpi .sge x 0#32 = 1#1) (h1 : IntOp.cmpi .sle x 36864#32 = 1#1)
    (h2 : IntOp.cmpi .eq (IntOp.remsi .host x 512#32) 0#32 = 1#1) : x.toNat ≤ 36864 ∧ 512 ∣ x.toNat := by
  rw [WordCmp.cmpi_sge_eq, BitVec.toInt_zero, WordCmp.ofBool_decide_eq_one_iff, WordCmp.toInt_nonneg_iff_lt_half] at h0
  have hx : x = BitVec.ofNat 32 x.toNat := by simp
  generalize x.toNat = n at h0 hx
  subst hx
  rw [show (36864#32 : BitVec 32) = BitVec.ofNat 32 36864 from rfl, WordCmp.cmpi_sle_ofNat_eq_one_iff (by omega) (by omega)] at h1
  rw [show (512#32 : BitVec 32) = BitVec.ofNat 32 512 from rfl, Routing.remsi_word .host (by omega) (by omega) (by omega)] at h2
  refine ⟨h1, Nat.dvd_of_mod_eq_zero ?_⟩
  have h3 : (BitVec.ofNat 32 (n % 512)).toNat = 0 := by
    have : BitVec.ofNat 32 (n % 512) = 0#32 := by simpa [IntOp.cmpi, WordCmp.ofBool_eq_one_iff] using h2
    rw [this]; rfl
  rw [BitVec.toNat_ofNat] at h3
  omega

theorem fit_of_pre {F : FTy → Type} [FloatOps F] (x0 : FVec F Cert.Pre_groups_fit.S36864x4096 .f32) (s : IVec S8 32)
    (x2 x3 : FVec F Cert.Pre_groups_fit.S8x4096x5120 .f32) (h : Cert.Pre_groups_fit.fn (F := F) x0 s x2 x3 = fun _ => 1#1) :
    ∃ f, Fit s f := by
  have hall : ∀ i : Fin 8, ((s (ix1 i)).toNat ≤ 36864 ∧ 512 ∣ (s (ix1 i)).toNat)
      ∧ IntOp.cmpi .sgt (Host.reduce IntOp.addi s (constantI S_ 32 0#32) Cert.Pre_groups_fit.Gen.reducesTo_S8_S_d0 Cert.Pre_groups_fit.Gen.h_S_ ValueIdx.ix0) 0#32 = 1#1 := fun i => by
    have e := congrFun h (ix1 i)
    unfold Cert.Pre_groups_fit.fn at e
    dsimp only at e
    obtain ⟨e, e4⟩ := and_one e
    obtain ⟨e, e3⟩ := and_one e
    obtain ⟨e1, e2⟩ := and_one e
    exact ⟨word_fits _ e1 e2 e3, (congrArg (fun z => IntOp.cmpi .sgt (Host.reduce IntOp.addi s (constantI S_ 32 0#32) Cert.Pre_groups_fit.Gen.reducesTo_S8_S_d0 Cert.Pre_groups_fit.Gen.h_S_ z) 0#32) (eq_ix0 _).symm).trans e4⟩
  refine ⟨fun i => if h : i < 8 then (s (ix1 (⟨i, h⟩ : Fin 8))).toNat else 0, ?_, ?_, ?_, ?_⟩
  · intro i
    simp
  · intro i
    by_cases hi : i < 8
    · simp only [hi, dif_pos]; exact (hall ⟨i, hi⟩).1.1
    · simp [hi]
  · intro i
    by_cases hi : i < 8
    · simp only [hi, dif_pos]; exact (hall ⟨i, hi⟩).1.2
    · simp [hi]
  · have e := (hall 0).2
    rw [show Host.reduce IntOp.addi s (constantI S_ 32 0#32) Cert.Pre_groups_fit.Gen.reducesTo_S8_S_d0 Cert.Pre_groups_fit.Gen.h_S_ ValueIdx.ix0 = _ from
      Routing.reduce_sum (N := 8) s (fun i => if h : i < 8 then (s (ix1 (⟨i, h⟩ : Fin 8))).toNat else 0) (fun i => by simp) _ _] at e
    by_contra hn
    rw [show ((List.range 8).map fun i => if h : i < 8 then (s (ix1 (⟨i, h⟩ : Fin 8))).toNat else 0).sum = 0 from Nat.eq_zero_of_not_pos hn] at e
    exact absurd e (by decide)

end Cert.Moe

namespace Cert.Kernel9Ideal.Hand

open Idealize.ShloMosaic Idealize.ShloMosaic.TcCoe Idealize.ShloMosaic.ValueIdx Idealize.ShloMosaic.Tactic Idealize.SL.Sem
open Idealize.ShloMosaic.StableHlo (TRef)
open Cert.Kernel9Ideal Cert.Kernel9Ideal.Gen Cert.Moe

variable {F : FTy → Type} [FloatOps F]
variable (m : (ℓ : Loc nD τ sig) → Buf (Elt F) ℓ)

theorem V_v4 (c : Dev nD) : (V m c main_v4 : IVec S1 32) = nvX (m ((c : Thread nD τ).loc main_arg1)) := by
  unfold V
  simp only [hostOps0, hostOps0_1, hostOps0_2, hostOps0_3, hostOps0_4, hostOps0_5, List.flatten_cons, List.flatten_nil, List.append_nil,
    List.cons_append, List.nil_append, TRef.binary, TRef.nullary, TRef.reshape, TRef.unary, TRef.ternary, TRef.toBuf, TRef.ofBuf, cast_eq]
  after_results
  rfl

/-- The tiles' counts, capped at the last group. -/
theorem V_v16 (c : Dev nD) : (V m c main_v16 : IVec S72 32) = cntX (m ((c : Thread nD τ).loc main_arg1)) := by
  unfold V
  simp only [hostOps0, hostOps0_1, hostOps0_2, hostOps0_3, hostOps0_4, hostOps0_5, List.flatten_cons, List.flatten_nil, List.append_nil,
    List.cons_append, List.nil_append, TRef.binary, TRef.nullary, TRef.reshape, TRef.unary, TRef.ternary, TRef.toBuf, TRef.ofBuf, cast_eq]
  after_results
  rfl

theorem V_pick (c : Dev nD) : ∃ start, (V m c main_v29 : IVec S72 32) = pickX start (V m c main_v4) (V m c main_v16) := by
  unfold V
  simp only [hostOps0, hostOps0_1, hostOps0_2, hostOps0_3, hostOps0_4, hostOps0_5, List.flatten_cons, List.flatten_nil, List.append_nil,
    List.cons_append, List.nil_append, TRef.binary, TRef.nullary, TRef.reshape, TRef.unary, TRef.ternary, TRef.toBuf, TRef.ofBuf, cast_eq]
  after_results
  exact ⟨_, rfl⟩

theorem V_v29 (c : Dev nD) : ∃ start, (V m c main_v29 : IVec S72 32) = teX start (m ((c : Thread nD τ).loc main_arg1)) := by
  obtain ⟨start, e⟩ := V_pick m c
  refine ⟨start, ?_⟩
  rw [e, V_v16, V_v4]
  rfl

theorem V_v30 (c : Dev nD) : (V m c main_v30 : Vec F S36864x4096 .bf16)
    = truncf .bf16 (m ((c : Thread nD τ).loc main_arg0) : Vec F S36864x4096 .f32) bitsLt_bf16_f32 := by
  unfold V
  simp only [hostOps0, hostOps0_1, hostOps0_2, hostOps0_3, hostOps0_4, hostOps0_5, List.flatten_cons, List.flatten_nil, List.append_nil,
    List.cons_append, List.nil_append, TRef.binary, TRef.nullary, TRef.reshape, TRef.unary, TRef.ternary, TRef.toBuf, TRef.ofBuf, cast_eq]
  after_results

end Cert.Kernel9Ideal.Hand

end
-- ==== Proof.Moe.Same.lean ====
/- The grouped call's program is its ideal module's at any float values: the label types agree, then each stretch of host operations. -/
module

public import proofs.«01_k».proof.Proof.Gen.Kernel9.Launch
public import proofs.«01_k».proof.Proof.Gen.Kernel9Ideal.Launch
public import proofs.«01_k».proof.Proof.Gen.Kernel9
public import proofs.«01_k».proof.Proof.Gen.Kernel9Ideal

@[expose] public section

set_option maxRecDepth 65536

noncomputable section

namespace Cert.Moe

open Idealize.ShloMosaic Idealize.SL.Sem

variable {F : FTy → Type} [FloatOps F]

abbrev PK (F : FTy → Type) [FloatOps F] : Type 1 :=
  Prog (TpuEff Cert.Kernel9.nD Cert.Kernel9.τ Cert.Kernel9.sig (Elt F) (Pipeline.Sig Cert.Kernel9.Λ₀ (Fin 1) fun p => (Cert.Kernel9.pcfgs (F := F) p).Adm) .tc) PUnit
abbrev PI (F : FTy → Type) [FloatOps F] : Type 1 :=
  Prog (TpuEff Cert.Kernel9Ideal.nD Cert.Kernel9Ideal.τ Cert.Kernel9Ideal.sig (Elt F)
    (Pipeline.Sig Cert.Kernel9Ideal.Λ₀ (Fin 1) fun p => (Cert.Kernel9Ideal.pcfgs (F := F) p).Adm) .tc) PUnit

theorem bodies_eq : Cert.Kernel9.defs₀ (F := F) = Cert.Kernel9Ideal.defs₀ (F := F) := by
  unfold Cert.Kernel9.defs₀ Cert.Kernel9Ideal.defs₀
  refine congrArg Defs.onTc ?_
  funext a b
  match a, b with
  | 0, (t, s) => rfl

theorem defs_eq : Cert.Kernel9.defs (F := F) = Cert.Kernel9Ideal.defs (F := F) :=
  congrArg (Pipeline.defs (Cert.Kernel9Ideal.pcfgs (F := F))) bodies_eq

theorem ops0 : Cert.Kernel9.Gen.hostOps0 (F := F) = Cert.Kernel9Ideal.Gen.hostOps0 (F := F) := rfl
theorem ops1 : Cert.Kernel9.Gen.hostOps0_1 (F := F) = Cert.Kernel9Ideal.Gen.hostOps0_1 (F := F) := rfl
theorem ops2 : Cert.Kernel9.Gen.hostOps0_2 (F := F) = Cert.Kernel9Ideal.Gen.hostOps0_2 (F := F) := rfl
theorem ops3 : Cert.Kernel9.Gen.hostOps0_3 (F := F) = Cert.Kernel9Ideal.Gen.hostOps0_3 (F := F) := rfl
theorem ops4 : Cert.Kernel9.Gen.hostOps0_4 (F := F) = Cert.Kernel9Ideal.Gen.hostOps0_4 (F := F) := rfl
theorem ops5 : Cert.Kernel9.Gen.hostOps0_5 (F := F) = Cert.Kernel9Ideal.Gen.hostOps0_5 (F := F) := rfl

theorem seq_eq {a : List (HloOp Cert.Kernel9.τ Cert.Kernel9.sig (Elt F))} {b : List (HloOp Cert.Kernel9Ideal.τ Cert.Kernel9Ideal.sig (Elt F))} (h : a = b) :
    (StableHlo.seq a : PK F) = (StableHlo.seq b : PI F) := by subst h; rfl
theorem entry_eq : (Prog.lift (.customCall (Pipeline.entry 0) ()) : PK F) = (Prog.lift (.customCall (Pipeline.entry 0) ()) : PI F) := rfl
theorem chain_eq (l : List (PK F)) : Pipeline.chain l = Pipeline.chain (l : List (PI F)) := rfl
theorem list_eq {α : Type 1} {a a' b b' c c' d d' e e' f f' g g' : α} (ha : a = a') (hb : b = b') (hc : c = c') (hd : d = d') (he : e = e') (hf : f = f')
    (hg : g = g') : [a, b, c, d, e, f, g] = [a', b', c', d', e', f', g'] := by
  subst ha hb hc hd he hf hg; rfl

def lK : List (PK F) :=
  [ StableHlo.seq Cert.Kernel9.Gen.hostOps0, StableHlo.seq Cert.Kernel9.Gen.hostOps0_1, StableHlo.seq Cert.Kernel9.Gen.hostOps0_2,
    StableHlo.seq Cert.Kernel9.Gen.hostOps0_3, StableHlo.seq Cert.Kernel9.Gen.hostOps0_4, StableHlo.seq Cert.Kernel9.Gen.hostOps0_5,
    Prog.lift (.customCall (Pipeline.entry 0) ()) ]
def lI : List (PI F) :=
  [ StableHlo.seq Cert.Kernel9Ideal.Gen.hostOps0, StableHlo.seq Cert.Kernel9Ideal.Gen.hostOps0_1, StableHlo.seq Cert.Kernel9Ideal.Gen.hostOps0_2,
    StableHlo.seq Cert.Kernel9Ideal.Gen.hostOps0_3, StableHlo.seq Cert.Kernel9Ideal.Gen.hostOps0_4, StableHlo.seq Cert.Kernel9Ideal.Gen.hostOps0_5,
    Prog.lift (.customCall (Pipeline.entry 0) ()) ]

set_option maxHeartbeats 1600000 in
theorem lists_eq : lK (F := F) = lI (F := F) :=
  list_eq (α := PI F) (seq_eq ops0) (seq_eq ops1) (seq_eq ops2) (seq_eq ops3) (seq_eq ops4) (seq_eq ops5) entry_eq

theorem main_eq : Cert.Kernel9.main (F := F) = Cert.Kernel9Ideal.main (F := F) := by
  funext c
  have hK : Cert.Kernel9.main (F := F) c = Pipeline.chain (lK (F := F)) := Cert.Kernel9.Gen.main_chain c
  have hI : Cert.Kernel9Ideal.main (F := F) c = Pipeline.chain (lI (F := F)) := Cert.Kernel9Ideal.Gen.main_chain c
  refine hK.trans (Eq.trans ?_ hI.symm)
  exact (chain_eq _).trans (congrArg Pipeline.chain lists_eq)

end Cert.Moe

end
-- ==== Proof.Moe.Adm.lean ====
/- The tables the precondition admits: the windows' blocks at them, the frames. -/
module

public import proofs.«01_k».proof.Proof.Moe.Host
public import proofs.«01_k».proof.Proof.Moe.Same

@[expose] public section

set_option maxRecDepth 65536

noncomputable section

namespace Cert.Kernel9Ideal.Hand

open Idealize.ShloMosaic Idealize.ShloMosaic.TcCoe Idealize.ShloMosaic.Tactic Idealize.SL.Sem
open Idealize.ShloMosaic.ValueIdx (ix1 ix2 ix3 eq_ix1)
open Cert.Kernel9Ideal Cert.Kernel9Ideal.Gen Cert.Moe

variable {F : FTy → Type} [FloatOps F]

/-- The tables' contents of group sizes `f`. -/
structure Tab (f : ℕ → ℕ) (pf : pre0.Contents (Elt F)) : Prop where
  nv : ∀ i, N pf i = BitVec.ofNat 32 (live f)
  te : ∀ r : Fin 72, ∃ n, n ≤ 7 ∧ T pf (ix1 r) = BitVec.ofNat 32 n ∧ (r.val < live f → n = group f r.val)

section
variable {f : ℕ → ℕ} {pf : pre0.Contents (Elt F)} {s : IVec S8 32} (H : Fit s f) (K : Tab f pf)
include H K

theorem nvW_eq : nvW (N pf) = BitVec.ofNat 32 (live f) := K.nv _

omit H K in
theorem teW_eq (i : grid0.Coords) : teW (T pf) (k0_off1 i) (k0_off1_inb i) = T pf (ix1 (i 1)) := by
  have h : (i 1).val < 72 := (i 1).isLt
  refine congrArg (T pf) (funext fun a => Fin.ext ?_)
  match a with
  | ⟨0, _⟩ =>
    show k0_off1 i 0 + 1 * 0 = (i 1).val
    rw [k0_off1_eq]
    simp

theorem tr0 (i : grid0.Coords) : cc0_transform_0 inb_S1_S1_0 numel1_S1 pf i = ![min (i 1).val (live f - 1), 0] := by
  have h : (i 1).val < 72 := (i 1).isLt
  have hl := live_le H
  have hp := live_pos H
  show ![(IntOp.minsi (BitVec.ofNat 32 (i 1).val) (nvW (N pf) - 1#32)).toNat, 0] = _
  rw [nvW_eq H K, show BitVec.ofNat 32 (live f) - 1#32 = BitVec.ofNat 32 (live f - 1) by apply BitVec.eq_of_toNat_eq; simp; omega,
    PlanTiles.minsi_word (by omega) (by omega), BitVec.toNat_ofNat, Nat.mod_eq_of_lt (by omega), Nat.min_comm]

omit H K in
theorem tr1 (i : grid0.Coords) : cc0_transform_1 k0_off1_inb numel1_S1 pf i = ![(T pf (ix1 (i 1))).toNat, 0, (i 0).val] := by
  have h : (i 0).val < 10 := (i 0).isLt
  show ![(teW (T pf) (k0_off1 i) (k0_off1_inb _)).toNat, 0, (BitVec.ofNat 32 (i 0).val).toNat] = _
  rw [teW_eq, BitVec.toNat_ofNat, Nat.mod_eq_of_lt (by omega)]

omit H K in
theorem tr2 (i : grid0.Coords) : cc0_transform_2 k0_off1_inb numel1_S1 pf i = ![(T pf (ix1 (i 1))).toNat, 0, (i 0).val] := tr1 i

theorem te_le (i : grid0.Coords) : (T pf (ix1 (i 1))).toNat ≤ 7 := by
  obtain ⟨n, hn, e, -⟩ := K.te (i 1)
  rw [e, BitVec.toNat_ofNat, Nat.mod_eq_of_lt (by omega)]
  exact hn

theorem te_live (i : grid0.Coords) (h : (i 1).val < live f) : (T pf (ix1 (i 1))).toNat = group f (i 1).val := by
  obtain ⟨n, hn, e, eg⟩ := K.te (i 1)
  rw [e, BitVec.toNat_ofNat, Nat.mod_eq_of_lt (by omega)]
  exact eg h

theorem fits1 (i : grid0.Coords) (a : Fin 3) : (![(T pf (ix1 (i 1))).toNat, 0, (i 0).val] a + 1) * S1x4096x512.size a ≤ S8x4096x5120.size a := by
  have h : (i 0).val < 10 := (i 0).isLt
  have ht := te_le H K i
  match a with
  | ⟨0, _⟩ => show ((T pf (ix1 (i 1))).toNat + 1) * 1 ≤ 8; omega
  | ⟨1, _⟩ => show (0 + 1) * 4096 ≤ 4096; omega
  | ⟨2, _⟩ => show ((i 0).val + 1) * 512 ≤ 5120; omega

theorem ok : ok0 pf := by
  refine ⟨fun i => ⟨?_, .inr (Affine.block_words_dvd (of_decide_eq_true rfl) (by decide))⟩, fun i => ⟨?_, .inl rfl⟩, fun i => ⟨?_, .inl rfl⟩⟩
  · intro a
    have h : (i 1).val < 72 := (i 1).isLt
    rw [tr0 H K]
    match a with
    | ⟨0, _⟩ => show (min (i 1).val (live f - 1) + 1) * 512 ≤ 36864; omega
    | ⟨1, _⟩ => show (0 + 1) * 4096 ≤ 4096; omega
  · intro a
    rw [tr1]
    exact fits1 H K i a
  · intro a
    rw [tr2]
    exact fits1 H K i a

end

/-! ## The frames -/

variable (m : (ℓ : Loc nD τ sig) → Buf (Elt F) ℓ)

/-- The tables' contents when the region is entered. -/
def tbl : pre0.Contents (Elt F) := fun k => V m 0 (pre0.ref k)

theorem tab {f : ℕ → ℕ} (H : Fit (m ((0 : Dev nD), main_arg1)) f) : Tab f (tbl m) := by
  refine ⟨fun i => ?_, fun r => ?_⟩
  · exact (congrFun (V_v4 m 0) i).trans (nvX_word H i)
  · obtain ⟨start, e⟩ := V_v29 m 0
    obtain ⟨n, hn, en, eg⟩ := teX_word H start r
    exact ⟨n, hn, (congrFun e (ix1 r)).trans en, eg⟩

abbrev adm {f : ℕ → ℕ} (H : Fit (m ((0 : Dev nD), main_arg1)) f) : (pcfg0 (F := F)).Adm := ⟨tbl m, ok H (tab m H)⟩

theorem adm_pf {f : ℕ → ℕ} (H : Fit (m ((0 : Dev nD), main_arg1)) f) (c : Dev nD) (k : Fin 2) : V m c (pre0.ref k) = (adm m H).1 k := by
  have : c = 0 := Subsingleton.elim (α := Fin 1) _ _
  subst this
  rfl

/-- The frame at any float values. -/
theorem frame_fits (ρ : Dev nD → PrngReg) (hpre : ∀ c : Dev nD, Cert.Pre_groups_fit.fn (F := F) (m ((c : Thread nD τ).loc main_arg0)) (m ((c : Thread nD τ).loc main_arg1))
      (m ((c : Thread nD τ).loc main_arg2)) (m ((c : Thread nD τ).loc main_arg3)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  obtain ⟨f, H⟩ := fit_of_pre _ _ _ _ (hpre 0)
  exact frame m ρ (adm m H) (adm_pf m H)

end Cert.Kernel9Ideal.Hand

namespace Cert.Moe

open Idealize.ShloMosaic Idealize.SL.Sem

theorem frame_ideal : Cert.quiescent_Kernel9Ideal := fun m ρ hpre => Cert.Kernel9Ideal.Hand.frame_fits (F := Ideal) m ρ hpre

theorem frame_kernel : Cert.quiescent_Kernel9 := fun m ρ hpre => by
  have h := Cert.Kernel9Ideal.Hand.frame_fits (F := Bits) m ρ hpre
  rw [← defs_eq, ← main_eq] at h
  exact h

end Cert.Moe

end
-- ==== Proof.Moe.Ref.lean ====
/- The grouped call's reference at an index: of the eight masked products the one of the row's group is left, and past the
   last group's rows none. -/
module

public import proofs.«01_k».proof.Proof.Moe.Tables
public import proofs.«01_k».proof.Proof.Up
public import proofs.«01_k».proof.Proof.Gen.Reference9Ideal.Read

@[expose] public section

set_option maxRecDepth 16384

noncomputable section

namespace Cert.Moe

open Idealize.ShloMosaic Idealize.ShloMosaic.TcCoe Idealize.SL.Sem
open Idealize.ShloMosaic.ValueIdx (ix1 ix2 ix3 eq_ix1 eq_ix2)
open Cert.Plain Cert.Reference9Ideal Cert.Reference9Ideal.Gen Cert.Reference9Ideal.Read
open Cert.Kernel2Ideal.Hand (gated)

section
variable {x1 : IVec S8 32} {f : ℕ → ℕ} (H : Fit x1 f)
include H

omit H in
theorem le_en : ∀ j, f j ≤ en f j
  | 0 => (en_zero (f := f)).symm ▸ le_rfl
  | j + 1 => by rw [en_succ]; omega

theorem ends_word (e : Fin 8) : val_main_v0 (F := Ideal) x1 (ix1 e) = BitVec.ofNat 32 (en f e.val) := sums_word H e

theorem starts_word (e : Fin 8) : val_main_v3 (F := Ideal) x1 (ix1 e) = BitVec.ofNat 32 (en f e.val - f e.val) := by
  have hle := le_en (f := f) e.val
  have hen := en_le H e.val
  have he := e.isLt
  show val_main_v0 (F := Ideal) x1 (ix1 e) - x1 (ix1 e) = _
  rw [ends_word H, H.word]
  apply BitVec.eq_of_toNat_eq
  simp
  omega

/-- Row `p` is in group `e`. -/
theorem mask_iff (e : Fin 8) (p : Fin 36864) :
    val_main_v13 (F := Ideal) x1 (ix2 e p) = 1#1 ↔ en f e.val - f e.val ≤ p.val ∧ p.val < en f e.val := by
  have hle := le_en (f := f) e.val
  have hen := en_le H e.val
  have he := e.isLt
  have hp := p.isLt
  have e7 : val_main_v7 (F := Ideal) x1 (ix2 e p) = BitVec.ofBool (decide ((BitVec.ofNat 32 (en f e.val - f e.val)).toInt ≤ (BitVec.ofNat 32 p.val).toInt)) := by
    rw [val_main_v7_apply, val_main_v6_apply, val_main_v4_apply, ← starts_word H e, val_main_v5_apply, val_main_v2_apply]
    rw [show idx_main_v4 (idx_main_v6 (ix2 e p)) = ix1 e from eq_ix1 _]
    rfl
  have e12 : val_main_v12 (F := Ideal) x1 (ix2 e p) = BitVec.ofBool (decide ((BitVec.ofNat 32 p.val).toInt < (BitVec.ofNat 32 (en f e.val)).toInt)) := by
    rw [val_main_v12_apply, val_main_v11_apply, val_main_v9_apply, ← ends_word H e, val_main_v10_apply, val_main_v8_apply]
    rw [show idx_main_v9 (idx_main_v11 (ix2 e p)) = ix1 e from eq_ix1 _]
    rfl
  rw [val_main_v13_apply, e7, e12, WordCmp.toInt_ofNat_of_lt (by omega), WordCmp.toInt_ofNat_of_lt (by omega), WordCmp.toInt_ofNat_of_lt (by omega)]
  by_cases ha : en f e.val - f e.val ≤ p.val <;> by_cases hb : p.val < en f e.val <;> simp [ha, hb, IntOp.andi]

end

/-- Row `z 0` of `x` times column `z 1` of group `e`'s weights. -/
def prod (x : S36864x4096.Idx → EReal) (w : S8x4096x5120.Idx → EReal) (e : Fin 8) (z : S36864x5120.Idx) : EReal :=
  ∑ k : Fin 4096, x (ix2 (z 0) k) * w (ix3 e k (z 1))

theorem zero_bits : (val_main_cst (F := Ideal)) (Shape.Idx.first h_S_) = (0 : EReal) := Ideal.ofBits_zero_f32

theorem else_zero (i : S8x36864x5120.Idx) : val_main_call1_v2 (F := Ideal) i = (0 : EReal) := by
  rw [val_main_call1_v2_apply, val_main_call1_v0_apply, val_main_c_apply]
  show (((0#32 : BitVec 32).toInt : ℝ) : EReal) = 0
  simp

theorem prod_eq (x : S36864x4096.Idx → EReal) (w : S8x4096x5120.Idx → EReal) (e : Fin 8) (z : S36864x5120.Idx) :
    val_main_v16 (F := Ideal) x w (idx_main_v18 z e) = prod x w e z := by
  rw [val_main_v16_apply, val_main_v15_apply]
  refine Finset.sum_congr rfl fun k _ => (mul_comm _ _).trans (congrArg₂ (· * ·) (congrArg x ?_) (congrArg w ?_))
  · funext a
    apply Fin.ext
    match a with
    | ⟨0, _⟩ => rfl
    | ⟨1, _⟩ => rfl
  · funext a
    apply Fin.ext
    match a with
    | ⟨0, _⟩ => rfl
    | ⟨1, _⟩ => rfl
    | ⟨2, _⟩ => rfl

theorem term_eq (x : S36864x4096.Idx → EReal) (x1 : IVec S8 32) (w : S8x4096x5120.Idx → EReal) (e : Fin 8) (z : S36864x5120.Idx) :
    val_main_v17 (F := Ideal) x x1 w (idx_main_v18 z e) = if val_main_v13 (F := Ideal) x1 (ix2 e (z 0)) = 1#1 then prod x w e z else 0 := by
  rw [val_main_v17_apply, prod_eq, else_zero, val_main_call1_v1_apply, val_main_v14_apply]
  rw [show idx_main_v14 (idx_main_call1_v1 (idx_main_v18 z e)) = ix2 e (z 0) from eq_ix2 _]
  rfl

section
variable {x1 : IVec S8 32} {f : ℕ → ℕ} (H : Fit x1 f) (x : S36864x4096.Idx → EReal) (w : S8x4096x5120.Idx → EReal) (z : S36864x5120.Idx)
include H

theorem sum_live (h : (z 0).val / 512 < live f) (e : Fin 8) (he : e.val = group f ((z 0).val / 512)) :
    val_main_v18 (F := Ideal) x x1 w z = prod x w e z := by
  rw [val_main_v18_apply, zero_bits, zero_add, Finset.sum_eq_single e]
  · rw [term_eq, if_pos ((mask_iff H e (z 0)).mpr ((mem_group H e.isLt).mpr ⟨h, he⟩))]
  · intro e' _ hne
    rw [term_eq, if_neg fun hm => hne (Fin.ext ((((mem_group H e'.isLt).mp ((mask_iff H e' (z 0)).mp hm)).2).trans he.symm))]
  · intro hn; exact absurd (Finset.mem_univ _) hn

theorem sum_dead (h : ¬ (z 0).val / 512 < live f) : val_main_v18 (F := Ideal) x x1 w z = 0 := by
  rw [val_main_v18_apply, zero_bits, zero_add]
  refine Finset.sum_eq_zero fun e _ => ?_
  rw [term_eq, if_neg fun hm => h ((mem_group H e.isLt).mp ((mask_iff H e (z 0)).mp hm)).1]

end

theorem mask_again (x1 : IVec S8 32) : val_main_v33 (F := Ideal) x1 = val_main_v13 (F := Ideal) x1 := rfl
theorem again (x : S36864x4096.Idx → EReal) (x1 : IVec S8 32) (w : S8x4096x5120.Idx → EReal) :
    val_main_v38 (F := Ideal) x x1 w = val_main_v18 (F := Ideal) x x1 w := by
  unfold val_main_v38 val_main_v18 val_main_v37 val_main_v17 val_main_call4_v1 val_main_call1_v1 val_main_v34 val_main_v14
  rw [mask_again]
  rfl

/-- The reference at an index. -/
theorem ref_apply (x : S36864x4096.Idx → EReal) (x1 : IVec S8 32) (w1 w3 : S8x4096x5120.Idx → EReal) (z : S36864x5120.Idx) :
    val_main_v40 (F := Ideal) x x1 w1 w3 z = gated (val_main_v18 (F := Ideal) x x1 w1 z) (val_main_v18 (F := Ideal) x x1 w3 z) := by
  rw [← again x x1 w3]
  show val_main_v39 (F := Ideal) x x1 w1 w3 z = _
  unfold val_main_v39
  show val_main_v19 (F := Ideal) x x1 w1 z * val_main_v38 (F := Ideal) x x1 w3 z = _
  rw [val_main_v19_apply, val_main_call2_v5_apply, val_main_call2_v3_apply,
    val_main_call2_v4_apply, val_main_call2_v2_apply, val_main_call2_cst_apply, val_main_call2_cst_0_apply, val_main_call2_v1_apply, val_main_call2_v0_apply]
  generalize val_main_v18 (F := Ideal) x x1 w1 z = y
  generalize val_main_v38 (F := Ideal) x x1 w3 z = y'
  unfold gated Ideal.logistic
  rw [← one_bits]
  rfl

theorem gated_zero (b : EReal) : gated 0 b = 0 := by unfold gated; simp

end Cert.Moe

end
-- ==== Proof.Moe.Value.lean ====
/- The grouped call's result: every block of it is the gated product of its rows with their group's weights, zeros past the last
   group's rows, over the extended reals, and the blocks cover the result. -/
module

public import proofs.«01_k».proof.Proof.Moe.Adm
public import proofs.«01_k».proof.Proof.Moe.Ref
public import proofs.«01_k».proof.Proof.Gen.Reference9Ideal.Run
public import Idealize.ShloMosaic.Lib.Quiescent
public import Idealize.ShloMosaic.Lib.Pipeline.Covers

@[expose] public section

set_option maxRecDepth 16384

noncomputable section

namespace Cert.Kernel9Ideal.Hand

open Idealize.ShloMosaic Idealize.ShloMosaic.TcCoe Idealize.ShloMosaic.Tactic Idealize.SL.Sem
open Idealize.ShloMosaic.ValueIdx (ix1 ix2 ix3 eq_ix1 eq_ix2)
open Cert.Kernel9Ideal Cert.Kernel9Ideal.Gen Cert.Moe Cert.Plain
open Cert.Reference9Ideal.Read (val_main_v40 val_main_v40_eq)
open Cert.Kernel2Ideal.Hand (gated)

/-- A block of weights without its first axis. -/
theorem weights_apply (b : Vec Ideal S1x4096x512 .f32) (k : Fin 4096) (u : Fin 512) :
    (k0_pay1 b : S4096x512.Idx → EReal) (ix2 k u) = (b : S1x4096x512.Idx → EReal) (ix3 0 k u) := by
  unfold k0_pay1
  simp only [shapeCast_self]
  refine (shapeCast_apply b _ (ix2 k u) (ix3 0 k u) ?_)
  rw [Shape.rowMajor_val_three, Shape.rowMajor_val_two]
  show (0 * 4096 + k.val) * 512 + u.val = k.val * 512 + u.val
  omega

theorem tile_apply (x : Vec Ideal S512x4096 .bf16) (b1 b2 : Vec Ideal S1x4096x512 .f32) (r u : Fin 512) :
    (k0_pay3 x (k0_pay1 b1) (k0_pay2 b2) : S512x512.Idx → EReal) (ix2 r u)
      = gated (∑ k : Fin 4096, (x (ix2 r k) : EReal) * (b1 : S1x4096x512.Idx → EReal) (ix3 0 k u))
          (∑ k : Fin 4096, (x (ix2 r k) : EReal) * (b2 : S1x4096x512.Idx → EReal) (ix3 0 k u)) := by
  have e : ∀ b : Vec Ideal S1x4096x512 .f32, (∑ k : Fin 4096, (x (ix2 r k) : EReal) * (b : S1x4096x512.Idx → EReal) (ix3 0 k u))
      = ∑ k : Fin 4096, (x (ix2 r k) : EReal) * (k0_pay1 b : S4096x512.Idx → EReal) (ix2 k u) := fun b =>
    Finset.sum_congr rfl fun k _ => congrArg _ (weights_apply b k u).symm
  rw [e b1, e b2, show k0_pay2 b2 = k0_pay1 b2 from rfl]
  generalize k0_pay1 b1 = w1
  generalize k0_pay1 b2 = w3
  rw [← dot_apply x w1 r u, ← dot_apply x w3 r u]
  unfold k0_pay3
  simp only [shapeCast_self]
  rfl

theorem zero_tile (y : S512x512.Idx) : (k0_pay4 (F := Ideal) : S512x512.Idx → EReal) y = 0 := by
  show Ideal.ofBits .bf16 0x0000#16 = 0
  simp [Ideal.ofBits, Ideal.ieee]

variable (m : (ℓ : Loc nD τ sig) → Buf (Elt Ideal) ℓ) (a : (pcfg0 (F := Ideal)).Adm)

/-- The windows' block indices at a point. -/
def J0 (t : Fin (cA a).N) : Fin 2 → ℕ := ((cA a).win 0).index t
def J1 (t : Fin (cA a).N) : Fin 3 → ℕ := ((cA a).win 1).index t
def J2 (t : Fin (cA a).N) : Fin 3 → ℕ := ((cA a).win 2).index t
def J3 (t : Fin (cA a).N) : Fin 2 → ℕ := ((cA a).win 3).index t

theorem index0 (t : Fin (cA a).N) :
    ((cA a).win 0).index t = cc0_transform_0 inb_S1_S1_0 numel1_S1 a.1 (grid0.coords t) := id rfl
theorem index3 (t : Fin (cA a).N) : ((cA a).win 3).index t = ![(grid0.coords t 1).val, (grid0.coords t 0).val] := by
  have h0 : (grid0.coords t 0).val < 10 := (grid0.coords t 0).isLt
  have h1 : (grid0.coords t 1).val < 72 := (grid0.coords t 1).isLt
  show ![(BitVec.ofNat 32 (grid0.coords t 1).val).toNat, (BitVec.ofNat 32 (grid0.coords t 0).val).toNat] = _
  rw [BitVec.toNat_ofNat, BitVec.toNat_ofNat, Nat.mod_eq_of_lt (by omega), Nat.mod_eq_of_lt (by omega)]

section
variable {f : ℕ → ℕ} {s : IVec S8 32} (H : Fit s f) (K : Tab f a.1)
include H K

theorem iblk0_apply (c : Dev nD) (t : Fin (cA a).N) (r : Fin 512) (k : Fin 4096) (z : S36864x4096.Idx)
    (h0 : (z 0).val = 512 * min (grid0.coords t 1).val (live f - 1) + r.val) (h1 : (z 1).val = k.val) :
    (iblk m a c 0 t : S512x4096.Idx → EReal) (ix2 r k) = (V m c main_v30 : S36864x4096.Idx → EReal) z := by
  have e : J0 a t = _ := (index0 a t).trans (tr0 H K (grid0.coords t))
  unfold iblk
  refine (View.read_apply _ _).trans ?_
  show V m c main_v30 _ = V m c main_v30 _
  congr 1
  funext b
  apply Fin.ext
  match b with
  | ⟨0, _⟩ => show J0 a t 0 * 512 + 1 * r.val = (z 0).val; rw [e, h0]; show min _ _ * 512 + 1 * r.val = _; omega
  | ⟨1, _⟩ => show J0 a t 1 * 4096 + 1 * k.val = (z 1).val; rw [e, h1]; show 0 * 4096 + 1 * k.val = _; omega

omit H K in
theorem iblk1_apply (c : Dev nD) (t : Fin (cA a).N) (k : Fin 4096) (u : Fin 512) (z : S8x4096x5120.Idx)
    (h0 : (z 0).val = (T a.1 (ix1 (grid0.coords t 1))).toNat) (h1 : (z 1).val = k.val) (h2 : (z 2).val = 512 * (grid0.coords t 0).val + u.val) :
    (iblk m a c 1 t : S1x4096x512.Idx → EReal) (ix3 0 k u) = (V m c main_arg2 : S8x4096x5120.Idx → EReal) z := by
  have e : J1 a t = _ := (index1 a t).trans (tr1 (grid0.coords t))
  unfold iblk
  refine (View.read_apply _ _).trans ?_
  show V m c main_arg2 _ = V m c main_arg2 _
  congr 1
  funext b
  apply Fin.ext
  match b with
  | ⟨0, _⟩ => show J1 a t 0 * 1 + 1 * 0 = (z 0).val; rw [e, h0]; show BitVec.toNat _ * 1 + 1 * 0 = _; omega
  | ⟨1, _⟩ => show J1 a t 1 * 4096 + 1 * k.val = (z 1).val; rw [e, h1]; show 0 * 4096 + 1 * k.val = _; omega
  | ⟨2, _⟩ => show J1 a t 2 * 512 + 1 * u.val = (z 2).val; rw [e, h2]; show (grid0.coords t 0).val * 512 + 1 * u.val = _; omega

omit H K in
theorem iblk2_apply (c : Dev nD) (t : Fin (cA a).N) (k : Fin 4096) (u : Fin 512) (z : S8x4096x5120.Idx)
    (h0 : (z 0).val = (T a.1 (ix1 (grid0.coords t 1))).toNat) (h1 : (z 1).val = k.val) (h2 : (z 2).val = 512 * (grid0.coords t 0).val + u.val) :
    (iblk m a c 2 t : S1x4096x512.Idx → EReal) (ix3 0 k u) = (V m c main_arg3 : S8x4096x5120.Idx → EReal) z := by
  have e : J2 a t = _ := (index2 a t).trans (tr2 (grid0.coords t))
  unfold iblk
  refine (View.read_apply _ _).trans ?_
  show V m c main_arg3 _ = V m c main_arg3 _
  congr 1
  funext b
  apply Fin.ext
  match b with
  | ⟨0, _⟩ => show J2 a t 0 * 1 + 1 * 0 = (z 0).val; rw [e, h0]; show BitVec.toNat _ * 1 + 1 * 0 = _; omega
  | ⟨1, _⟩ => show J2 a t 1 * 4096 + 1 * k.val = (z 1).val; rw [e, h1]; show 0 * 4096 + 1 * k.val = _; omega
  | ⟨2, _⟩ => show J2 a t 2 * 512 + 1 * u.val = (z 2).val; rw [e, h2]; show (grid0.coords t 0).val * 512 + 1 * u.val = _; omega

theorem nv_int : (nvW (N a.1)).toInt = (live f : ℤ) := by
  have := live_le H
  rw [nvW_eq H K, WordCmp.toInt_ofNat_of_lt (by omega)]

end

/-- The reference's result of the kernel's arguments. -/
abbrev refOf (c : Dev nD) : S36864x5120.Idx → EReal :=
  val_main_v40 (F := Ideal) (m ((c : Thread nD τ).loc main_arg0)) (m ((c : Thread nD τ).loc main_arg1)) (m ((c : Thread nD τ).loc main_arg2)) (m ((c : Thread nD τ).loc main_arg3))

/-- What the body leaves at a point is the reference's block there. -/
theorem point_apply (c : Dev nD) {f : ℕ → ℕ} (H : Fit (m ((c : Thread nD τ).loc main_arg1)) f) (K : Tab f a.1) (t : Fin (cA a).N) (y : S512x512.Idx) (z : S36864x5120.Idx)
    (h0 : (z 0).val = 512 * (grid0.coords t 1).val + (y 0).val) (h1 : (z 1).val = 512 * (grid0.coords t 0).val + (y 1).val) :
    (outAt m a c t : S512x512.Idx → EReal) y = refOf m c z := by
  obtain ⟨r, u, rfl⟩ : ∃ (r : Fin 512) (u : Fin 512), y = (ix2 r u : S512x512.Idx) := ⟨y 0, y 1, eq_ix2 y⟩
  have hr : r.val < 512 := r.isLt
  replace h0 : (z 0).val = 512 * (grid0.coords t 1).val + r.val := h0
  replace h1 : (z 1).val = 512 * (grid0.coords t 0).val + u.val := h1
  have hz : (z 0).val / 512 = (grid0.coords t 1).val := by omega
  have hn := nv_int a H K
  refine Eq.trans ?_ (ref_apply _ _ _ _ z).symm
  unfold outAt outv
  by_cases hl : (grid0.coords t 1).val < live f
  · have c3 : ¬ k0_cond3 (grid0.coords t) (nvW (N a.1)) = 1#1 := by rw [cond3_iff, hn]; omega
    have c1 : k0_cond1 (grid0.coords t) (nvW (N a.1)) = 1#1 := by rw [cond1_iff, hn]; omega
    rw [if_neg c3, if_pos c1]
    have hg : group f (grid0.coords t 1).val < 8 := (group_lt H).mpr hl
    have ht := te_live H K (grid0.coords t) hl
    have e1 := sum_live H (m ((c : Thread nD τ).loc main_arg0)) (m ((c : Thread nD τ).loc main_arg2)) z (by rw [hz]; exact hl) ⟨_, hg⟩ (by rw [hz])
    have e3 := sum_live H (m ((c : Thread nD τ).loc main_arg0)) (m ((c : Thread nD τ).loc main_arg3)) z (by rw [hz]; exact hl) ⟨_, hg⟩ (by rw [hz])
    rw [e1, e3]
    refine (tile_apply _ _ _ r u).trans ?_
    unfold prod
    refine congrArg₂ gated ?_ ?_
    · refine Finset.sum_congr rfl fun k _ => congrArg₂ (· * ·) ?_ ?_
      · refine (iblk0_apply m a H K c t r k (ix2 (z 0) k) ?_ rfl).trans ?_
        · show (z 0).val = _
          rw [h0, Nat.min_eq_left (by omega)]
        · rw [V_v30]; rfl
      · refine (iblk1_apply m a c t k u (ix3 ⟨_, hg⟩ k (z 1)) ht.symm rfl h1).trans ?_
        rw [V_kept m c _ (.inr (.inr (.inl rfl)))]
    · refine Finset.sum_congr rfl fun k _ => congrArg₂ (· * ·) ?_ ?_
      · refine (iblk0_apply m a H K c t r k (ix2 (z 0) k) ?_ rfl).trans ?_
        · show (z 0).val = _
          rw [h0, Nat.min_eq_left (by omega)]
        · rw [V_v30]; rfl
      · refine (iblk2_apply m a c t k u (ix3 ⟨_, hg⟩ k (z 1)) ht.symm rfl h1).trans ?_
        rw [V_kept m c _ (.inr (.inr (.inr rfl)))]
  · have c3 : k0_cond3 (grid0.coords t) (nvW (N a.1)) = 1#1 := by rw [cond3_iff, hn]; omega
    rw [if_pos c3, sum_dead H _ _ z (by rw [hz]; exact hl), gated_zero]
    exact zero_tile _

theorem flushed_eq (c : Dev nD) {f : ℕ → ℕ} (H : Fit (m ((c : Thread nD τ).loc main_arg1)) f) (K : Tab f a.1) (t : Fin (cA a).N) :
    (dats m a 0 c).flushed 3 t = (((cA a).win 3).blk t).view.read (Elt Ideal) (refOf m c) := by
  have e : J3 a t = _ := index3 a t
  show ((cA a).win 3).cut (grid0.coords t) ((dats m a 0 c).after 3 t) = _
  rw [after3]
  funext (y : S512x512.Idx)
  refine Eq.trans ?_ (View.read_apply _ _).symm
  refine point_apply m a c H K t _ _ ?_ ?_
  · show J3 a t 0 * 512 + 1 * ((y : S512x512.Idx) 0).val = _ + ((y : S512x512.Idx) 0).val
    rw [e]; show (grid0.coords t 1).val * 512 + 1 * (y 0).val = _; omega
  · show J3 a t 1 * 512 + 1 * ((y : S512x512.Idx) 1).val = _ + ((y : S512x512.Idx) 1).val
    rw [e]; show (grid0.coords t 0).val * 512 + 1 * (y 1).val = _; omega

/-- A point that writes row `R`, column `C`. -/
def pointOf (R C : ℕ) (hR : R < 36864) (hC : C < 5120) : Fin (cA a).N := ⟨72 * (C / 512) + R / 512, lt_of_lt_of_eq (by omega) N_0.symm⟩

theorem final_o (c : Dev nD) {f : ℕ → ℕ} (H : Fit (m ((c : Thread nD τ).loc main_arg1)) f) (K : Tab f a.1) :
    (dats m a 0 c).arrAt 3 (cA a).N = refOf m c :=
  (dats m a 0 c).arrAt_eq_of_cover 3 (refOf m c) (fun t _ => flushed_eq m a c H K t) fun (i : S36864x5120.Idx) => by
    have hR : (i 0 : Nat) < 36864 := (i 0).isLt
    have hC : (i 1 : Nat) < 5120 := (i 1).isLt
    obtain ⟨t, -, hf, ht⟩ := ((cA a).win 3).exists_flush_same_index rfl (pointOf a (i 0 : Nat) (i 1 : Nat) hR hC)
    refine ⟨t, hf, ?_⟩
    have e : J3 a t = _ := ht.trans (index3 a _)
    have v0 := coord0 (pointOf a (i 0 : Nat) (i 1 : Nat) hR hC)
    have v1 := coord1 (pointOf a (i 0 : Nat) (i 1 : Nat) hR hC)
    have ev : (pointOf a (i 0 : Nat) (i 1 : Nat) hR hC).val = 72 * ((i 1 : Nat) / 512) + (i 0 : Nat) / 512 := rfl
    rw [ev] at v0 v1
    refine (Finset.ext_iff.mp (View.set_slice_whole main_v31 (((cA a).win 3).rect t)) i).mpr (Rect.mem_set_unit.mpr fun b => ?_)
    match b with
    | ⟨0, _⟩ =>
      show J3 a t 0 * 512 ≤ (i 0 : Nat) ∧ (i 0 : Nat) < J3 a t 0 * 512 + 512
      have e0 : J3 a t 0 = (grid0.coords (pointOf a (i 0 : Nat) (i 1 : Nat) hR hC) 1).val := congrFun e 0
      rw [e0, v1]; omega
    | ⟨1, _⟩ =>
      show J3 a t 1 * 512 ≤ (i 1 : Nat) ∧ (i 1 : Nat) < J3 a t 1 * 512 + 512
      have e1 : J3 a t 1 = (grid0.coords (pointOf a (i 0 : Nat) (i 1 : Nat) hR hC) 0).val := congrFun e 1
      rw [e1, v0]; omega

end Cert.Kernel9Ideal.Hand

namespace Cert.Moe

open Idealize.ShloMosaic Idealize.ShloMosaic.TcCoe

theorem quiescent_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem quiescent_ref_pre : Cert.quiescent_Reference9Ideal_pre_groups_fit := fun m ρ _ => quiescent_ref m ρ trivial

open Cert.Kernel9Ideal Cert.Kernel9Ideal.Gen Cert.Kernel9Ideal.Hand in
theorem run_value (m : (ℓ : Loc nD τ sig) → Buf (Elt Ideal) ℓ) (ρ : Dev nD → PrngReg) {f : ℕ → ℕ} (H : Fit (m ((0 : Dev nD), main_arg1)) f) :
    θ_run defs (onTc (τ := τ) (main (F := Ideal))) ⟨m, fun _ => 0, ρ⟩ fun r => ∀ c : Dev nD,
      r.2.mem ((c.tc : Thread nD τ).loc main_v31) = refOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hv : ∀ c : Dev nD, (dats m (adm m H) 0 c).arrAt 3 (cA (adm m H)).N = refOf m c := fun c => by
    obtain rfl : c = 0 := Subsingleton.elim (α := Fin 1) _ _
    exact final_o m (adm m H) 0 H (tab m H)
  have hpf := adm_pf m H
  generalize adm m H = a at hv hpf
  exact (θ_run defs _ _).mono (fun _ h c =>
    ⟨((h.1 c).1 3).trans (hv c),
      ((h.1 c).2 main_arg0 (Pipeline.mem_restRefs_of main_arg0 (by decide) arr_ne0)).trans (V_kept m c _ (.inl rfl)),
      ((h.1 c).2 main_arg1 (Pipeline.mem_restRefs_of main_arg1 (by decide) arr_ne1)).trans (V_kept m c _ (.inr (.inl rfl))),
      ((h.1 c).1 1).trans (((dats m a 0 c).arrAt_in 1 rfl _).trans (V_kept m c _ (.inr (.inr (.inl rfl))))),
      ((h.1 c).1 2).trans (((dats m a 0 c).arrAt_in 2 rfl _).trans (V_kept m c _ (.inr (.inr (.inr rfl)))))⟩) (run_main m ρ a hpf)

theorem algebraic : Cert.algebraic_Kernel9Ideal_Reference9Ideal := by
  intro m g m' g' hpre hagree
  obtain ⟨f, H⟩ := fit_of_pre _ _ _ _ (hpre 0)
  refine ⟨fun c => Cert.Kernel9Ideal.Hand.refOf m c, run_value m g H, ?_⟩
  refine (θ_run Cert.Reference9Ideal.defs _ _).mono (fun _ h c => ⟨(h c).1.trans ?_, (h c).2⟩) (Cert.Reference9Ideal.Value.run (F := Ideal) m' g')
  obtain ⟨e0, e1, e2, e3⟩ := hagree c
  rw [Cert.Reference9Ideal.Read.val_main_v40_eq, e0, e1, e2, e3]

end Cert.Moe

end
-- ==== Proof.lean ====
module

public import proofs.«01_k».proof.Defs
public import proofs.«01_k».proof.Proof.K.Run
public import proofs.«01_k».proof.Proof.KI.Run
public import proofs.«01_k».proof.Proof.Alg
public import proofs.«01_k».proof.Proof.Gen.ReferenceIdeal.Run
public import proofs.«01_k».proof.Proof.Gen.Pre_scores_finite
public import proofs.«01_k».proof.Proof.Gen.Kernel2.Frame
public import proofs.«01_k».proof.Proof.Up
public import proofs.«01_k».proof.Proof.Gen.Kernel3.Frame
public import proofs.«01_k».proof.Proof.Down
public import proofs.«01_k».proof.Proof.Gen.Kernel4.Frame
public import proofs.«01_k».proof.Proof.Out1
public import proofs.«01_k».proof.Proof.Gen.Kernel5.Frame
public import proofs.«01_k».proof.Proof.Out0
public import proofs.«01_k».proof.Proof.Gen.Kernel6.Frame
public import proofs.«01_k».proof.Proof.Values
public import proofs.«01_k».proof.Proof.Gen.Kernel7.Frame
public import proofs.«01_k».proof.Proof.RetQk
public import proofs.«01_k».proof.Proof.Gen.Kernel8.Frame
public import proofs.«01_k».proof.Proof.Kv
public import proofs.«01_k».proof.Proof.Gen.Kernel9.Launch
public import proofs.«01_k».proof.Proof.Gen.Kernel9Ideal.Skeleton
public import proofs.«01_k».proof.Proof.Gen.Kernel9Ideal.Launch
public import proofs.«01_k».proof.Proof.Gen.Reference9Ideal.Read
public import proofs.«01_k».proof.Proof.Gen.Pre_groups_fit
public import proofs.«01_k».proof.Proof.Moe.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_scores_finite.Gen.facts, Cert.Pre_groups_fit.Gen.facts,
    fun m ρ _ => Cert.Kernel.Hand.frame m ρ, fun m ρ _ => Cert.KernelIdeal.Hand.frame m ρ,
    fun m ρ _ => Cert.KernelIdeal.Hand.frame m ρ,
    Cert.Alg.quiescent_ref, Cert.Alg.quiescent_ref_pre,
    fun m ρ _ => Cert.Kernel2.Gen.frame m ρ, fun m ρ _ => Cert.Kernel2Ideal.Gen.frame m ρ, Cert.Alg2.quiescent_ref,
    fun m ρ _ => Cert.Kernel3.Gen.frame m ρ, fun m ρ _ => Cert.Kernel3Ideal.Gen.frame m ρ, Cert.Alg3.quiescent_ref,
    fun m ρ _ => Cert.Kernel4.Gen.frame m ρ, fun m ρ _ => Cert.Kernel4Ideal.Gen.frame m ρ, Cert.Alg4.quiescent_ref,
    fun m ρ _ => Cert.Kernel5.Gen.frame m ρ, fun m ρ _ => Cert.Kernel5Ideal.Gen.frame m ρ, Cert.Alg5.quiescent_ref,
    fun m ρ _ => Cert.Kernel6.Gen.frame m ρ, fun m ρ _ => Cert.Kernel6Ideal.Gen.frame m ρ, Cert.Alg6.quiescent_ref,
    fun m ρ _ => Cert.Kernel7.Gen.frame m ρ, fun m ρ _ => Cert.Kernel7Ideal.Gen.frame m ρ, Cert.Alg7.quiescent_ref,
    fun m ρ _ => Cert.Kernel8.Gen.frame m ρ, fun m ρ _ => Cert.Kernel8Ideal.Gen.frame m ρ, Cert.Alg8.quiescent_ref,
    Cert.Moe.frame_kernel, Cert.Moe.frame_ideal, Cert.Moe.quiescent_ref, Cert.Moe.quiescent_ref_pre,
    IdealRules.named_const.statement Cert.KernelIdeal.κ "masked" .f32 0xF149F2CA#32 ⊥ rfl,
    Cert.Alg.algebraic, trivial, Cert.Alg2.algebraic, trivial, Cert.Alg3.algebraic,
    trivial, Cert.Alg4.algebraic, trivial, Cert.Alg5.algebraic, trivial, Cert.Alg6.algebraic,
    trivial, Cert.Alg7.algebraic, trivial, Cert.Alg8.algebraic,
    trivial, Cert.Moe.algebraic⟩

end Cert.Proof

end
